-- ==== Defs.lean ====
def Pre_OutK (m : (ℓ : Loc Cert.OutK.nD Cert.OutK.τ Cert.OutK.sig) → Buf (Elt Bits) ℓ) : Prop :=
  True

def Pre_OutKIdeal (m : (ℓ : Loc Cert.OutKIdeal.nD Cert.OutKIdeal.τ Cert.OutKIdeal.sig) → Buf (Elt Ideal) ℓ) : Prop :=
  True

def Pre_OutRIdeal (m : (ℓ : Loc Cert.OutRIdeal.nD Cert.OutRIdeal.τ Cert.OutRIdeal.sig) → Buf (Elt Ideal) ℓ) : Prop :=
  True

def Pre_InK (m : (ℓ : Loc Cert.InK.nD Cert.InK.τ Cert.InK.sig) → Buf (Elt Bits) ℓ) : Prop :=
  True

def Pre_InKIdeal (m : (ℓ : Loc Cert.InKIdeal.nD Cert.InKIdeal.τ Cert.InKIdeal.sig) → Buf (Elt Ideal) ℓ) : Prop :=
  True

def Pre_InRIdeal (m : (ℓ : Loc Cert.InRIdeal.nD Cert.InRIdeal.τ Cert.InRIdeal.sig) → Buf (Elt Ideal) ℓ) : Prop :=
  True

def Pre_WnK (m : (ℓ : Loc Cert.WnK.nD Cert.WnK.τ Cert.WnK.sig) → Buf (Elt Bits) ℓ) : Prop :=
  True

def Pre_WnKIdeal (m : (ℓ : Loc Cert.WnKIdeal.nD Cert.WnKIdeal.τ Cert.WnKIdeal.sig) → Buf (Elt Ideal) ℓ) : Prop :=
  True

def Pre_WnRIdeal (m : (ℓ : Loc Cert.WnRIdeal.nD Cert.WnRIdeal.τ Cert.WnRIdeal.sig) → Buf (Elt Ideal) ℓ) : Prop :=
  True

def Pre_WtK (m : (ℓ : Loc Cert.WtK.nD Cert.WtK.τ Cert.WtK.sig) → Buf (Elt Bits) ℓ) : Prop :=
  True

def Pre_WtKIdeal (m : (ℓ : Loc Cert.WtKIdeal.nD Cert.WtKIdeal.τ Cert.WtKIdeal.sig) → Buf (Elt Ideal) ℓ) : Prop :=
  True

def Pre_WtRIdeal (m : (ℓ : Loc Cert.WtRIdeal.nD Cert.WtRIdeal.τ Cert.WtRIdeal.sig) → Buf (Elt Ideal) ℓ) : Prop :=
  True

def Pre_AdK (m : (ℓ : Loc Cert.AdK.nD Cert.AdK.τ Cert.AdK.sig) → Buf (Elt Bits) ℓ) : Prop :=
  True

def Pre_AdKIdeal (m : (ℓ : Loc Cert.AdKIdeal.nD Cert.AdKIdeal.τ Cert.AdKIdeal.sig) → Buf (Elt Ideal) ℓ) : Prop :=
  True

def Pre_AdKIdeal_finite_vectors_and_weights [hPre_finite_vectors_and_weights : Cert.Pre_finite_vectors_and_weights.Facts] (m : (ℓ : Loc Cert.AdKIdeal.nD Cert.AdKIdeal.τ Cert.AdKIdeal.sig) → Buf (Elt Ideal) ℓ) : Prop :=
  ∀ c : Dev Cert.AdKIdeal.nD,
    (Cert.Pre_finite_vectors_and_weights.fn (F := Ideal) (m ((c.tc : Thread Cert.AdKIdeal.nD Cert.AdKIdeal.τ).loc Cert.AdKIdeal.main_arg0)) (m ((c.tc : Thread Cert.AdKIdeal.nD Cert.AdKIdeal.τ).loc Cert.AdKIdeal.main_arg1)) (m ((c.tc : Thread Cert.AdKIdeal.nD Cert.AdKIdeal.τ).loc Cert.AdKIdeal.main_arg2)) (m ((c.tc : Thread Cert.AdKIdeal.nD Cert.AdKIdeal.τ).loc Cert.AdKIdeal.main_arg3))) = (fun _ => 1#1)

def Pre_AdRIdeal (m : (ℓ : Loc Cert.AdRIdeal.nD Cert.AdRIdeal.τ Cert.AdRIdeal.sig) → Buf (Elt Ideal) ℓ) : Prop :=
  True

def Pre_AdRIdeal_finite_vectors_and_weights [hPre_finite_vectors_and_weights : Cert.Pre_finite_vectors_and_weights.Facts] (m : (ℓ : Loc Cert.AdRIdeal.nD Cert.AdRIdeal.τ Cert.AdRIdeal.sig) → Buf (Elt Ideal) ℓ) : Prop :=
  ∀ c : Dev Cert.AdRIdeal.nD,
    (Cert.Pre_finite_vectors_and_weights.fn (F := Ideal) (m ((c.tc : Thread Cert.AdRIdeal.nD Cert.AdRIdeal.τ).loc Cert.AdRIdeal.main_arg0)) (m ((c.tc : Thread Cert.AdRIdeal.nD Cert.AdRIdeal.τ).loc Cert.AdRIdeal.main_arg1)) (m ((c.tc : Thread Cert.AdRIdeal.nD Cert.AdRIdeal.τ).loc Cert.AdRIdeal.main_arg2)) (m ((c.tc : Thread Cert.AdRIdeal.nD Cert.AdRIdeal.τ).loc Cert.AdRIdeal.main_arg3))) = (fun _ => 1#1)

def Pre_CxK (m : (ℓ : Loc Cert.CxK.nD Cert.CxK.τ Cert.CxK.sig) → Buf (Elt Bits) ℓ) : Prop :=
  True

def Pre_CxKIdeal (m : (ℓ : Loc Cert.CxKIdeal.nD Cert.CxKIdeal.τ Cert.CxKIdeal.sig) → Buf (Elt Ideal) ℓ) : Prop :=
  True

def Pre_CxKIdeal_gates_above_minus_infinity [hPre_gates_above_minus_infinity : Cert.Pre_gates_above_minus_infinity.Facts] (m : (ℓ : Loc Cert.CxKIdeal.nD Cert.CxKIdeal.τ Cert.CxKIdeal.sig) → Buf (Elt Ideal) ℓ) : Prop :=
  ∀ c : Dev Cert.CxKIdeal.nD,
    (Cert.Pre_gates_above_minus_infinity.fn (F := Ideal) (m ((c.tc : Thread Cert.CxKIdeal.nD Cert.CxKIdeal.τ).loc Cert.CxKIdeal.main_arg0)) (m ((c.tc : Thread Cert.CxKIdeal.nD Cert.CxKIdeal.τ).loc Cert.CxKIdeal.main_arg1)) (m ((c.tc : Thread Cert.CxKIdeal.nD Cert.CxKIdeal.τ).loc Cert.CxKIdeal.main_arg2)) (m ((c.tc : Thread Cert.CxKIdeal.nD Cert.CxKIdeal.τ).loc Cert.CxKIdeal.main_arg3)) (m ((c.tc : Thread Cert.CxKIdeal.nD Cert.CxKIdeal.τ).loc Cert.CxKIdeal.main_arg4)) (m ((c.tc : Thread Cert.CxKIdeal.nD Cert.CxKIdeal.τ).loc Cert.CxKIdeal.main_arg5)) (m ((c.tc : Thread Cert.CxKIdeal.nD Cert.CxKIdeal.τ).loc Cert.CxKIdeal.main_arg6))) = (fun _ => 1#1)

def Pre_CxRIdeal (m : (ℓ : Loc Cert.CxRIdeal.nD Cert.CxRIdeal.τ Cert.CxRIdeal.sig) → Buf (Elt Ideal) ℓ) : Prop :=
  True

def Pre_CxRIdeal_gates_above_minus_infinity [hPre_gates_above_minus_infinity : Cert.Pre_gates_above_minus_infinity.Facts] (m : (ℓ : Loc Cert.CxRIdeal.nD Cert.CxRIdeal.τ Cert.CxRIdeal.sig) → Buf (Elt Ideal) ℓ) : Prop :=
  ∀ c : Dev Cert.CxRIdeal.nD,
    (Cert.Pre_gates_above_minus_infinity.fn (F := Ideal) (m ((c.tc : Thread Cert.CxRIdeal.nD Cert.CxRIdeal.τ).loc Cert.CxRIdeal.main_arg0)) (m ((c.tc : Thread Cert.CxRIdeal.nD Cert.CxRIdeal.τ).loc Cert.CxRIdeal.main_arg1)) (m ((c.tc : Thread Cert.CxRIdeal.nD Cert.CxRIdeal.τ).loc Cert.CxRIdeal.main_arg2)) (m ((c.tc : Thread Cert.CxRIdeal.nD Cert.CxRIdeal.τ).loc Cert.CxRIdeal.main_arg3)) (m ((c.tc : Thread Cert.CxRIdeal.nD Cert.CxRIdeal.τ).loc Cert.CxRIdeal.main_arg4)) (m ((c.tc : Thread Cert.CxRIdeal.nD Cert.CxRIdeal.τ).loc Cert.CxRIdeal.main_arg5)) (m ((c.tc : Thread Cert.CxRIdeal.nD Cert.CxRIdeal.τ).loc Cert.CxRIdeal.main_arg6))) = (fun _ => 1#1)

def quiescent_OutK [hOutK : Cert.OutK.Facts] : Prop :=
  ∀ (m : (ℓ : Loc Cert.OutK.nD Cert.OutK.τ Cert.OutK.sig) → Buf (Elt Bits) ℓ) (g : Dev Cert.OutK.nD → PrngReg), Pre_OutK m →
    θ_run (Cert.OutK.defs (F := Bits)) (onTc (τ := Cert.OutK.τ) (Cert.OutK.main (F := Bits))) ⟨m, fun _ => 0, g⟩ (fun r => (∀ c : Dev Cert.OutK.nD,
      r.2.mem ((c.tc : Thread Cert.OutK.nD Cert.OutK.τ).loc Cert.OutK.main_arg0) = m ((c.tc : Thread Cert.OutK.nD Cert.OutK.τ).loc Cert.OutK.main_arg0)
      ∧ r.2.mem ((c.tc : Thread Cert.OutK.nD Cert.OutK.τ).loc Cert.OutK.main_arg1) = m ((c.tc : Thread Cert.OutK.nD Cert.OutK.τ).loc Cert.OutK.main_arg1)
      ∧ r.2.mem ((c.tc : Thread Cert.OutK.nD Cert.OutK.τ).loc Cert.OutK.main_arg2) = m ((c.tc : Thread Cert.OutK.nD Cert.OutK.τ).loc Cert.OutK.main_arg2)
      ∧ r.2.mem ((c.tc : Thread Cert.OutK.nD Cert.OutK.τ).loc Cert.OutK.main_arg3) = m ((c.tc : Thread Cert.OutK.nD Cert.OutK.τ).loc Cert.OutK.main_arg3)
      ∧ r.2.mem ((c.tc : Thread Cert.OutK.nD Cert.OutK.τ).loc Cert.OutK.main_arg4) = m ((c.tc : Thread Cert.OutK.nD Cert.OutK.τ).loc Cert.OutK.main_arg4)
      ∧ r.2.mem ((c.tc : Thread Cert.OutK.nD Cert.OutK.τ).loc Cert.OutK.main_arg5) = m ((c.tc : Thread Cert.OutK.nD Cert.OutK.τ).loc Cert.OutK.main_arg5)
      ∧ r.2.mem ((c.tc : Thread Cert.OutK.nD Cert.OutK.τ).loc Cert.OutK.main_arg6) = m ((c.tc : Thread Cert.OutK.nD Cert.OutK.τ).loc Cert.OutK.main_arg6)
      ∧ r.2.mem ((c.tc : Thread Cert.OutK.nD Cert.OutK.τ).loc Cert.OutK.main_arg7) = m ((c.tc : Thread Cert.OutK.nD Cert.OutK.τ).loc Cert.OutK.main_arg7)
      ∧ r.2.mem ((c.tc : Thread Cert.OutK.nD Cert.OutK.τ).loc Cert.OutK.main_arg8) = m ((c.tc : Thread Cert.OutK.nD Cert.OutK.τ).loc Cert.OutK.main_arg8)
      ∧ r.2.mem ((c.tc : Thread Cert.OutK.nD Cert.OutK.τ).loc Cert.OutK.main_arg9) = m ((c.tc : Thread Cert.OutK.nD Cert.OutK.τ).loc Cert.OutK.main_arg9)
      ∧ r.2.mem ((c.tc : Thread Cert.OutK.nD Cert.OutK.τ).loc Cert.OutK.main_arg10) = m ((c.tc : Thread Cert.OutK.nD Cert.OutK.τ).loc Cert.OutK.main_arg10))
      ∧ r.2.sem = fun _ => 0)

def quiescent_OutKIdeal [hOutKIdeal : Cert.OutKIdeal.Facts] : Prop :=
  ∀ (m : (ℓ : Loc Cert.OutKIdeal.nD Cert.OutKIdeal.τ Cert.OutKIdeal.sig) → Buf (Elt Ideal) ℓ) (g : Dev Cert.OutKIdeal.nD → PrngReg), Pre_OutKIdeal m →
    θ_run (Cert.OutKIdeal.defs (F := Ideal)) (onTc (τ := Cert.OutKIdeal.τ) (Cert.OutKIdeal.main (F := Ideal))) ⟨m, fun _ => 0, g⟩ (fun r => (∀ c : Dev Cert.OutKIdeal.nD,
      r.2.mem ((c.tc : Thread Cert.OutKIdeal.nD Cert.OutKIdeal.τ).loc Cert.OutKIdeal.main_arg0) = m ((c.tc : Thread Cert.OutKIdeal.nD Cert.OutKIdeal.τ).loc Cert.OutKIdeal.main_arg0)
      ∧ r.2.mem ((c.tc : Thread Cert.OutKIdeal.nD Cert.OutKIdeal.τ).loc Cert.OutKIdeal.main_arg1) = m ((c.tc : Thread Cert.OutKIdeal.nD Cert.OutKIdeal.τ).loc Cert.OutKIdeal.main_arg1)
      ∧ r.2.mem ((c.tc : Thread Cert.OutKIdeal.nD Cert.OutKIdeal.τ).loc Cert.OutKIdeal.main_arg2) = m ((c.tc : Thread Cert.OutKIdeal.nD Cert.OutKIdeal.τ).loc Cert.OutKIdeal.main_arg2)
      ∧ r.2.mem ((c.tc : Thread Cert.OutKIdeal.nD Cert.OutKIdeal.τ).loc Cert.OutKIdeal.main_arg3) = m ((c.tc : Thread Cert.OutKIdeal.nD Cert.OutKIdeal.τ).loc Cert.OutKIdeal.main_arg3)
      ∧ r.2.mem ((c.tc : Thread Cert.OutKIdeal.nD Cert.OutKIdeal.τ).loc Cert.OutKIdeal.main_arg4) = m ((c.tc : Thread Cert.OutKIdeal.nD Cert.OutKIdeal.τ).loc Cert.OutKIdeal.main_arg4)
      ∧ r.2.mem ((c.tc : Thread Cert.OutKIdeal.nD Cert.OutKIdeal.τ).loc Cert.OutKIdeal.main_arg5) = m ((c.tc : Thread Cert.OutKIdeal.nD Cert.OutKIdeal.τ).loc Cert.OutKIdeal.main_arg5)
      ∧ r.2.mem ((c.tc : Thread Cert.OutKIdeal.nD Cert.OutKIdeal.τ).loc Cert.OutKIdeal.main_arg6) = m ((c.tc : Thread Cert.OutKIdeal.nD Cert.OutKIdeal.τ).loc Cert.OutKIdeal.main_arg6)
      ∧ r.2.mem ((c.tc : Thread Cert.OutKIdeal.nD Cert.OutKIdeal.τ).loc Cert.OutKIdeal.main_arg7) = m ((c.tc : Thread Cert.OutKIdeal.nD Cert.OutKIdeal.τ).loc Cert.OutKIdeal.main_arg7)
      ∧ r.2.mem ((c.tc : Thread Cert.OutKIdeal.nD Cert.OutKIdeal.τ).loc Cert.OutKIdeal.main_arg8) = m ((c.tc : Thread Cert.OutKIdeal.nD Cert.OutKIdeal.τ).loc Cert.OutKIdeal.main_arg8)
      ∧ r.2.mem ((c.tc : Thread Cert.OutKIdeal.nD Cert.OutKIdeal.τ).loc Cert.OutKIdeal.main_arg9) = m ((c.tc : Thread Cert.OutKIdeal.nD Cert.OutKIdeal.τ).loc Cert.OutKIdeal.main_arg9)
      ∧ r.2.mem ((c.tc : Thread Cert.OutKIdeal.nD Cert.OutKIdeal.τ).loc Cert.OutKIdeal.main_arg10) = m ((c.tc : Thread Cert.OutKIdeal.nD Cert.OutKIdeal.τ).loc Cert.OutKIdeal.main_arg10))
      ∧ r.2.sem = fun _ => 0)

def quiescent_OutRIdeal [hOutRIdeal : Cert.OutRIdeal.Facts] : Prop :=
  ∀ (m : (ℓ : Loc Cert.OutRIdeal.nD Cert.OutRIdeal.τ Cert.OutRIdeal.sig) → Buf (Elt Ideal) ℓ) (g : Dev Cert.OutRIdeal.nD → PrngReg), Pre_OutRIdeal m →
    θ_run (Cert.OutRIdeal.defs (F := Ideal)) (onTc (τ := Cert.OutRIdeal.τ) (Cert.OutRIdeal.main (F := Ideal))) ⟨m, fun _ => 0, g⟩ (fun r => (∀ c : Dev Cert.OutRIdeal.nD,
      r.2.mem ((c.tc : Thread Cert.OutRIdeal.nD Cert.OutRIdeal.τ).loc Cert.OutRIdeal.main_arg0) = m ((c.tc : Thread Cert.OutRIdeal.nD Cert.OutRIdeal.τ).loc Cert.OutRIdeal.main_arg0)
      ∧ r.2.mem ((c.tc : Thread Cert.OutRIdeal.nD Cert.OutRIdeal.τ).loc Cert.OutRIdeal.main_arg1) = m ((c.tc : Thread Cert.OutRIdeal.nD Cert.OutRIdeal.τ).loc Cert.OutRIdeal.main_arg1)
      ∧ r.2.mem ((c.tc : Thread Cert.OutRIdeal.nD Cert.OutRIdeal.τ).loc Cert.OutRIdeal.main_arg2) = m ((c.tc : Thread Cert.OutRIdeal.nD Cert.OutRIdeal.τ).loc Cert.OutRIdeal.main_arg2)
      ∧ r.2.mem ((c.tc : Thread Cert.OutRIdeal.nD Cert.OutRIdeal.τ).loc Cert.OutRIdeal.main_arg3) = m ((c.tc : Thread Cert.OutRIdeal.nD Cert.OutRIdeal.τ).loc Cert.OutRIdeal.main_arg3)
      ∧ r.2.mem ((c.tc : Thread Cert.OutRIdeal.nD Cert.OutRIdeal.τ).loc Cert.OutRIdeal.main_arg4) = m ((c.tc : Thread Cert.OutRIdeal.nD Cert.OutRIdeal.τ).loc Cert.OutRIdeal.main_arg4)
      ∧ r.2.mem ((c.tc : Thread Cert.OutRIdeal.nD Cert.OutRIdeal.τ).loc Cert.OutRIdeal.main_arg5) = m ((c.tc : Thread Cert.OutRIdeal.nD Cert.OutRIdeal.τ).loc Cert.OutRIdeal.main_arg5)
      ∧ r.2.mem ((c.tc : Thread Cert.OutRIdeal.nD Cert.OutRIdeal.τ).loc Cert.OutRIdeal.main_arg6) = m ((c.tc : Thread Cert.OutRIdeal.nD Cert.OutRIdeal.τ).loc Cert.OutRIdeal.main_arg6)
      ∧ r.2.mem ((c.tc : Thread Cert.OutRIdeal.nD Cert.OutRIdeal.τ).loc Cert.OutRIdeal.main_arg7) = m ((c.tc : Thread Cert.OutRIdeal.nD Cert.OutRIdeal.τ).loc Cert.OutRIdeal.main_arg7)
      ∧ r.2.mem ((c.tc : Thread Cert.OutRIdeal.nD Cert.OutRIdeal.τ).loc Cert.OutRIdeal.main_arg8) = m ((c.tc : Thread Cert.OutRIdeal.nD Cert.OutRIdeal.τ).loc Cert.OutRIdeal.main_arg8)
      ∧ r.2.mem ((c.tc : Thread Cert.OutRIdeal.nD Cert.OutRIdeal.τ).loc Cert.OutRIdeal.main_arg9) = m ((c.tc : Thread Cert.OutRIdeal.nD Cert.OutRIdeal.τ).loc Cert.OutRIdeal.main_arg9)
      ∧ r.2.mem ((c.tc : Thread Cert.OutRIdeal.nD Cert.OutRIdeal.τ).loc Cert.OutRIdeal.main_arg10) = m ((c.tc : Thread Cert.OutRIdeal.nD Cert.OutRIdeal.τ).loc Cert.OutRIdeal.main_arg10))
      ∧ r.2.sem = fun _ => 0)

def quiescent_InK [hInK : Cert.InK.Facts] : Prop :=
  ∀ (m : (ℓ : Loc Cert.InK.nD Cert.InK.τ Cert.InK.sig) → Buf (Elt Bits) ℓ) (g : Dev Cert.InK.nD → PrngReg), Pre_InK m →
    θ_run (Cert.InK.defs (F := Bits)) (onTc (τ := Cert.InK.τ) (Cert.InK.main (F := Bits))) ⟨m, fun _ => 0, g⟩ (fun r => (∀ c : Dev Cert.InK.nD,
      r.2.mem ((c.tc : Thread Cert.InK.nD Cert.InK.τ).loc Cert.InK.main_arg0) = m ((c.tc : Thread Cert.InK.nD Cert.InK.τ).loc Cert.InK.main_arg0)
      ∧ r.2.mem ((c.tc : Thread Cert.InK.nD Cert.InK.τ).loc Cert.InK.main_arg1) = m ((c.tc : Thread Cert.InK.nD Cert.InK.τ).loc Cert.InK.main_arg1)
      ∧ r.2.mem ((c.tc : Thread Cert.InK.nD Cert.InK.τ).loc Cert.InK.main_arg2) = m ((c.tc : Thread Cert.InK.nD Cert.InK.τ).loc Cert.InK.main_arg2)
      ∧ r.2.mem ((c.tc : Thread Cert.InK.nD Cert.InK.τ).loc Cert.InK.main_arg3) = m ((c.tc : Thread Cert.InK.nD Cert.InK.τ).loc Cert.InK.main_arg3)
      ∧ r.2.mem ((c.tc : Thread Cert.InK.nD Cert.InK.τ).loc Cert.InK.main_arg4) = m ((c.tc : Thread Cert.InK.nD Cert.InK.τ).loc Cert.InK.main_arg4)
      ∧ r.2.mem ((c.tc : Thread Cert.InK.nD Cert.InK.τ).loc Cert.InK.main_arg5) = m ((c.tc : Thread Cert.InK.nD Cert.InK.τ).loc Cert.InK.main_arg5)
      ∧ r.2.mem ((c.tc : Thread Cert.InK.nD Cert.InK.τ).loc Cert.InK.main_arg6) = m ((c.tc : Thread Cert.InK.nD Cert.InK.τ).loc Cert.InK.main_arg6)
      ∧ r.2.mem ((c.tc : Thread Cert.InK.nD Cert.InK.τ).loc Cert.InK.main_arg7) = m ((c.tc : Thread Cert.InK.nD Cert.InK.τ).loc Cert.InK.main_arg7))
      ∧ r.2.sem = fun _ => 0)

def quiescent_InKIdeal [hInKIdeal : Cert.InKIdeal.Facts] : Prop :=
  ∀ (m : (ℓ : Loc Cert.InKIdeal.nD Cert.InKIdeal.τ Cert.InKIdeal.sig) → Buf (Elt Ideal) ℓ) (g : Dev Cert.InKIdeal.nD → PrngReg), Pre_InKIdeal m →
    θ_run (Cert.InKIdeal.defs (F := Ideal)) (onTc (τ := Cert.InKIdeal.τ) (Cert.InKIdeal.main (F := Ideal))) ⟨m, fun _ => 0, g⟩ (fun r => (∀ c : Dev Cert.InKIdeal.nD,
      r.2.mem ((c.tc : Thread Cert.InKIdeal.nD Cert.InKIdeal.τ).loc Cert.InKIdeal.main_arg0) = m ((c.tc : Thread Cert.InKIdeal.nD Cert.InKIdeal.τ).loc Cert.InKIdeal.main_arg0)
      ∧ r.2.mem ((c.tc : Thread Cert.InKIdeal.nD Cert.InKIdeal.τ).loc Cert.InKIdeal.main_arg1) = m ((c.tc : Thread Cert.InKIdeal.nD Cert.InKIdeal.τ).loc Cert.InKIdeal.main_arg1)
      ∧ r.2.mem ((c.tc : Thread Cert.InKIdeal.nD Cert.InKIdeal.τ).loc Cert.InKIdeal.main_arg2) = m ((c.tc : Thread Cert.InKIdeal.nD Cert.InKIdeal.τ).loc Cert.InKIdeal.main_arg2)
      ∧ r.2.mem ((c.tc : Thread Cert.InKIdeal.nD Cert.InKIdeal.τ).loc Cert.InKIdeal.main_arg3) = m ((c.tc : Thread Cert.InKIdeal.nD Cert.InKIdeal.τ).loc Cert.InKIdeal.main_arg3)
      ∧ r.2.mem ((c.tc : Thread Cert.InKIdeal.nD Cert.InKIdeal.τ).loc Cert.InKIdeal.main_arg4) = m ((c.tc : Thread Cert.InKIdeal.nD Cert.InKIdeal.τ).loc Cert.InKIdeal.main_arg4)
      ∧ r.2.mem ((c.tc : Thread Cert.InKIdeal.nD Cert.InKIdeal.τ).loc Cert.InKIdeal.main_arg5) = m ((c.tc : Thread Cert.InKIdeal.nD Cert.InKIdeal.τ).loc Cert.InKIdeal.main_arg5)
      ∧ r.2.mem ((c.tc : Thread Cert.InKIdeal.nD Cert.InKIdeal.τ).loc Cert.InKIdeal.main_arg6) = m ((c.tc : Thread Cert.InKIdeal.nD Cert.InKIdeal.τ).loc Cert.InKIdeal.main_arg6)
      ∧ r.2.mem ((c.tc : Thread Cert.InKIdeal.nD Cert.InKIdeal.τ).loc Cert.InKIdeal.main_arg7) = m ((c.tc : Thread Cert.InKIdeal.nD Cert.InKIdeal.τ).loc Cert.InKIdeal.main_arg7))
      ∧ r.2.sem = fun _ => 0)

def quiescent_InRIdeal [hInRIdeal : Cert.InRIdeal.Facts] : Prop :=
  ∀ (m : (ℓ : Loc Cert.InRIdeal.nD Cert.InRIdeal.τ Cert.InRIdeal.sig) → Buf (Elt Ideal) ℓ) (g : Dev Cert.InRIdeal.nD → PrngReg), Pre_InRIdeal m →
    θ_run (Cert.InRIdeal.defs (F := Ideal)) (onTc (τ := Cert.InRIdeal.τ) (Cert.InRIdeal.main (F := Ideal))) ⟨m, fun _ => 0, g⟩ (fun r => (∀ c : Dev Cert.InRIdeal.nD,
      r.2.mem ((c.tc : Thread Cert.InRIdeal.nD Cert.InRIdeal.τ).loc Cert.InRIdeal.main_arg0) = m ((c.tc : Thread Cert.InRIdeal.nD Cert.InRIdeal.τ).loc Cert.InRIdeal.main_arg0)
      ∧ r.2.mem ((c.tc : Thread Cert.InRIdeal.nD Cert.InRIdeal.τ).loc Cert.InRIdeal.main_arg1) = m ((c.tc : Thread Cert.InRIdeal.nD Cert.InRIdeal.τ).loc Cert.InRIdeal.main_arg1)
      ∧ r.2.mem ((c.tc : Thread Cert.InRIdeal.nD Cert.InRIdeal.τ).loc Cert.InRIdeal.main_arg2) = m ((c.tc : Thread Cert.InRIdeal.nD Cert.InRIdeal.τ).loc Cert.InRIdeal.main_arg2)
      ∧ r.2.mem ((c.tc : Thread Cert.InRIdeal.nD Cert.InRIdeal.τ).loc Cert.InRIdeal.main_arg3) = m ((c.tc : Thread Cert.InRIdeal.nD Cert.InRIdeal.τ).loc Cert.InRIdeal.main_arg3)
      ∧ r.2.mem ((c.tc : Thread Cert.InRIdeal.nD Cert.InRIdeal.τ).loc Cert.InRIdeal.main_arg4) = m ((c.tc : Thread Cert.InRIdeal.nD Cert.InRIdeal.τ).loc Cert.InRIdeal.main_arg4)
      ∧ r.2.mem ((c.tc : Thread Cert.InRIdeal.nD Cert.InRIdeal.τ).loc Cert.InRIdeal.main_arg5) = m ((c.tc : Thread Cert.InRIdeal.nD Cert.InRIdeal.τ).loc Cert.InRIdeal.main_arg5)
      ∧ r.2.mem ((c.tc : Thread Cert.InRIdeal.nD Cert.InRIdeal.τ).loc Cert.InRIdeal.main_arg6) = m ((c.tc : Thread Cert.InRIdeal.nD Cert.InRIdeal.τ).loc Cert.InRIdeal.main_arg6)
      ∧ r.2.mem ((c.tc : Thread Cert.InRIdeal.nD Cert.InRIdeal.τ).loc Cert.InRIdeal.main_arg7) = m ((c.tc : Thread Cert.InRIdeal.nD Cert.InRIdeal.τ).loc Cert.InRIdeal.main_arg7))
      ∧ r.2.sem = fun _ => 0)

def quiescent_WnK [hWnK : Cert.WnK.Facts] : Prop :=
  ∀ (m : (ℓ : Loc Cert.WnK.nD Cert.WnK.τ Cert.WnK.sig) → Buf (Elt Bits) ℓ) (g : Dev Cert.WnK.nD → PrngReg), Pre_WnK m →
    θ_run (Cert.WnK.defs (F := Bits)) (onTc (τ := Cert.WnK.τ) (Cert.WnK.main (F := Bits))) ⟨m, fun _ => 0, g⟩ (fun r => (∀ c : Dev Cert.WnK.nD,
      r.2.mem ((c.tc : Thread Cert.WnK.nD Cert.WnK.τ).loc Cert.WnK.main_arg0) = m ((c.tc : Thread Cert.WnK.nD Cert.WnK.τ).loc Cert.WnK.main_arg0))
      ∧ r.2.sem = fun _ => 0)

def quiescent_WnKIdeal [hWnKIdeal : Cert.WnKIdeal.Facts] : Prop :=
  ∀ (m : (ℓ : Loc Cert.WnKIdeal.nD Cert.WnKIdeal.τ Cert.WnKIdeal.sig) → Buf (Elt Ideal) ℓ) (g : Dev Cert.WnKIdeal.nD → PrngReg), Pre_WnKIdeal m →
    θ_run (Cert.WnKIdeal.defs (F := Ideal)) (onTc (τ := Cert.WnKIdeal.τ) (Cert.WnKIdeal.main (F := Ideal))) ⟨m, fun _ => 0, g⟩ (fun r => (∀ c : Dev Cert.WnKIdeal.nD,
      r.2.mem ((c.tc : Thread Cert.WnKIdeal.nD Cert.WnKIdeal.τ).loc Cert.WnKIdeal.main_arg0) = m ((c.tc : Thread Cert.WnKIdeal.nD Cert.WnKIdeal.τ).loc Cert.WnKIdeal.main_arg0))
      ∧ r.2.sem = fun _ => 0)

def quiescent_WnRIdeal [hWnRIdeal : Cert.WnRIdeal.Facts] : Prop :=
  ∀ (m : (ℓ : Loc Cert.WnRIdeal.nD Cert.WnRIdeal.τ Cert.WnRIdeal.sig) → Buf (Elt Ideal) ℓ) (g : Dev Cert.WnRIdeal.nD → PrngReg), Pre_WnRIdeal m →
    θ_run (Cert.WnRIdeal.defs (F := Ideal)) (onTc (τ := Cert.WnRIdeal.τ) (Cert.WnRIdeal.main (F := Ideal))) ⟨m, fun _ => 0, g⟩ (fun r => (∀ c : Dev Cert.WnRIdeal.nD,
      r.2.mem ((c.tc : Thread Cert.WnRIdeal.nD Cert.WnRIdeal.τ).loc Cert.WnRIdeal.main_arg0) = m ((c.tc : Thread Cert.WnRIdeal.nD Cert.WnRIdeal.τ).loc Cert.WnRIdeal.main_arg0))
      ∧ r.2.sem = fun _ => 0)

def quiescent_WtK [hWtK : Cert.WtK.Facts] : Prop :=
  ∀ (m : (ℓ : Loc Cert.WtK.nD Cert.WtK.τ Cert.WtK.sig) → Buf (Elt Bits) ℓ) (g : Dev Cert.WtK.nD → PrngReg), Pre_WtK m →
    θ_run (Cert.WtK.defs (F := Bits)) (onTc (τ := Cert.WtK.τ) (Cert.WtK.main (F := Bits))) ⟨m, fun _ => 0, g⟩ (fun r => (∀ c : Dev Cert.WtK.nD,
      r.2.mem ((c.tc : Thread Cert.WtK.nD Cert.WtK.τ).loc Cert.WtK.main_arg0) = m ((c.tc : Thread Cert.WtK.nD Cert.WtK.τ).loc Cert.WtK.main_arg0))
      ∧ r.2.sem = fun _ => 0)

def quiescent_WtKIdeal [hWtKIdeal : Cert.WtKIdeal.Facts] : Prop :=
  ∀ (m : (ℓ : Loc Cert.WtKIdeal.nD Cert.WtKIdeal.τ Cert.WtKIdeal.sig) → Buf (Elt Ideal) ℓ) (g : Dev Cert.WtKIdeal.nD → PrngReg), Pre_WtKIdeal m →
    θ_run (Cert.WtKIdeal.defs (F := Ideal)) (onTc (τ := Cert.WtKIdeal.τ) (Cert.WtKIdeal.main (F := Ideal))) ⟨m, fun _ => 0, g⟩ (fun r => (∀ c : Dev Cert.WtKIdeal.nD,
      r.2.mem ((c.tc : Thread Cert.WtKIdeal.nD Cert.WtKIdeal.τ).loc Cert.WtKIdeal.main_arg0) = m ((c.tc : Thread Cert.WtKIdeal.nD Cert.WtKIdeal.τ).loc Cert.WtKIdeal.main_arg0))
      ∧ r.2.sem = fun _ => 0)

def quiescent_WtRIdeal [hWtRIdeal : Cert.WtRIdeal.Facts] : Prop :=
  ∀ (m : (ℓ : Loc Cert.WtRIdeal.nD Cert.WtRIdeal.τ Cert.WtRIdeal.sig) → Buf (Elt Ideal) ℓ) (g : Dev Cert.WtRIdeal.nD → PrngReg), Pre_WtRIdeal m →
    θ_run (Cert.WtRIdeal.defs (F := Ideal)) (onTc (τ := Cert.WtRIdeal.τ) (Cert.WtRIdeal.main (F := Ideal))) ⟨m, fun _ => 0, g⟩ (fun r => (∀ c : Dev Cert.WtRIdeal.nD,
      r.2.mem ((c.tc : Thread Cert.WtRIdeal.nD Cert.WtRIdeal.τ).loc Cert.WtRIdeal.main_arg0) = m ((c.tc : Thread Cert.WtRIdeal.nD Cert.WtRIdeal.τ).loc Cert.WtRIdeal.main_arg0))
      ∧ r.2.sem = fun _ => 0)

def quiescent_AdK [hAdK : Cert.AdK.Facts] : Prop :=
  ∀ (m : (ℓ : Loc Cert.AdK.nD Cert.AdK.τ Cert.AdK.sig) → Buf (Elt Bits) ℓ) (g : Dev Cert.AdK.nD → PrngReg), Pre_AdK m →
    θ_run (Cert.AdK.defs (F := Bits)) (onTc (τ := Cert.AdK.τ) (Cert.AdK.main (F := Bits))) ⟨m, fun _ => 0, g⟩ (fun r => (∀ c : Dev Cert.AdK.nD,
      r.2.mem ((c.tc : Thread Cert.AdK.nD Cert.AdK.τ).loc Cert.AdK.main_arg0) = m ((c.tc : Thread Cert.AdK.nD Cert.AdK.τ).loc Cert.AdK.main_arg0)
      ∧ r.2.mem ((c.tc : Thread Cert.AdK.nD Cert.AdK.τ).loc Cert.AdK.main_arg1) = m ((c.tc : Thread Cert.AdK.nD Cert.AdK.τ).loc Cert.AdK.main_arg1)
      ∧ r.2.mem ((c.tc : Thread Cert.AdK.nD Cert.AdK.τ).loc Cert.AdK.main_arg2) = m ((c.tc : Thread Cert.AdK.nD Cert.AdK.τ).loc Cert.AdK.main_arg2)
      ∧ r.2.mem ((c.tc : Thread Cert.AdK.nD Cert.AdK.τ).loc Cert.AdK.main_arg3) = m ((c.tc : Thread Cert.AdK.nD Cert.AdK.τ).loc Cert.AdK.main_arg3))
      ∧ r.2.sem = fun _ => 0)

def quiescent_AdKIdeal [hAdKIdeal : Cert.AdKIdeal.Facts] : Prop :=
  ∀ (m : (ℓ : Loc Cert.AdKIdeal.nD Cert.AdKIdeal.τ Cert.AdKIdeal.sig) → Buf (Elt Ideal) ℓ) (g : Dev Cert.AdKIdeal.nD → PrngReg), Pre_AdKIdeal m →
    θ_run (Cert.AdKIdeal.defs (F := Ideal)) (onTc (τ := Cert.AdKIdeal.τ) (Cert.AdKIdeal.main (F := Ideal))) ⟨m, fun _ => 0, g⟩ (fun r => (∀ c : Dev Cert.AdKIdeal.nD,
      r.2.mem ((c.tc : Thread Cert.AdKIdeal.nD Cert.AdKIdeal.τ).loc Cert.AdKIdeal.main_arg0) = m ((c.tc : Thread Cert.AdKIdeal.nD Cert.AdKIdeal.τ).loc Cert.AdKIdeal.main_arg0)
      ∧ r.2.mem ((c.tc : Thread Cert.AdKIdeal.nD Cert.AdKIdeal.τ).loc Cert.AdKIdeal.main_arg1) = m ((c.tc : Thread Cert.AdKIdeal.nD Cert.AdKIdeal.τ).loc Cert.AdKIdeal.main_arg1)
      ∧ r.2.mem ((c.tc : Thread Cert.AdKIdeal.nD Cert.AdKIdeal.τ).loc Cert.AdKIdeal.main_arg2) = m ((c.tc : Thread Cert.AdKIdeal.nD Cert.AdKIdeal.τ).loc Cert.AdKIdeal.main_arg2)
      ∧ r.2.mem ((c.tc : Thread Cert.AdKIdeal.nD Cert.AdKIdeal.τ).loc Cert.AdKIdeal.main_arg3) = m ((c.tc : Thread Cert.AdKIdeal.nD Cert.AdKIdeal.τ).loc Cert.AdKIdeal.main_arg3))
      ∧ r.2.sem = fun _ => 0)

def quiescent_AdKIdeal_pre_finite_vectors_and_weights [hAdKIdeal : Cert.AdKIdeal.Facts] [hPre_finite_vectors_and_weights : Cert.Pre_finite_vectors_and_weights.Facts] : Prop :=
  ∀ (m : (ℓ : Loc Cert.AdKIdeal.nD Cert.AdKIdeal.τ Cert.AdKIdeal.sig) → Buf (Elt Ideal) ℓ) (g : Dev Cert.AdKIdeal.nD → PrngReg), Pre_AdKIdeal_finite_vectors_and_weights m →
    θ_run (Cert.AdKIdeal.defs (F := Ideal)) (onTc (τ := Cert.AdKIdeal.τ) (Cert.AdKIdeal.main (F := Ideal))) ⟨m, fun _ => 0, g⟩ (fun r => (∀ c : Dev Cert.AdKIdeal.nD,
      r.2.mem ((c.tc : Thread Cert.AdKIdeal.nD Cert.AdKIdeal.τ).loc Cert.AdKIdeal.main_arg0) = m ((c.tc : Thread Cert.AdKIdeal.nD Cert.AdKIdeal.τ).loc Cert.AdKIdeal.main_arg0)
      ∧ r.2.mem ((c.tc : Thread Cert.AdKIdeal.nD Cert.AdKIdeal.τ).loc Cert.AdKIdeal.main_arg1) = m ((c.tc : Thread Cert.AdKIdeal.nD Cert.AdKIdeal.τ).loc Cert.AdKIdeal.main_arg1)
      ∧ r.2.mem ((c.tc : Thread Cert.AdKIdeal.nD Cert.AdKIdeal.τ).loc Cert.AdKIdeal.main_arg2) = m ((c.tc : Thread Cert.AdKIdeal.nD Cert.AdKIdeal.τ).loc Cert.AdKIdeal.main_arg2)
      ∧ r.2.mem ((c.tc : Thread Cert.AdKIdeal.nD Cert.AdKIdeal.τ).loc Cert.AdKIdeal.main_arg3) = m ((c.tc : Thread Cert.AdKIdeal.nD Cert.AdKIdeal.τ).loc Cert.AdKIdeal.main_arg3))
      ∧ r.2.sem = fun _ => 0)

def quiescent_AdRIdeal [hAdRIdeal : Cert.AdRIdeal.Facts] : Prop :=
  ∀ (m : (ℓ : Loc Cert.AdRIdeal.nD Cert.AdRIdeal.τ Cert.AdRIdeal.sig) → Buf (Elt Ideal) ℓ) (g : Dev Cert.AdRIdeal.nD → PrngReg), Pre_AdRIdeal m →
    θ_run (Cert.AdRIdeal.defs (F := Ideal)) (onTc (τ := Cert.AdRIdeal.τ) (Cert.AdRIdeal.main (F := Ideal))) ⟨m, fun _ => 0, g⟩ (fun r => (∀ c : Dev Cert.AdRIdeal.nD,
      r.2.mem ((c.tc : Thread Cert.AdRIdeal.nD Cert.AdRIdeal.τ).loc Cert.AdRIdeal.main_arg0) = m ((c.tc : Thread Cert.AdRIdeal.nD Cert.AdRIdeal.τ).loc Cert.AdRIdeal.main_arg0)
      ∧ r.2.mem ((c.tc : Thread Cert.AdRIdeal.nD Cert.AdRIdeal.τ).loc Cert.AdRIdeal.main_arg1) = m ((c.tc : Thread Cert.AdRIdeal.nD Cert.AdRIdeal.τ).loc Cert.AdRIdeal.main_arg1)
      ∧ r.2.mem ((c.tc : Thread Cert.AdRIdeal.nD Cert.AdRIdeal.τ).loc Cert.AdRIdeal.main_arg2) = m ((c.tc : Thread Cert.AdRIdeal.nD Cert.AdRIdeal.τ).loc Cert.AdRIdeal.main_arg2)
      ∧ r.2.mem ((c.tc : Thread Cert.AdRIdeal.nD Cert.AdRIdeal.τ).loc Cert.AdRIdeal.main_arg3) = m ((c.tc : Thread Cert.AdRIdeal.nD Cert.AdRIdeal.τ).loc Cert.AdRIdeal.main_arg3))
      ∧ r.2.sem = fun _ => 0)

def quiescent_AdRIdeal_pre_finite_vectors_and_weights [hAdRIdeal : Cert.AdRIdeal.Facts] [hPre_finite_vectors_and_weights : Cert.Pre_finite_vectors_and_weights.Facts] : Prop :=
  ∀ (m : (ℓ : Loc Cert.AdRIdeal.nD Cert.AdRIdeal.τ Cert.AdRIdeal.sig) → Buf (Elt Ideal) ℓ) (g : Dev Cert.AdRIdeal.nD → PrngReg), Pre_AdRIdeal_finite_vectors_and_weights m →
    θ_run (Cert.AdRIdeal.defs (F := Ideal)) (onTc (τ := Cert.AdRIdeal.τ) (Cert.AdRIdeal.main (F := Ideal))) ⟨m, fun _ => 0, g⟩ (fun r => (∀ c : Dev Cert.AdRIdeal.nD,
      r.2.mem ((c.tc : Thread Cert.AdRIdeal.nD Cert.AdRIdeal.τ).loc Cert.AdRIdeal.main_arg0) = m ((c.tc : Thread Cert.AdRIdeal.nD Cert.AdRIdeal.τ).loc Cert.AdRIdeal.main_arg0)
      ∧ r.2.mem ((c.tc : Thread Cert.AdRIdeal.nD Cert.AdRIdeal.τ).loc Cert.AdRIdeal.main_arg1) = m ((c.tc : Thread Cert.AdRIdeal.nD Cert.AdRIdeal.τ).loc Cert.AdRIdeal.main_arg1)
      ∧ r.2.mem ((c.tc : Thread Cert.AdRIdeal.nD Cert.AdRIdeal.τ).loc Cert.AdRIdeal.main_arg2) = m ((c.tc : Thread Cert.AdRIdeal.nD Cert.AdRIdeal.τ).loc Cert.AdRIdeal.main_arg2)
      ∧ r.2.mem ((c.tc : Thread Cert.AdRIdeal.nD Cert.AdRIdeal.τ).loc Cert.AdRIdeal.main_arg3) = m ((c.tc : Thread Cert.AdRIdeal.nD Cert.AdRIdeal.τ).loc Cert.AdRIdeal.main_arg3))
      ∧ r.2.sem = fun _ => 0)

def quiescent_CxK [hCxK : Cert.CxK.Facts] : Prop :=
  ∀ (m : (ℓ : Loc Cert.CxK.nD Cert.CxK.τ Cert.CxK.sig) → Buf (Elt Bits) ℓ) (g : Dev Cert.CxK.nD → PrngReg), Pre_CxK m →
    θ_run (Cert.CxK.defs (F := Bits)) (onTc (τ := Cert.CxK.τ) (Cert.CxK.main (F := Bits))) ⟨m, fun _ => 0, g⟩ (fun r => (∀ c : Dev Cert.CxK.nD,
      r.2.mem ((c.tc : Thread Cert.CxK.nD Cert.CxK.τ).loc Cert.CxK.main_arg0) = m ((c.tc : Thread Cert.CxK.nD Cert.CxK.τ).loc Cert.CxK.main_arg0)
      ∧ r.2.mem ((c.tc : Thread Cert.CxK.nD Cert.CxK.τ).loc Cert.CxK.main_arg1) = m ((c.tc : Thread Cert.CxK.nD Cert.CxK.τ).loc Cert.CxK.main_arg1)
      ∧ r.2.mem ((c.tc : Thread Cert.CxK.nD Cert.CxK.τ).loc Cert.CxK.main_arg2) = m ((c.tc : Thread Cert.CxK.nD Cert.CxK.τ).loc Cert.CxK.main_arg2)
      ∧ r.2.mem ((c.tc : Thread Cert.CxK.nD Cert.CxK.τ).loc Cert.CxK.main_arg3) = m ((c.tc : Thread Cert.CxK.nD Cert.CxK.τ).loc Cert.CxK.main_arg3)
      ∧ r.2.mem ((c.tc : Thread Cert.CxK.nD Cert.CxK.τ).loc Cert.CxK.main_arg4) = m ((c.tc : Thread Cert.CxK.nD Cert.CxK.τ).loc Cert.CxK.main_arg4)
      ∧ r.2.mem ((c.tc : Thread Cert.CxK.nD Cert.CxK.τ).loc Cert.CxK.main_arg5) = m ((c.tc : Thread Cert.CxK.nD Cert.CxK.τ).loc Cert.CxK.main_arg5)
      ∧ r.2.mem ((c.tc : Thread Cert.CxK.nD Cert.CxK.τ).loc Cert.CxK.main_arg6) = m ((c.tc : Thread Cert.CxK.nD Cert.CxK.τ).loc Cert.CxK.main_arg6))
      ∧ r.2.sem = fun _ => 0)

def quiescent_CxKIdeal [hCxKIdeal : Cert.CxKIdeal.Facts] : Prop :=
  ∀ (m : (ℓ : Loc Cert.CxKIdeal.nD Cert.CxKIdeal.τ Cert.CxKIdeal.sig) → Buf (Elt Ideal) ℓ) (g : Dev Cert.CxKIdeal.nD → PrngReg), Pre_CxKIdeal m →
    θ_run (Cert.CxKIdeal.defs (F := Ideal)) (onTc (τ := Cert.CxKIdeal.τ) (Cert.CxKIdeal.main (F := Ideal))) ⟨m, fun _ => 0, g⟩ (fun r => (∀ c : Dev Cert.CxKIdeal.nD,
      r.2.mem ((c.tc : Thread Cert.CxKIdeal.nD Cert.CxKIdeal.τ).loc Cert.CxKIdeal.main_arg0) = m ((c.tc : Thread Cert.CxKIdeal.nD Cert.CxKIdeal.τ).loc Cert.CxKIdeal.main_arg0)
      ∧ r.2.mem ((c.tc : Thread Cert.CxKIdeal.nD Cert.CxKIdeal.τ).loc Cert.CxKIdeal.main_arg1) = m ((c.tc : Thread Cert.CxKIdeal.nD Cert.CxKIdeal.τ).loc Cert.CxKIdeal.main_arg1)
      ∧ r.2.mem ((c.tc : Thread Cert.CxKIdeal.nD Cert.CxKIdeal.τ).loc Cert.CxKIdeal.main_arg2) = m ((c.tc : Thread Cert.CxKIdeal.nD Cert.CxKIdeal.τ).loc Cert.CxKIdeal.main_arg2)
      ∧ r.2.mem ((c.tc : Thread Cert.CxKIdeal.nD Cert.CxKIdeal.τ).loc Cert.CxKIdeal.main_arg3) = m ((c.tc : Thread Cert.CxKIdeal.nD Cert.CxKIdeal.τ).loc Cert.CxKIdeal.main_arg3)
      ∧ r.2.mem ((c.tc : Thread Cert.CxKIdeal.nD Cert.CxKIdeal.τ).loc Cert.CxKIdeal.main_arg4) = m ((c.tc : Thread Cert.CxKIdeal.nD Cert.CxKIdeal.τ).loc Cert.CxKIdeal.main_arg4)
      ∧ r.2.mem ((c.tc : Thread Cert.CxKIdeal.nD Cert.CxKIdeal.τ).loc Cert.CxKIdeal.main_arg5) = m ((c.tc : Thread Cert.CxKIdeal.nD Cert.CxKIdeal.τ).loc Cert.CxKIdeal.main_arg5)
      ∧ r.2.mem ((c.tc : Thread Cert.CxKIdeal.nD Cert.CxKIdeal.τ).loc Cert.CxKIdeal.main_arg6) = m ((c.tc : Thread Cert.CxKIdeal.nD Cert.CxKIdeal.τ).loc Cert.CxKIdeal.main_arg6))
      ∧ r.2.sem = fun _ => 0)

def quiescent_CxKIdeal_pre_gates_above_minus_infinity [hCxKIdeal : Cert.CxKIdeal.Facts] [hPre_gates_above_minus_infinity : Cert.Pre_gates_above_minus_infinity.Facts] : Prop :=
  ∀ (m : (ℓ : Loc Cert.CxKIdeal.nD Cert.CxKIdeal.τ Cert.CxKIdeal.sig) → Buf (Elt Ideal) ℓ) (g : Dev Cert.CxKIdeal.nD → PrngReg), Pre_CxKIdeal_gates_above_minus_infinity m →
    θ_run (Cert.CxKIdeal.defs (F := Ideal)) (onTc (τ := Cert.CxKIdeal.τ) (Cert.CxKIdeal.main (F := Ideal))) ⟨m, fun _ => 0, g⟩ (fun r => (∀ c : Dev Cert.CxKIdeal.nD,
      r.2.mem ((c.tc : Thread Cert.CxKIdeal.nD Cert.CxKIdeal.τ).loc Cert.CxKIdeal.main_arg0) = m ((c.tc : Thread Cert.CxKIdeal.nD Cert.CxKIdeal.τ).loc Cert.CxKIdeal.main_arg0)
      ∧ r.2.mem ((c.tc : Thread Cert.CxKIdeal.nD Cert.CxKIdeal.τ).loc Cert.CxKIdeal.main_arg1) = m ((c.tc : Thread Cert.CxKIdeal.nD Cert.CxKIdeal.τ).loc Cert.CxKIdeal.main_arg1)
      ∧ r.2.mem ((c.tc : Thread Cert.CxKIdeal.nD Cert.CxKIdeal.τ).loc Cert.CxKIdeal.main_arg2) = m ((c.tc : Thread Cert.CxKIdeal.nD Cert.CxKIdeal.τ).loc Cert.CxKIdeal.main_arg2)
      ∧ r.2.mem ((c.tc : Thread Cert.CxKIdeal.nD Cert.CxKIdeal.τ).loc Cert.CxKIdeal.main_arg3) = m ((c.tc : Thread Cert.CxKIdeal.nD Cert.CxKIdeal.τ).loc Cert.CxKIdeal.main_arg3)
      ∧ r.2.mem ((c.tc : Thread Cert.CxKIdeal.nD Cert.CxKIdeal.τ).loc Cert.CxKIdeal.main_arg4) = m ((c.tc : Thread Cert.CxKIdeal.nD Cert.CxKIdeal.τ).loc Cert.CxKIdeal.main_arg4)
      ∧ r.2.mem ((c.tc : Thread Cert.CxKIdeal.nD Cert.CxKIdeal.τ).loc Cert.CxKIdeal.main_arg5) = m ((c.tc : Thread Cert.CxKIdeal.nD Cert.CxKIdeal.τ).loc Cert.CxKIdeal.main_arg5)
      ∧ r.2.mem ((c.tc : Thread Cert.CxKIdeal.nD Cert.CxKIdeal.τ).loc Cert.CxKIdeal.main_arg6) = m ((c.tc : Thread Cert.CxKIdeal.nD Cert.CxKIdeal.τ).loc Cert.CxKIdeal.main_arg6))
      ∧ r.2.sem = fun _ => 0)

def quiescent_CxRIdeal [hCxRIdeal : Cert.CxRIdeal.Facts] : Prop :=
  ∀ (m : (ℓ : Loc Cert.CxRIdeal.nD Cert.CxRIdeal.τ Cert.CxRIdeal.sig) → Buf (Elt Ideal) ℓ) (g : Dev Cert.CxRIdeal.nD → PrngReg), Pre_CxRIdeal m →
    θ_run (Cert.CxRIdeal.defs (F := Ideal)) (onTc (τ := Cert.CxRIdeal.τ) (Cert.CxRIdeal.main (F := Ideal))) ⟨m, fun _ => 0, g⟩ (fun r => (∀ c : Dev Cert.CxRIdeal.nD,
      r.2.mem ((c.tc : Thread Cert.CxRIdeal.nD Cert.CxRIdeal.τ).loc Cert.CxRIdeal.main_arg0) = m ((c.tc : Thread Cert.CxRIdeal.nD Cert.CxRIdeal.τ).loc Cert.CxRIdeal.main_arg0)
      ∧ r.2.mem ((c.tc : Thread Cert.CxRIdeal.nD Cert.CxRIdeal.τ).loc Cert.CxRIdeal.main_arg1) = m ((c.tc : Thread Cert.CxRIdeal.nD Cert.CxRIdeal.τ).loc Cert.CxRIdeal.main_arg1)
      ∧ r.2.mem ((c.tc : Thread Cert.CxRIdeal.nD Cert.CxRIdeal.τ).loc Cert.CxRIdeal.main_arg2) = m ((c.tc : Thread Cert.CxRIdeal.nD Cert.CxRIdeal.τ).loc Cert.CxRIdeal.main_arg2)
      ∧ r.2.mem ((c.tc : Thread Cert.CxRIdeal.nD Cert.CxRIdeal.τ).loc Cert.CxRIdeal.main_arg3) = m ((c.tc : Thread Cert.CxRIdeal.nD Cert.CxRIdeal.τ).loc Cert.CxRIdeal.main_arg3)
      ∧ r.2.mem ((c.tc : Thread Cert.CxRIdeal.nD Cert.CxRIdeal.τ).loc Cert.CxRIdeal.main_arg4) = m ((c.tc : Thread Cert.CxRIdeal.nD Cert.CxRIdeal.τ).loc Cert.CxRIdeal.main_arg4)
      ∧ r.2.mem ((c.tc : Thread Cert.CxRIdeal.nD Cert.CxRIdeal.τ).loc Cert.CxRIdeal.main_arg5) = m ((c.tc : Thread Cert.CxRIdeal.nD Cert.CxRIdeal.τ).loc Cert.CxRIdeal.main_arg5)
      ∧ r.2.mem ((c.tc : Thread Cert.CxRIdeal.nD Cert.CxRIdeal.τ).loc Cert.CxRIdeal.main_arg6) = m ((c.tc : Thread Cert.CxRIdeal.nD Cert.CxRIdeal.τ).loc Cert.CxRIdeal.main_arg6))
      ∧ r.2.sem = fun _ => 0)

def quiescent_CxRIdeal_pre_gates_above_minus_infinity [hCxRIdeal : Cert.CxRIdeal.Facts] [hPre_gates_above_minus_infinity : Cert.Pre_gates_above_minus_infinity.Facts] : Prop :=
  ∀ (m : (ℓ : Loc Cert.CxRIdeal.nD Cert.CxRIdeal.τ Cert.CxRIdeal.sig) → Buf (Elt Ideal) ℓ) (g : Dev Cert.CxRIdeal.nD → PrngReg), Pre_CxRIdeal_gates_above_minus_infinity m →
    θ_run (Cert.CxRIdeal.defs (F := Ideal)) (onTc (τ := Cert.CxRIdeal.τ) (Cert.CxRIdeal.main (F := Ideal))) ⟨m, fun _ => 0, g⟩ (fun r => (∀ c : Dev Cert.CxRIdeal.nD,
      r.2.mem ((c.tc : Thread Cert.CxRIdeal.nD Cert.CxRIdeal.τ).loc Cert.CxRIdeal.main_arg0) = m ((c.tc : Thread Cert.CxRIdeal.nD Cert.CxRIdeal.τ).loc Cert.CxRIdeal.main_arg0)
      ∧ r.2.mem ((c.tc : Thread Cert.CxRIdeal.nD Cert.CxRIdeal.τ).loc Cert.CxRIdeal.main_arg1) = m ((c.tc : Thread Cert.CxRIdeal.nD Cert.CxRIdeal.τ).loc Cert.CxRIdeal.main_arg1)
      ∧ r.2.mem ((c.tc : Thread Cert.CxRIdeal.nD Cert.CxRIdeal.τ).loc Cert.CxRIdeal.main_arg2) = m ((c.tc : Thread Cert.CxRIdeal.nD Cert.CxRIdeal.τ).loc Cert.CxRIdeal.main_arg2)
      ∧ r.2.mem ((c.tc : Thread Cert.CxRIdeal.nD Cert.CxRIdeal.τ).loc Cert.CxRIdeal.main_arg3) = m ((c.tc : Thread Cert.CxRIdeal.nD Cert.CxRIdeal.τ).loc Cert.CxRIdeal.main_arg3)
      ∧ r.2.mem ((c.tc : Thread Cert.CxRIdeal.nD Cert.CxRIdeal.τ).loc Cert.CxRIdeal.main_arg4) = m ((c.tc : Thread Cert.CxRIdeal.nD Cert.CxRIdeal.τ).loc Cert.CxRIdeal.main_arg4)
      ∧ r.2.mem ((c.tc : Thread Cert.CxRIdeal.nD Cert.CxRIdeal.τ).loc Cert.CxRIdeal.main_arg5) = m ((c.tc : Thread Cert.CxRIdeal.nD Cert.CxRIdeal.τ).loc Cert.CxRIdeal.main_arg5)
      ∧ r.2.mem ((c.tc : Thread Cert.CxRIdeal.nD Cert.CxRIdeal.τ).loc Cert.CxRIdeal.main_arg6) = m ((c.tc : Thread Cert.CxRIdeal.nD Cert.CxRIdeal.τ).loc Cert.CxRIdeal.main_arg6))
      ∧ r.2.sem = fun _ => 0)

def preserves_OutK_OutKIdeal : Prop :=
  True

def algebraic_OutKIdeal_OutRIdeal [hOutKIdeal : Cert.OutKIdeal.Facts] [hOutRIdeal : Cert.OutRIdeal.Facts] : Prop :=
  ∀ (m : (ℓ : Loc Cert.OutKIdeal.nD Cert.OutKIdeal.τ Cert.OutKIdeal.sig) → Buf (Elt Ideal) ℓ) (g : Dev Cert.OutKIdeal.nD → PrngReg)
    (m' : (ℓ : Loc Cert.OutRIdeal.nD Cert.OutRIdeal.τ Cert.OutRIdeal.sig) → Buf (Elt Ideal) ℓ) (g' : Dev Cert.OutRIdeal.nD → PrngReg), Pre_OutKIdeal m →
    (∀ c : Dev Cert.OutKIdeal.nD,
      m' ((c.tc : Thread Cert.OutRIdeal.nD Cert.OutRIdeal.τ).loc Cert.OutRIdeal.main_arg0) = m ((c.tc : Thread Cert.OutKIdeal.nD Cert.OutKIdeal.τ).loc Cert.OutKIdeal.main_arg0)
      ∧ m' ((c.tc : Thread Cert.OutRIdeal.nD Cert.OutRIdeal.τ).loc Cert.OutRIdeal.main_arg1) = m ((c.tc : Thread Cert.OutKIdeal.nD Cert.OutKIdeal.τ).loc Cert.OutKIdeal.main_arg1)
      ∧ m' ((c.tc : Thread Cert.OutRIdeal.nD Cert.OutRIdeal.τ).loc Cert.OutRIdeal.main_arg2) = m ((c.tc : Thread Cert.OutKIdeal.nD Cert.OutKIdeal.τ).loc Cert.OutKIdeal.main_arg2)
      ∧ m' ((c.tc : Thread Cert.OutRIdeal.nD Cert.OutRIdeal.τ).loc Cert.OutRIdeal.main_arg3) = m ((c.tc : Thread Cert.OutKIdeal.nD Cert.OutKIdeal.τ).loc Cert.OutKIdeal.main_arg3)
      ∧ m' ((c.tc : Thread Cert.OutRIdeal.nD Cert.OutRIdeal.τ).loc Cert.OutRIdeal.main_arg4) = m ((c.tc : Thread Cert.OutKIdeal.nD Cert.OutKIdeal.τ).loc Cert.OutKIdeal.main_arg4)
      ∧ m' ((c.tc : Thread Cert.OutRIdeal.nD Cert.OutRIdeal.τ).loc Cert.OutRIdeal.main_arg5) = m ((c.tc : Thread Cert.OutKIdeal.nD Cert.OutKIdeal.τ).loc Cert.OutKIdeal.main_arg5)
      ∧ m' ((c.tc : Thread Cert.OutRIdeal.nD Cert.OutRIdeal.τ).loc Cert.OutRIdeal.main_arg6) = m ((c.tc : Thread Cert.OutKIdeal.nD Cert.OutKIdeal.τ).loc Cert.OutKIdeal.main_arg6)
      ∧ m' ((c.tc : Thread Cert.OutRIdeal.nD Cert.OutRIdeal.τ).loc Cert.OutRIdeal.main_arg7) = m ((c.tc : Thread Cert.OutKIdeal.nD Cert.OutKIdeal.τ).loc Cert.OutKIdeal.main_arg7)
      ∧ m' ((c.tc : Thread Cert.OutRIdeal.nD Cert.OutRIdeal.τ).loc Cert.OutRIdeal.main_arg8) = m ((c.tc : Thread Cert.OutKIdeal.nD Cert.OutKIdeal.τ).loc Cert.OutKIdeal.main_arg8)
      ∧ m' ((c.tc : Thread Cert.OutRIdeal.nD Cert.OutRIdeal.τ).loc Cert.OutRIdeal.main_arg9) = m ((c.tc : Thread Cert.OutKIdeal.nD Cert.OutKIdeal.τ).loc Cert.OutKIdeal.main_arg9)
      ∧ m' ((c.tc : Thread Cert.OutRIdeal.nD Cert.OutRIdeal.τ).loc Cert.OutRIdeal.main_arg10) = m ((c.tc : Thread Cert.OutKIdeal.nD Cert.OutKIdeal.τ).loc Cert.OutKIdeal.main_arg10)) →
    ∃ (v0 : (c : Dev Cert.OutKIdeal.nD) → Buf (Elt Ideal) ((c.tc : Thread Cert.OutKIdeal.nD Cert.OutKIdeal.τ).loc Cert.OutKIdeal.main_v6)),
      θ_run (Cert.OutKIdeal.defs (F := Ideal)) (onTc (τ := Cert.OutKIdeal.τ) (Cert.OutKIdeal.main (F := Ideal))) ⟨m, fun _ => 0, g⟩ (fun r => ∀ c : Dev Cert.OutKIdeal.nD,
          r.2.mem ((c.tc : Thread Cert.OutKIdeal.nD Cert.OutKIdeal.τ).loc Cert.OutKIdeal.main_v6) = v0 c
          ∧ r.2.mem ((c.tc : Thread Cert.OutKIdeal.nD Cert.OutKIdeal.τ).loc Cert.OutKIdeal.main_arg0) = m ((c.tc : Thread Cert.OutKIdeal.nD Cert.OutKIdeal.τ).loc Cert.OutKIdeal.main_arg0)
          ∧ r.2.mem ((c.tc : Thread Cert.OutKIdeal.nD Cert.OutKIdeal.τ).loc Cert.OutKIdeal.main_arg1) = m ((c.tc : Thread Cert.OutKIdeal.nD Cert.OutKIdeal.τ).loc Cert.OutKIdeal.main_arg1)
          ∧ r.2.mem ((c.tc : Thread Cert.OutKIdeal.nD Cert.OutKIdeal.τ).loc Cert.OutKIdeal.main_arg2) = m ((c.tc : Thread Cert.OutKIdeal.nD Cert.OutKIdeal.τ).loc Cert.OutKIdeal.main_arg2)
          ∧ r.2.mem ((c.tc : Thread Cert.OutKIdeal.nD Cert.OutKIdeal.τ).loc Cert.OutKIdeal.main_arg3) = m ((c.tc : Thread Cert.OutKIdeal.nD Cert.OutKIdeal.τ).loc Cert.OutKIdeal.main_arg3)
          ∧ r.2.mem ((c.tc : Thread Cert.OutKIdeal.nD Cert.OutKIdeal.τ).loc Cert.OutKIdeal.main_arg4) = m ((c.tc : Thread Cert.OutKIdeal.nD Cert.OutKIdeal.τ).loc Cert.OutKIdeal.main_arg4)
          ∧ r.2.mem ((c.tc : Thread Cert.OutKIdeal.nD Cert.OutKIdeal.τ).loc Cert.OutKIdeal.main_arg5) = m ((c.tc : Thread Cert.OutKIdeal.nD Cert.OutKIdeal.τ).loc Cert.OutKIdeal.main_arg5)
          ∧ r.2.mem ((c.tc : Thread Cert.OutKIdeal.nD Cert.OutKIdeal.τ).loc Cert.OutKIdeal.main_arg6) = m ((c.tc : Thread Cert.OutKIdeal.nD Cert.OutKIdeal.τ).loc Cert.OutKIdeal.main_arg6)
          ∧ r.2.mem ((c.tc : Thread Cert.OutKIdeal.nD Cert.OutKIdeal.τ).loc Cert.OutKIdeal.main_arg7) = m ((c.tc : Thread Cert.OutKIdeal.nD Cert.OutKIdeal.τ).loc Cert.OutKIdeal.main_arg7)
          ∧ r.2.mem ((c.tc : Thread Cert.OutKIdeal.nD Cert.OutKIdeal.τ).loc Cert.OutKIdeal.main_arg8) = m ((c.tc : Thread Cert.OutKIdeal.nD Cert.OutKIdeal.τ).loc Cert.OutKIdeal.main_arg8)
          ∧ r.2.mem ((c.tc : Thread Cert.OutKIdeal.nD Cert.OutKIdeal.τ).loc Cert.OutKIdeal.main_arg9) = m ((c.tc : Thread Cert.OutKIdeal.nD Cert.OutKIdeal.τ).loc Cert.OutKIdeal.main_arg9)
          ∧ r.2.mem ((c.tc : Thread Cert.OutKIdeal.nD Cert.OutKIdeal.τ).loc Cert.OutKIdeal.main_arg10) = m ((c.tc : Thread Cert.OutKIdeal.nD Cert.OutKIdeal.τ).loc Cert.OutKIdeal.main_arg10))
      ∧ θ_run (Cert.OutRIdeal.defs (F := Ideal)) (onTc (τ := Cert.OutRIdeal.τ) (Cert.OutRIdeal.main (F := Ideal))) ⟨m', fun _ => 0, g'⟩ (fun r => ∀ c : Dev Cert.OutRIdeal.nD,
          r.2.mem ((c.tc : Thread Cert.OutRIdeal.nD Cert.OutRIdeal.τ).loc Cert.OutRIdeal.main_v61) = v0 c
          ∧ r.2.mem ((c.tc : Thread Cert.OutRIdeal.nD Cert.OutRIdeal.τ).loc Cert.OutRIdeal.main_arg0) = m' ((c.tc : Thread Cert.OutRIdeal.nD Cert.OutRIdeal.τ).loc Cert.OutRIdeal.main_arg0)
          ∧ r.2.mem ((c.tc : Thread Cert.OutRIdeal.nD Cert.OutRIdeal.τ).loc Cert.OutRIdeal.main_arg1) = m' ((c.tc : Thread Cert.OutRIdeal.nD Cert.OutRIdeal.τ).loc Cert.OutRIdeal.main_arg1)
          ∧ r.2.mem ((c.tc : Thread Cert.OutRIdeal.nD Cert.OutRIdeal.τ).loc Cert.OutRIdeal.main_arg2) = m' ((c.tc : Thread Cert.OutRIdeal.nD Cert.OutRIdeal.τ).loc Cert.OutRIdeal.main_arg2)
          ∧ r.2.mem ((c.tc : Thread Cert.OutRIdeal.nD Cert.OutRIdeal.τ).loc Cert.OutRIdeal.main_arg3) = m' ((c.tc : Thread Cert.OutRIdeal.nD Cert.OutRIdeal.τ).loc Cert.OutRIdeal.main_arg3)
          ∧ r.2.mem ((c.tc : Thread Cert.OutRIdeal.nD Cert.OutRIdeal.τ).loc Cert.OutRIdeal.main_arg4) = m' ((c.tc : Thread Cert.OutRIdeal.nD Cert.OutRIdeal.τ).loc Cert.OutRIdeal.main_arg4)
          ∧ r.2.mem ((c.tc : Thread Cert.OutRIdeal.nD Cert.OutRIdeal.τ).loc Cert.OutRIdeal.main_arg5) = m' ((c.tc : Thread Cert.OutRIdeal.nD Cert.OutRIdeal.τ).loc Cert.OutRIdeal.main_arg5)
          ∧ r.2.mem ((c.tc : Thread Cert.OutRIdeal.nD Cert.OutRIdeal.τ).loc Cert.OutRIdeal.main_arg6) = m' ((c.tc : Thread Cert.OutRIdeal.nD Cert.OutRIdeal.τ).loc Cert.OutRIdeal.main_arg6)
          ∧ r.2.mem ((c.tc : Thread Cert.OutRIdeal.nD Cert.OutRIdeal.τ).loc Cert.OutRIdeal.main_arg7) = m' ((c.tc : Thread Cert.OutRIdeal.nD Cert.OutRIdeal.τ).loc Cert.OutRIdeal.main_arg7)
          ∧ r.2.mem ((c.tc : Thread Cert.OutRIdeal.nD Cert.OutRIdeal.τ).loc Cert.OutRIdeal.main_arg8) = m' ((c.tc : Thread Cert.OutRIdeal.nD Cert.OutRIdeal.τ).loc Cert.OutRIdeal.main_arg8)
          ∧ r.2.mem ((c.tc : Thread Cert.OutRIdeal.nD Cert.OutRIdeal.τ).loc Cert.OutRIdeal.main_arg9) = m' ((c.tc : Thread Cert.OutRIdeal.nD Cert.OutRIdeal.τ).loc Cert.OutRIdeal.main_arg9)
          ∧ r.2.mem ((c.tc : Thread Cert.OutRIdeal.nD Cert.OutRIdeal.τ).loc Cert.OutRIdeal.main_arg10) = m' ((c.tc : Thread Cert.OutRIdeal.nD Cert.OutRIdeal.τ).loc Cert.OutRIdeal.main_arg10))

def preserves_InK_InKIdeal : Prop :=
  True

def algebraic_InKIdeal_InRIdeal [hInKIdeal : Cert.InKIdeal.Facts] [hInRIdeal : Cert.InRIdeal.Facts] : Prop :=
  ∀ (m : (ℓ : Loc Cert.InKIdeal.nD Cert.InKIdeal.τ Cert.InKIdeal.sig) → Buf (Elt Ideal) ℓ) (g : Dev Cert.InKIdeal.nD → PrngReg)
    (m' : (ℓ : Loc Cert.InRIdeal.nD Cert.InRIdeal.τ Cert.InRIdeal.sig) → Buf (Elt Ideal) ℓ) (g' : Dev Cert.InRIdeal.nD → PrngReg), Pre_InKIdeal m →
    (∀ c : Dev Cert.InKIdeal.nD,
      m' ((c.tc : Thread Cert.InRIdeal.nD Cert.InRIdeal.τ).loc Cert.InRIdeal.main_arg0) = m ((c.tc : Thread Cert.InKIdeal.nD Cert.InKIdeal.τ).loc Cert.InKIdeal.main_arg0)
      ∧ m' ((c.tc : Thread Cert.InRIdeal.nD Cert.InRIdeal.τ).loc Cert.InRIdeal.main_arg1) = m ((c.tc : Thread Cert.InKIdeal.nD Cert.InKIdeal.τ).loc Cert.InKIdeal.main_arg1)
      ∧ m' ((c.tc : Thread Cert.InRIdeal.nD Cert.InRIdeal.τ).loc Cert.InRIdeal.main_arg2) = m ((c.tc : Thread Cert.InKIdeal.nD Cert.InKIdeal.τ).loc Cert.InKIdeal.main_arg2)
      ∧ m' ((c.tc : Thread Cert.InRIdeal.nD Cert.InRIdeal.τ).loc Cert.InRIdeal.main_arg3) = m ((c.tc : Thread Cert.InKIdeal.nD Cert.InKIdeal.τ).loc Cert.InKIdeal.main_arg3)
      ∧ m' ((c.tc : Thread Cert.InRIdeal.nD Cert.InRIdeal.τ).loc Cert.InRIdeal.main_arg4) = m ((c.tc : Thread Cert.InKIdeal.nD Cert.InKIdeal.τ).loc Cert.InKIdeal.main_arg4)
      ∧ m' ((c.tc : Thread Cert.InRIdeal.nD Cert.InRIdeal.τ).loc Cert.InRIdeal.main_arg5) = m ((c.tc : Thread Cert.InKIdeal.nD Cert.InKIdeal.τ).loc Cert.InKIdeal.main_arg5)
      ∧ m' ((c.tc : Thread Cert.InRIdeal.nD Cert.InRIdeal.τ).loc Cert.InRIdeal.main_arg6) = m ((c.tc : Thread Cert.InKIdeal.nD Cert.InKIdeal.τ).loc Cert.InKIdeal.main_arg6)
      ∧ m' ((c.tc : Thread Cert.InRIdeal.nD Cert.InRIdeal.τ).loc Cert.InRIdeal.main_arg7) = m ((c.tc : Thread Cert.InKIdeal.nD Cert.InKIdeal.τ).loc Cert.InKIdeal.main_arg7)) →
    ∃ (v0 : (c : Dev Cert.InKIdeal.nD) → Buf (Elt Ideal) ((c.tc : Thread Cert.InKIdeal.nD Cert.InKIdeal.τ).loc Cert.InKIdeal.main_v61_0)) (v1 : (c : Dev Cert.InKIdeal.nD) → Buf (Elt Ideal) ((c.tc : Thread Cert.InKIdeal.nD Cert.InKIdeal.τ).loc Cert.InKIdeal.main_v61_1)) (v2 : (c : Dev Cert.InKIdeal.nD) → Buf (Elt Ideal) ((c.tc : Thread Cert.InKIdeal.nD Cert.InKIdeal.τ).loc Cert.InKIdeal.main_v61_2)) (v3 : (c : Dev Cert.InKIdeal.nD) → Buf (Elt Ideal) ((c.tc : Thread Cert.InKIdeal.nD Cert.InKIdeal.τ).loc Cert.InKIdeal.main_v61_3)) (v4 : (c : Dev Cert.InKIdeal.nD) → Buf (Elt Ideal) ((c.tc : Thread Cert.InKIdeal.nD Cert.InKIdeal.τ).loc Cert.InKIdeal.main_v61_4)) (v5 : (c : Dev Cert.InKIdeal.nD) → Buf (Elt Ideal) ((c.tc : Thread Cert.InKIdeal.nD Cert.InKIdeal.τ).loc Cert.InKIdeal.main_v61_5)) (v6 : (c : Dev Cert.InKIdeal.nD) → Buf (Elt Ideal) ((c.tc : Thread Cert.InKIdeal.nD Cert.InKIdeal.τ).loc Cert.InKIdeal.main_v61_6)),
      θ_run (Cert.InKIdeal.defs (F := Ideal)) (onTc (τ := Cert.InKIdeal.τ) (Cert.InKIdeal.main (F := Ideal))) ⟨m, fun _ => 0, g⟩ (fun r => ∀ c : Dev Cert.InKIdeal.nD,
          r.2.mem ((c.tc : Thread Cert.InKIdeal.nD Cert.InKIdeal.τ).loc Cert.InKIdeal.main_v61_0) = v0 c
          ∧ r.2.mem ((c.tc : Thread Cert.InKIdeal.nD Cert.InKIdeal.τ).loc Cert.InKIdeal.main_v61_1) = v1 c
          ∧ r.2.mem ((c.tc : Thread Cert.InKIdeal.nD Cert.InKIdeal.τ).loc Cert.InKIdeal.main_v61_2) = v2 c
          ∧ r.2.mem ((c.tc : Thread Cert.InKIdeal.nD Cert.InKIdeal.τ).loc Cert.InKIdeal.main_v61_3) = v3 c
          ∧ r.2.mem ((c.tc : Thread Cert.InKIdeal.nD Cert.InKIdeal.τ).loc Cert.InKIdeal.main_v61_4) = v4 c
          ∧ r.2.mem ((c.tc : Thread Cert.InKIdeal.nD Cert.InKIdeal.τ).loc Cert.InKIdeal.main_v61_5) = v5 c
          ∧ r.2.mem ((c.tc : Thread Cert.InKIdeal.nD Cert.InKIdeal.τ).loc Cert.InKIdeal.main_v61_6) = v6 c
          ∧ r.2.mem ((c.tc : Thread Cert.InKIdeal.nD Cert.InKIdeal.τ).loc Cert.InKIdeal.main_arg0) = m ((c.tc : Thread Cert.InKIdeal.nD Cert.InKIdeal.τ).loc Cert.InKIdeal.main_arg0)
          ∧ r.2.mem ((c.tc : Thread Cert.InKIdeal.nD Cert.InKIdeal.τ).loc Cert.InKIdeal.main_arg1) = m ((c.tc : Thread Cert.InKIdeal.nD Cert.InKIdeal.τ).loc Cert.InKIdeal.main_arg1)
          ∧ r.2.mem ((c.tc : Thread Cert.InKIdeal.nD Cert.InKIdeal.τ).loc Cert.InKIdeal.main_arg2) = m ((c.tc : Thread Cert.InKIdeal.nD Cert.InKIdeal.τ).loc Cert.InKIdeal.main_arg2)
          ∧ r.2.mem ((c.tc : Thread Cert.InKIdeal.nD Cert.InKIdeal.τ).loc Cert.InKIdeal.main_arg3) = m ((c.tc : Thread Cert.InKIdeal.nD Cert.InKIdeal.τ).loc Cert.InKIdeal.main_arg3)
          ∧ r.2.mem ((c.tc : Thread Cert.InKIdeal.nD Cert.InKIdeal.τ).loc Cert.InKIdeal.main_arg4) = m ((c.tc : Thread Cert.InKIdeal.nD Cert.InKIdeal.τ).loc Cert.InKIdeal.main_arg4)
          ∧ r.2.mem ((c.tc : Thread Cert.InKIdeal.nD Cert.InKIdeal.τ).loc Cert.InKIdeal.main_arg5) = m ((c.tc : Thread Cert.InKIdeal.nD Cert.InKIdeal.τ).loc Cert.InKIdeal.main_arg5)
          ∧ r.2.mem ((c.tc : Thread Cert.InKIdeal.nD Cert.InKIdeal.τ).loc Cert.InKIdeal.main_arg6) = m ((c.tc : Thread Cert.InKIdeal.nD Cert.InKIdeal.τ).loc Cert.InKIdeal.main_arg6)
          ∧ r.2.mem ((c.tc : Thread Cert.InKIdeal.nD Cert.InKIdeal.τ).loc Cert.InKIdeal.main_arg7) = m ((c.tc : Thread Cert.InKIdeal.nD Cert.InKIdeal.τ).loc Cert.InKIdeal.main_arg7))
      ∧ θ_run (Cert.InRIdeal.defs (F := Ideal)) (onTc (τ := Cert.InRIdeal.τ) (Cert.InRIdeal.main (F := Ideal))) ⟨m', fun _ => 0, g'⟩ (fun r => ∀ c : Dev Cert.InRIdeal.nD,
          r.2.mem ((c.tc : Thread Cert.InRIdeal.nD Cert.InRIdeal.τ).loc Cert.InRIdeal.main_v82) = v0 c
          ∧ r.2.mem ((c.tc : Thread Cert.InRIdeal.nD Cert.InRIdeal.τ).loc Cert.InRIdeal.main_v85) = v1 c
          ∧ r.2.mem ((c.tc : Thread Cert.InRIdeal.nD Cert.InRIdeal.τ).loc Cert.InRIdeal.main_v88) = v2 c
          ∧ r.2.mem ((c.tc : Thread Cert.InRIdeal.nD Cert.InRIdeal.τ).loc Cert.InRIdeal.main_v90) = v3 c
          ∧ r.2.mem ((c.tc : Thread Cert.InRIdeal.nD Cert.InRIdeal.τ).loc Cert.InRIdeal.main_v100) = v4 c
          ∧ r.2.mem ((c.tc : Thread Cert.InRIdeal.nD Cert.InRIdeal.τ).loc Cert.InRIdeal.main_v108) = v5 c
          ∧ r.2.mem ((c.tc : Thread Cert.InRIdeal.nD Cert.InRIdeal.τ).loc Cert.InRIdeal.main_v115) = v6 c
          ∧ r.2.mem ((c.tc : Thread Cert.InRIdeal.nD Cert.InRIdeal.τ).loc Cert.InRIdeal.main_arg0) = m' ((c.tc : Thread Cert.InRIdeal.nD Cert.InRIdeal.τ).loc Cert.InRIdeal.main_arg0)
          ∧ r.2.mem ((c.tc : Thread Cert.InRIdeal.nD Cert.InRIdeal.τ).loc Cert.InRIdeal.main_arg1) = m' ((c.tc : Thread Cert.InRIdeal.nD Cert.InRIdeal.τ).loc Cert.InRIdeal.main_arg1)
          ∧ r.2.mem ((c.tc : Thread Cert.InRIdeal.nD Cert.InRIdeal.τ).loc Cert.InRIdeal.main_arg2) = m' ((c.tc : Thread Cert.InRIdeal.nD Cert.InRIdeal.τ).loc Cert.InRIdeal.main_arg2)
          ∧ r.2.mem ((c.tc : Thread Cert.InRIdeal.nD Cert.InRIdeal.τ).loc Cert.InRIdeal.main_arg3) = m' ((c.tc : Thread Cert.InRIdeal.nD Cert.InRIdeal.τ).loc Cert.InRIdeal.main_arg3)
          ∧ r.2.mem ((c.tc : Thread Cert.InRIdeal.nD Cert.InRIdeal.τ).loc Cert.InRIdeal.main_arg4) = m' ((c.tc : Thread Cert.InRIdeal.nD Cert.InRIdeal.τ).loc Cert.InRIdeal.main_arg4)
          ∧ r.2.mem ((c.tc : Thread Cert.InRIdeal.nD Cert.InRIdeal.τ).loc Cert.InRIdeal.main_arg5) = m' ((c.tc : Thread Cert.InRIdeal.nD Cert.InRIdeal.τ).loc Cert.InRIdeal.main_arg5)
          ∧ r.2.mem ((c.tc : Thread Cert.InRIdeal.nD Cert.InRIdeal.τ).loc Cert.InRIdeal.main_arg6) = m' ((c.tc : Thread Cert.InRIdeal.nD Cert.InRIdeal.τ).loc Cert.InRIdeal.main_arg6)
          ∧ r.2.mem ((c.tc : Thread Cert.InRIdeal.nD Cert.InRIdeal.τ).loc Cert.InRIdeal.main_arg7) = m' ((c.tc : Thread Cert.InRIdeal.nD Cert.InRIdeal.τ).loc Cert.InRIdeal.main_arg7))

def preserves_WnK_WnKIdeal : Prop :=
  True

def algebraic_WnKIdeal_WnRIdeal [hWnKIdeal : Cert.WnKIdeal.Facts] [hWnRIdeal : Cert.WnRIdeal.Facts] : Prop :=
  ∀ (m : (ℓ : Loc Cert.WnKIdeal.nD Cert.WnKIdeal.τ Cert.WnKIdeal.sig) → Buf (Elt Ideal) ℓ) (g : Dev Cert.WnKIdeal.nD → PrngReg)
    (m' : (ℓ : Loc Cert.WnRIdeal.nD Cert.WnRIdeal.τ Cert.WnRIdeal.sig) → Buf (Elt Ideal) ℓ) (g' : Dev Cert.WnRIdeal.nD → PrngReg), Pre_WnKIdeal m →
    (∀ c : Dev Cert.WnKIdeal.nD,
      m' ((c.tc : Thread Cert.WnRIdeal.nD Cert.WnRIdeal.τ).loc Cert.WnRIdeal.main_arg0) = m ((c.tc : Thread Cert.WnKIdeal.nD Cert.WnKIdeal.τ).loc Cert.WnKIdeal.main_arg0)) →
    ∃ (v0 : (c : Dev Cert.WnKIdeal.nD) → Buf (Elt Ideal) ((c.tc : Thread Cert.WnKIdeal.nD Cert.WnKIdeal.τ).loc Cert.WnKIdeal.main_v1)),
      θ_run (Cert.WnKIdeal.defs (F := Ideal)) (onTc (τ := Cert.WnKIdeal.τ) (Cert.WnKIdeal.main (F := Ideal))) ⟨m, fun _ => 0, g⟩ (fun r => ∀ c : Dev Cert.WnKIdeal.nD,
          r.2.mem ((c.tc : Thread Cert.WnKIdeal.nD Cert.WnKIdeal.τ).loc Cert.WnKIdeal.main_v1) = v0 c
          ∧ r.2.mem ((c.tc : Thread Cert.WnKIdeal.nD Cert.WnKIdeal.τ).loc Cert.WnKIdeal.main_arg0) = m ((c.tc : Thread Cert.WnKIdeal.nD Cert.WnKIdeal.τ).loc Cert.WnKIdeal.main_arg0))
      ∧ θ_run (Cert.WnRIdeal.defs (F := Ideal)) (onTc (τ := Cert.WnRIdeal.τ) (Cert.WnRIdeal.main (F := Ideal))) ⟨m', fun _ => 0, g'⟩ (fun r => ∀ c : Dev Cert.WnRIdeal.nD,
          r.2.mem ((c.tc : Thread Cert.WnRIdeal.nD Cert.WnRIdeal.τ).loc Cert.WnRIdeal.main_v12) = v0 c
          ∧ r.2.mem ((c.tc : Thread Cert.WnRIdeal.nD Cert.WnRIdeal.τ).loc Cert.WnRIdeal.main_arg0) = m' ((c.tc : Thread Cert.WnRIdeal.nD Cert.WnRIdeal.τ).loc Cert.WnRIdeal.main_arg0))

def preserves_WtK_WtKIdeal : Prop :=
  True

def algebraic_WtKIdeal_WtRIdeal [hWtKIdeal : Cert.WtKIdeal.Facts] [hWtRIdeal : Cert.WtRIdeal.Facts] : Prop :=
  ∀ (m : (ℓ : Loc Cert.WtKIdeal.nD Cert.WtKIdeal.τ Cert.WtKIdeal.sig) → Buf (Elt Ideal) ℓ) (g : Dev Cert.WtKIdeal.nD → PrngReg)
    (m' : (ℓ : Loc Cert.WtRIdeal.nD Cert.WtRIdeal.τ Cert.WtRIdeal.sig) → Buf (Elt Ideal) ℓ) (g' : Dev Cert.WtRIdeal.nD → PrngReg), Pre_WtKIdeal m →
    (∀ c : Dev Cert.WtKIdeal.nD,
      m' ((c.tc : Thread Cert.WtRIdeal.nD Cert.WtRIdeal.τ).loc Cert.WtRIdeal.main_arg0) = m ((c.tc : Thread Cert.WtKIdeal.nD Cert.WtKIdeal.τ).loc Cert.WtKIdeal.main_arg0)) →
    ∃ (v0 : (c : Dev Cert.WtKIdeal.nD) → Buf (Elt Ideal) ((c.tc : Thread Cert.WtKIdeal.nD Cert.WtKIdeal.τ).loc Cert.WtKIdeal.main_v18)),
      θ_run (Cert.WtKIdeal.defs (F := Ideal)) (onTc (τ := Cert.WtKIdeal.τ) (Cert.WtKIdeal.main (F := Ideal))) ⟨m, fun _ => 0, g⟩ (fun r => ∀ c : Dev Cert.WtKIdeal.nD,
          r.2.mem ((c.tc : Thread Cert.WtKIdeal.nD Cert.WtKIdeal.τ).loc Cert.WtKIdeal.main_v18) = v0 c
          ∧ r.2.mem ((c.tc : Thread Cert.WtKIdeal.nD Cert.WtKIdeal.τ).loc Cert.WtKIdeal.main_arg0) = m ((c.tc : Thread Cert.WtKIdeal.nD Cert.WtKIdeal.τ).loc Cert.WtKIdeal.main_arg0))
      ∧ θ_run (Cert.WtRIdeal.defs (F := Ideal)) (onTc (τ := Cert.WtRIdeal.τ) (Cert.WtRIdeal.main (F := Ideal))) ⟨m', fun _ => 0, g'⟩ (fun r => ∀ c : Dev Cert.WtRIdeal.nD,
          r.2.mem ((c.tc : Thread Cert.WtRIdeal.nD Cert.WtRIdeal.τ).loc Cert.WtRIdeal.main_v14) = v0 c
          ∧ r.2.mem ((c.tc : Thread Cert.WtRIdeal.nD Cert.WtRIdeal.τ).loc Cert.WtRIdeal.main_arg0) = m' ((c.tc : Thread Cert.WtRIdeal.nD Cert.WtRIdeal.τ).loc Cert.WtRIdeal.main_arg0))

def preserves_AdK_AdKIdeal : Prop :=
  True

def algebraic_AdKIdeal_AdRIdeal_pre_finite_vectors_and_weights [hAdKIdeal : Cert.AdKIdeal.Facts] [hAdRIdeal : Cert.AdRIdeal.Facts] [hPre_finite_vectors_and_weights : Cert.Pre_finite_vectors_and_weights.Facts] : Prop :=
  ∀ (m : (ℓ : Loc Cert.AdKIdeal.nD Cert.AdKIdeal.τ Cert.AdKIdeal.sig) → Buf (Elt Ideal) ℓ) (g : Dev Cert.AdKIdeal.nD → PrngReg)
    (m' : (ℓ : Loc Cert.AdRIdeal.nD Cert.AdRIdeal.τ Cert.AdRIdeal.sig) → Buf (Elt Ideal) ℓ) (g' : Dev Cert.AdRIdeal.nD → PrngReg), Pre_AdKIdeal_finite_vectors_and_weights m →
    (∀ c : Dev Cert.AdKIdeal.nD,
      m' ((c.tc : Thread Cert.AdRIdeal.nD Cert.AdRIdeal.τ).loc Cert.AdRIdeal.main_arg0) = m ((c.tc : Thread Cert.AdKIdeal.nD Cert.AdKIdeal.τ).loc Cert.AdKIdeal.main_arg0)
      ∧ m' ((c.tc : Thread Cert.AdRIdeal.nD Cert.AdRIdeal.τ).loc Cert.AdRIdeal.main_arg1) = m ((c.tc : Thread Cert.AdKIdeal.nD Cert.AdKIdeal.τ).loc Cert.AdKIdeal.main_arg1)
      ∧ m' ((c.tc : Thread Cert.AdRIdeal.nD Cert.AdRIdeal.τ).loc Cert.AdRIdeal.main_arg2) = m ((c.tc : Thread Cert.AdKIdeal.nD Cert.AdKIdeal.τ).loc Cert.AdKIdeal.main_arg2)
      ∧ m' ((c.tc : Thread Cert.AdRIdeal.nD Cert.AdRIdeal.τ).loc Cert.AdRIdeal.main_arg3) = m ((c.tc : Thread Cert.AdKIdeal.nD Cert.AdKIdeal.τ).loc Cert.AdKIdeal.main_arg3)) →
    ∃ (v0 : (c : Dev Cert.AdKIdeal.nD) → Buf (Elt Ideal) ((c.tc : Thread Cert.AdKIdeal.nD Cert.AdKIdeal.τ).loc Cert.AdKIdeal.main_v3)),
      θ_run (Cert.AdKIdeal.defs (F := Ideal)) (onTc (τ := Cert.AdKIdeal.τ) (Cert.AdKIdeal.main (F := Ideal))) ⟨m, fun _ => 0, g⟩ (fun r => ∀ c : Dev Cert.AdKIdeal.nD,
          r.2.mem ((c.tc : Thread Cert.AdKIdeal.nD Cert.AdKIdeal.τ).loc Cert.AdKIdeal.main_v3) = v0 c
          ∧ r.2.mem ((c.tc : Thread Cert.AdKIdeal.nD Cert.AdKIdeal.τ).loc Cert.AdKIdeal.main_arg0) = m ((c.tc : Thread Cert.AdKIdeal.nD Cert.AdKIdeal.τ).loc Cert.AdKIdeal.main_arg0)
          ∧ r.2.mem ((c.tc : Thread Cert.AdKIdeal.nD Cert.AdKIdeal.τ).loc Cert.AdKIdeal.main_arg1) = m ((c.tc : Thread Cert.AdKIdeal.nD Cert.AdKIdeal.τ).loc Cert.AdKIdeal.main_arg1)
          ∧ r.2.mem ((c.tc : Thread Cert.AdKIdeal.nD Cert.AdKIdeal.τ).loc Cert.AdKIdeal.main_arg2) = m ((c.tc : Thread Cert.AdKIdeal.nD Cert.AdKIdeal.τ).loc Cert.AdKIdeal.main_arg2)
          ∧ r.2.mem ((c.tc : Thread Cert.AdKIdeal.nD Cert.AdKIdeal.τ).loc Cert.AdKIdeal.main_arg3) = m ((c.tc : Thread Cert.AdKIdeal.nD Cert.AdKIdeal.τ).loc Cert.AdKIdeal.main_arg3))
      ∧ θ_run (Cert.AdRIdeal.defs (F := Ideal)) (onTc (τ := Cert.AdRIdeal.τ) (Cert.AdRIdeal.main (F := Ideal))) ⟨m', fun _ => 0, g'⟩ (fun r => ∀ c : Dev Cert.AdRIdeal.nD,
          r.2.mem ((c.tc : Thread Cert.AdRIdeal.nD Cert.AdRIdeal.τ).loc Cert.AdRIdeal.main_v6) = v0 c
          ∧ r.2.mem ((c.tc : Thread Cert.AdRIdeal.nD Cert.AdRIdeal.τ).loc Cert.AdRIdeal.main_arg0) = m' ((c.tc : Thread Cert.AdRIdeal.nD Cert.AdRIdeal.τ).loc Cert.AdRIdeal.main_arg0)
          ∧ r.2.mem ((c.tc : Thread Cert.AdRIdeal.nD Cert.AdRIdeal.τ).loc Cert.AdRIdeal.main_arg1) = m' ((c.tc : Thread Cert.AdRIdeal.nD Cert.AdRIdeal.τ).loc Cert.AdRIdeal.main_arg1)
          ∧ r.2.mem ((c.tc : Thread Cert.AdRIdeal.nD Cert.AdRIdeal.τ).loc Cert.AdRIdeal.main_arg2) = m' ((c.tc : Thread Cert.AdRIdeal.nD Cert.AdRIdeal.τ).loc Cert.AdRIdeal.main_arg2)
          ∧ r.2.mem ((c.tc : Thread Cert.AdRIdeal.nD Cert.AdRIdeal.τ).loc Cert.AdRIdeal.main_arg3) = m' ((c.tc : Thread Cert.AdRIdeal.nD Cert.AdRIdeal.τ).loc Cert.AdRIdeal.main_arg3))

def preserves_CxK_CxKIdeal : Prop :=
  True

def algebraic_CxKIdeal_CxRIdeal_pre_gates_above_minus_infinity [hCxKIdeal : Cert.CxKIdeal.Facts] [hCxRIdeal : Cert.CxRIdeal.Facts] [hPre_gates_above_minus_infinity : Cert.Pre_gates_above_minus_infinity.Facts] : Prop :=
  ∀ (m : (ℓ : Loc Cert.CxKIdeal.nD Cert.CxKIdeal.τ Cert.CxKIdeal.sig) → Buf (Elt Ideal) ℓ) (g : Dev Cert.CxKIdeal.nD → PrngReg)
    (m' : (ℓ : Loc Cert.CxRIdeal.nD Cert.CxRIdeal.τ Cert.CxRIdeal.sig) → Buf (Elt Ideal) ℓ) (g' : Dev Cert.CxRIdeal.nD → PrngReg), Pre_CxKIdeal_gates_above_minus_infinity m →
    (∀ c : Dev Cert.CxKIdeal.nD,
      m' ((c.tc : Thread Cert.CxRIdeal.nD Cert.CxRIdeal.τ).loc Cert.CxRIdeal.main_arg0) = m ((c.tc : Thread Cert.CxKIdeal.nD Cert.CxKIdeal.τ).loc Cert.CxKIdeal.main_arg0)
      ∧ m' ((c.tc : Thread Cert.CxRIdeal.nD Cert.CxRIdeal.τ).loc Cert.CxRIdeal.main_arg1) = m ((c.tc : Thread Cert.CxKIdeal.nD Cert.CxKIdeal.τ).loc Cert.CxKIdeal.main_arg1)
      ∧ m' ((c.tc : Thread Cert.CxRIdeal.nD Cert.CxRIdeal.τ).loc Cert.CxRIdeal.main_arg2) = m ((c.tc : Thread Cert.CxKIdeal.nD Cert.CxKIdeal.τ).loc Cert.CxKIdeal.main_arg2)
      ∧ m' ((c.tc : Thread Cert.CxRIdeal.nD Cert.CxRIdeal.τ).loc Cert.CxRIdeal.main_arg3) = m ((c.tc : Thread Cert.CxKIdeal.nD Cert.CxKIdeal.τ).loc Cert.CxKIdeal.main_arg3)
      ∧ m' ((c.tc : Thread Cert.CxRIdeal.nD Cert.CxRIdeal.τ).loc Cert.CxRIdeal.main_arg4) = m ((c.tc : Thread Cert.CxKIdeal.nD Cert.CxKIdeal.τ).loc Cert.CxKIdeal.main_arg4)
      ∧ m' ((c.tc : Thread Cert.CxRIdeal.nD Cert.CxRIdeal.τ).loc Cert.CxRIdeal.main_arg5) = m ((c.tc : Thread Cert.CxKIdeal.nD Cert.CxKIdeal.τ).loc Cert.CxKIdeal.main_arg5)
      ∧ m' ((c.tc : Thread Cert.CxRIdeal.nD Cert.CxRIdeal.τ).loc Cert.CxRIdeal.main_arg6) = m ((c.tc : Thread Cert.CxKIdeal.nD Cert.CxKIdeal.τ).loc Cert.CxKIdeal.main_arg6)) →
    ∃ (v0 : (c : Dev Cert.CxKIdeal.nD) → Buf (Elt Ideal) ((c.tc : Thread Cert.CxKIdeal.nD Cert.CxKIdeal.τ).loc Cert.CxKIdeal.main_v1_0)) (v1 : (c : Dev Cert.CxKIdeal.nD) → Buf (Elt Ideal) ((c.tc : Thread Cert.CxKIdeal.nD Cert.CxKIdeal.τ).loc Cert.CxKIdeal.main_v1_1)),
      θ_run (Cert.CxKIdeal.defs (F := Ideal)) (onTc (τ := Cert.CxKIdeal.τ) (Cert.CxKIdeal.main (F := Ideal))) ⟨m, fun _ => 0, g⟩ (fun r => ∀ c : Dev Cert.CxKIdeal.nD,
          r.2.mem ((c.tc : Thread Cert.CxKIdeal.nD Cert.CxKIdeal.τ).loc Cert.CxKIdeal.main_v1_0) = v0 c
          ∧ r.2.mem ((c.tc : Thread Cert.CxKIdeal.nD Cert.CxKIdeal.τ).loc Cert.CxKIdeal.main_v1_1) = v1 c
          ∧ r.2.mem ((c.tc : Thread Cert.CxKIdeal.nD Cert.CxKIdeal.τ).loc Cert.CxKIdeal.main_arg0) = m ((c.tc : Thread Cert.CxKIdeal.nD Cert.CxKIdeal.τ).loc Cert.CxKIdeal.main_arg0)
          ∧ r.2.mem ((c.tc : Thread Cert.CxKIdeal.nD Cert.CxKIdeal.τ).loc Cert.CxKIdeal.main_arg1) = m ((c.tc : Thread Cert.CxKIdeal.nD Cert.CxKIdeal.τ).loc Cert.CxKIdeal.main_arg1)
          ∧ r.2.mem ((c.tc : Thread Cert.CxKIdeal.nD Cert.CxKIdeal.τ).loc Cert.CxKIdeal.main_arg2) = m ((c.tc : Thread Cert.CxKIdeal.nD Cert.CxKIdeal.τ).loc Cert.CxKIdeal.main_arg2)
          ∧ r.2.mem ((c.tc : Thread Cert.CxKIdeal.nD Cert.CxKIdeal.τ).loc Cert.CxKIdeal.main_arg3) = m ((c.tc : Thread Cert.CxKIdeal.nD Cert.CxKIdeal.τ).loc Cert.CxKIdeal.main_arg3)
          ∧ r.2.mem ((c.tc : Thread Cert.CxKIdeal.nD Cert.CxKIdeal.τ).loc Cert.CxKIdeal.main_arg4) = m ((c.tc : Thread Cert.CxKIdeal.nD Cert.CxKIdeal.τ).loc Cert.CxKIdeal.main_arg4)
          ∧ r.2.mem ((c.tc : Thread Cert.CxKIdeal.nD Cert.CxKIdeal.τ).loc Cert.CxKIdeal.main_arg5) = m ((c.tc : Thread Cert.CxKIdeal.nD Cert.CxKIdeal.τ).loc Cert.CxKIdeal.main_arg5)
          ∧ r.2.mem ((c.tc : Thread Cert.CxKIdeal.nD Cert.CxKIdeal.τ).loc Cert.CxKIdeal.main_arg6) = m ((c.tc : Thread Cert.CxKIdeal.nD Cert.CxKIdeal.τ).loc Cert.CxKIdeal.main_arg6))
      ∧ θ_run (Cert.CxRIdeal.defs (F := Ideal)) (onTc (τ := Cert.CxRIdeal.τ) (Cert.CxRIdeal.main (F := Ideal))) ⟨m', fun _ => 0, g'⟩ (fun r => ∀ c : Dev Cert.CxRIdeal.nD,
          r.2.mem ((c.tc : Thread Cert.CxRIdeal.nD Cert.CxRIdeal.τ).loc Cert.CxRIdeal.main_v112) = v0 c
          ∧ r.2.mem ((c.tc : Thread Cert.CxRIdeal.nD Cert.CxRIdeal.τ).loc Cert.CxRIdeal.main_v87) = v1 c
          ∧ r.2.mem ((c.tc : Thread Cert.CxRIdeal.nD Cert.CxRIdeal.τ).loc Cert.CxRIdeal.main_arg0) = m' ((c.tc : Thread Cert.CxRIdeal.nD Cert.CxRIdeal.τ).loc Cert.CxRIdeal.main_arg0)
          ∧ r.2.mem ((c.tc : Thread Cert.CxRIdeal.nD Cert.CxRIdeal.τ).loc Cert.CxRIdeal.main_arg1) = m' ((c.tc : Thread Cert.CxRIdeal.nD Cert.CxRIdeal.τ).loc Cert.CxRIdeal.main_arg1)
          ∧ r.2.mem ((c.tc : Thread Cert.CxRIdeal.nD Cert.CxRIdeal.τ).loc Cert.CxRIdeal.main_arg2) = m' ((c.tc : Thread Cert.CxRIdeal.nD Cert.CxRIdeal.τ).loc Cert.CxRIdeal.main_arg2)
          ∧ r.2.mem ((c.tc : Thread Cert.CxRIdeal.nD Cert.CxRIdeal.τ).loc Cert.CxRIdeal.main_arg3) = m' ((c.tc : Thread Cert.CxRIdeal.nD Cert.CxRIdeal.τ).loc Cert.CxRIdeal.main_arg3)
          ∧ r.2.mem ((c.tc : Thread Cert.CxRIdeal.nD Cert.CxRIdeal.τ).loc Cert.CxRIdeal.main_arg4) = m' ((c.tc : Thread Cert.CxRIdeal.nD Cert.CxRIdeal.τ).loc Cert.CxRIdeal.main_arg4)
          ∧ r.2.mem ((c.tc : Thread Cert.CxRIdeal.nD Cert.CxRIdeal.τ).loc Cert.CxRIdeal.main_arg5) = m' ((c.tc : Thread Cert.CxRIdeal.nD Cert.CxRIdeal.τ).loc Cert.CxRIdeal.main_arg5)
          ∧ r.2.mem ((c.tc : Thread Cert.CxRIdeal.nD Cert.CxRIdeal.τ).loc Cert.CxRIdeal.main_arg6) = m' ((c.tc : Thread Cert.CxRIdeal.nD Cert.CxRIdeal.τ).loc Cert.CxRIdeal.main_arg6))

def Claim : Prop :=
  ∃ (hOutK : Cert.OutK.Facts) (hOutKIdeal : Cert.OutKIdeal.Facts) (hOutRIdeal : Cert.OutRIdeal.Facts) (hInK : Cert.InK.Facts) (hInKIdeal : Cert.InKIdeal.Facts) (hInRIdeal : Cert.InRIdeal.Facts) (hWnK : Cert.WnK.Facts) (hWnKIdeal : Cert.WnKIdeal.Facts) (hWnRIdeal : Cert.WnRIdeal.Facts) (hWtK : Cert.WtK.Facts) (hWtKIdeal : Cert.WtKIdeal.Facts) (hWtRIdeal : Cert.WtRIdeal.Facts) (hAdK : Cert.AdK.Facts) (hAdKIdeal : Cert.AdKIdeal.Facts) (hAdRIdeal : Cert.AdRIdeal.Facts) (hCxK : Cert.CxK.Facts) (hCxKIdeal : Cert.CxKIdeal.Facts) (hCxRIdeal : Cert.CxRIdeal.Facts) (hPre_finite_vectors_and_weights : Cert.Pre_finite_vectors_and_weights.Facts) (hPre_gates_above_minus_infinity : Cert.Pre_gates_above_minus_infinity.Facts),
    quiescent_OutK (hOutK := hOutK)
    ∧ quiescent_OutKIdeal (hOutKIdeal := hOutKIdeal)
    ∧ quiescent_OutRIdeal (hOutRIdeal := hOutRIdeal)
    ∧ quiescent_InK (hInK := hInK)
    ∧ quiescent_InKIdeal (hInKIdeal := hInKIdeal)
    ∧ quiescent_InRIdeal (hInRIdeal := hInRIdeal)
    ∧ quiescent_WnK (hWnK := hWnK)
    ∧ quiescent_WnKIdeal (hWnKIdeal := hWnKIdeal)
    ∧ quiescent_WnRIdeal (hWnRIdeal := hWnRIdeal)
    ∧ quiescent_WtK (hWtK := hWtK)
    ∧ quiescent_WtKIdeal (hWtKIdeal := hWtKIdeal)
    ∧ quiescent_WtRIdeal (hWtRIdeal := hWtRIdeal)
    ∧ quiescent_AdK (hAdK := hAdK)
    ∧ quiescent_AdKIdeal (hAdKIdeal := hAdKIdeal)
    ∧ quiescent_AdKIdeal_pre_finite_vectors_and_weights (hAdKIdeal := hAdKIdeal) (hPre_finite_vectors_and_weights := hPre_finite_vectors_and_weights)
    ∧ quiescent_AdRIdeal (hAdRIdeal := hAdRIdeal)
    ∧ quiescent_AdRIdeal_pre_finite_vectors_and_weights (hAdRIdeal := hAdRIdeal) (hPre_finite_vectors_and_weights := hPre_finite_vectors_and_weights)
    ∧ quiescent_CxK (hCxK := hCxK)
    ∧ quiescent_CxKIdeal (hCxKIdeal := hCxKIdeal)
    ∧ quiescent_CxKIdeal_pre_gates_above_minus_infinity (hCxKIdeal := hCxKIdeal) (hPre_gates_above_minus_infinity := hPre_gates_above_minus_infinity)
    ∧ quiescent_CxRIdeal (hCxRIdeal := hCxRIdeal)
    ∧ quiescent_CxRIdeal_pre_gates_above_minus_infinity (hCxRIdeal := hCxRIdeal) (hPre_gates_above_minus_infinity := hPre_gates_above_minus_infinity)
    ∧ preserves_OutK_OutKIdeal
    ∧ algebraic_OutKIdeal_OutRIdeal (hOutKIdeal := hOutKIdeal) (hOutRIdeal := hOutRIdeal)
    ∧ preserves_InK_InKIdeal
    ∧ algebraic_InKIdeal_InRIdeal (hInKIdeal := hInKIdeal) (hInRIdeal := hInRIdeal)
    ∧ preserves_WnK_WnKIdeal
    ∧ algebraic_WnKIdeal_WnRIdeal (hWnKIdeal := hWnKIdeal) (hWnRIdeal := hWnRIdeal)
    ∧ preserves_WtK_WtKIdeal
    ∧ algebraic_WtKIdeal_WtRIdeal (hWtKIdeal := hWtKIdeal) (hWtRIdeal := hWtRIdeal)
    ∧ preserves_AdK_AdKIdeal
    ∧ algebraic_AdKIdeal_AdRIdeal_pre_finite_vectors_and_weights (hAdKIdeal := hAdKIdeal) (hAdRIdeal := hAdRIdeal) (hPre_finite_vectors_and_weights := hPre_finite_vectors_and_weights)
    ∧ preserves_CxK_CxKIdeal
    ∧ algebraic_CxKIdeal_CxRIdeal_pre_gates_above_minus_infinity (hCxKIdeal := hCxKIdeal) (hCxRIdeal := hCxRIdeal) (hPre_gates_above_minus_infinity := hPre_gates_above_minus_infinity)
-- ==== Pre_finite_vectors_and_weights.lean ====
abbrev S16x1024 : Shape := ⟨2, ![16, 1024]⟩
abbrev S1024 : Shape := ⟨1, ![1024]⟩
abbrev S1024x6144 : Shape := ⟨2, ![1024, 6144]⟩
abbrev S6144 : Shape := ⟨1, ![6144]⟩
abbrev S1x1024 : Shape := ⟨2, ![1, 1024]⟩
abbrev S6144x1024 : Shape := ⟨2, ![6144, 1024]⟩
abbrev S6161x1024 : Shape := ⟨2, ![6161, 1024]⟩
abbrev S_ : Shape := ⟨0, ![]⟩

class Facts : Prop where
  bcast_S1024_S1x1024_1 : S1024.BroadcastsInDim S1x1024 (![1] : Fin 1 → Fin S1x1024.rank)
  transposes_S1024x6144_S6144x1024_1_0 : S1024x6144.Transposes [1, 0] S6144x1024
  concatenates_S16x1024_S1x1024_S6144x1024_S6161x1024_d0 : Shape.Concatenates [S16x1024, S1x1024, S6144x1024] S6161x1024 0
  bcast_S_S6161x1024 : S_.BroadcastsInDim S6161x1024 (![] : Fin 0 → Fin S6161x1024.rank)

variable [Facts]

def fn {F : FTy → Type} [FloatOps F] (main_arg0 : FVec F S16x1024 .f32) (main_arg1 : FVec F S1024 .f32) (main_arg2 : FVec F S1024x6144 .f32) (main_arg3 : FVec F S6144 .f32) : IVec S6161x1024 1 :=
  let main_v0 : FVec F S1x1024 .f32 := broadcastInDim S1x1024 ![1] bcast_S1024_S1x1024_1 main_arg1
  let main_v1 : FVec F S6144x1024 .f32 := (transpose S6144x1024 [1, 0] · transposes_S1024x6144_S6144x1024_1_0) main_arg2
  let main_v2 : FVec F S6161x1024 .f32 := concatenate S6161x1024 0 [⟨S16x1024, main_arg0⟩, ⟨S1x1024, main_v0⟩, ⟨S6144x1024, main_v1⟩] concatenates_S16x1024_S1x1024_S6144x1024_S6161x1024_d0
  let main_v3 : FVec F S6161x1024 .f32 := Host.absf main_v2
  let main_cst : FVec F S_ .f32 := constant S_ .f32 0x7F800000#32
  let main_v4 : FVec F S6161x1024 .f32 := broadcastInDim S6161x1024 ![] bcast_S_S6161x1024 main_cst
  let main_v5 : IVec S6161x1024 1 := cmpf .olt main_v3 main_v4
  main_v5
-- ==== Pre_gates_above_minus_infinity.lean ====
abbrev S16x256x1024 : Shape := ⟨3, ![16, 256, 1024]⟩
abbrev S17x6144 : Shape := ⟨2, ![17, 6144]⟩
abbrev S1024 : Shape := ⟨1, ![1024]⟩
abbrev S1024x6656 : Shape := ⟨2, ![1024, 6656]⟩
abbrev S1x6656 : Shape := ⟨2, ![1, 6656]⟩
abbrev S2048x1024 : Shape := ⟨2, ![2048, 1024]⟩
abbrev S2048x1 : Shape := ⟨2, ![2048, 1]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S1x1024 : Shape := ⟨2, ![1, 1024]⟩
abbrev S32x1024 : Shape := ⟨2, ![32, 1024]⟩
abbrev S1024x32 : Shape := ⟨2, ![1024, 32]⟩
abbrev S16x256x32 : Shape := ⟨3, ![16, 256, 32]⟩
abbrev S32x1 : Shape := ⟨2, ![32, 1]⟩
abbrev S32 : Shape := ⟨1, ![32]⟩
abbrev S1x1x32 : Shape := ⟨3, ![1, 1, 32]⟩

class Facts : Prop where
  reducesTo_S16x256x1024_S16x256_d2 : S16x256x1024.ReducesTo [2] S16x256
  h_S_ : 0 < S_.numel
  bcast_S16x256_S16x256x1_0_1 : S16x256.BroadcastsInDim S16x256x1 (![0, 1] : Fin 2 → Fin S16x256x1.rank)
  bcast_S_S16x256x1 : S_.BroadcastsInDim S16x256x1 (![] : Fin 0 → Fin S16x256x1.rank)
  bcast_S16x256x1_S16x256x1024_0_1_2 : S16x256x1.BroadcastsInDim S16x256x1024 (![0, 1, 2] : Fin 3 → Fin S16x256x1024.rank)
  bcast_S1024_S1x1x1024_2 : S1024.BroadcastsInDim S1x1x1024 (![2] : Fin 1 → Fin S1x1x1024.rank)
  bcast_S1x1x1024_S16x256x1024_0_1_2 : S1x1x1024.BroadcastsInDim S16x256x1024 (![0, 1, 2] : Fin 3 → Fin S16x256x1024.rank)
  slices_S17x6144_S1x1024_16_1024 : S17x6144.Slices ![16, 1024] S1x1024
  shapeCasts_S1x1024_S1024 : S1x1024.ShapeCasts S1024
  bcast_S_S1024 : S_.BroadcastsInDim S1024 (![] : Fin 0 → Fin S1024.rank)
  slices_S17x6144_S1x1024_16_0 : S17x6144.Slices ![16, 0] S1x1024
  slices_S2048x1024_S32x1024_1536_0 : S2048x1024.Slices ![1536, 0] S32x1024
  bitsLt_bf16_f32 : FTy.bits .bf16 < FTy.bits .f32
  transposes_S32x1024_S1024x32_1_0 : S32x1024.Transposes [1, 0] S1024x32
  slices_S2048x1_S32x1_1536_0 : S2048x1.Slices ![1536, 0] S32x1
  shapeCasts_S32x1_S32 : S32x1.ShapeCasts S32
  bcast_S32_S1x1x32_2 : S32.BroadcastsInDim S1x1x32 (![2] : Fin 1 → Fin S1x1x32.rank)
  bcast_S1x1x32_S16x256x32_0_1_2 : S1x1x32.BroadcastsInDim S16x256x32 (![0, 1, 2] : Fin 3 → Fin S16x256x32.rank)
  bcast_S_S16x256x32 : S_.BroadcastsInDim S16x256x32 (![] : Fin 0 → Fin S16x256x32.rank)
  dot_S16x256x1024_S1024x32_S16x256x32_2_0_01_1_n_n_wf : DotDims.WF S16x256x1024 S1024x32 S16x256x32 [2] [0] [0, 1] [1] [] []

variable [Facts]

def dot_S16x256x1024_S1024x32_S16x256x32_2_0_01_1_n_n : DotDims S16x256x1024 S1024x32 S16x256x32 where
  lhsContracting := [2]
  rhsContracting := [0]
  lhsNonContracting := [0, 1]
  rhsNonContracting := [1]
  lhsBatch := []
  rhsBatch := []
  wf := dot_S16x256x1024_S1024x32_S16x256x32_2_0_01_1_n_n_wf
def fn_part1 {F : FTy → Type} [FloatOps F] (main_arg1 : FVec F S17x6144 .f32) (main_arg5 : FVec F S2048x1024 .bf16) (main_arg6 : FVec F S2048x1 .f32) (main_v19 : FVec F S16x256x1024 .f32) : IVec S16x256x32 1 :=
  let main_v20 : FVec F S1x1024 .f32 := (extractStridedSlice S1x1024 ![16, 0] · slices_S17x6144_S1x1024_16_0) main_arg1
  let main_v21 : FVec F S1024 .f32 := shapeCast S1024 main_v20 shapeCasts_S1x1024_S1024
  let main_v22 : FVec F S1x1x1024 .f32 := broadcastInDim S1x1x1024 ![2] bcast_S1024_S1x1x1024_2 main_v21
  let main_v23 : FVec F S16x256x1024 .f32 := broadcastInDim S16x256x1024 ![0, 1, 2] bcast_S1x1x1024_S16x256x1024_0_1_2 main_v22
  let main_v24 : FVec F S16x256x1024 .f32 := addf main_v19 main_v23
  let main_v25 : FVec F S32x1024 .bf16 := (extractStridedSlice S32x1024 ![1536, 0] · slices_S2048x1024_S32x1024_1536_0) main_arg5
  let main_v26 : FVec F S32x1024 .f32 := (extf .f32 · bitsLt_bf16_f32) main_v25
  let main_v27 : FVec F S1024x32 .f32 := (transpose S1024x32 [1, 0] · transposes_S32x1024_S1024x32_1_0) main_v26
  let main_v28 : FVec F S16x256x32 .f32 := (fun l r => Host.dotGeneral dot_S16x256x1024_S1024x32_S16x256x32_2_0_01_1_n_n none l r) main_v24 main_v27
  let main_v29 : FVec F S32x1 .f32 := (extractStridedSlice S32x1 ![1536, 0] · slices_S2048x1_S32x1_1536_0) main_arg6
  let main_v30 : FVec F S32 .f32 := shapeCast S32 main_v29 shapeCasts_S32x1_S32
  let main_v31 : FVec F S1x1x32 .f32 := broadcastInDim S1x1x32 ![2] bcast_S32_S1x1x32_2 main_v30
  let main_v32 : FVec F S16x256x32 .f32 := broadcastInDim S16x256x32 ![0, 1, 2] bcast_S1x1x32_S16x256x32_0_1_2 main_v31
  let main_v33 : FVec F S16x256x32 .f32 := addf main_v28 main_v32
  let main_cst_3 : FVec F S_ .f32 := constant S_ .f32 0xFF800000#32
  let main_v34 : FVec F S16x256x32 .f32 := broadcastInDim S16x256x32 ![] bcast_S_S16x256x32 main_cst_3
  let main_v35 : IVec S16x256x32 1 := cmpf .ogt main_v33 main_v34
  main_v35

def fn {F : FTy → Type} [FloatOps F] (main_arg0 : FVec F S16x256x1024 .f32) (main_arg1 : FVec F S17x6144 .f32) (main_arg2 : FVec F S1024 .f32) (main_arg3 : FVec F S1024x6656 .bf16) (main_arg4 : FVec F S1x6656 .f32) (main_arg5 : FVec F S2048x1024 .bf16) (main_arg6 : FVec F S2048x1 .f32) : IVec S16x256x32 1 :=
  let main_v0 : FVec F S16x256x1024 .f32 := mulf main_arg0 main_arg0
  let main_cst : FVec F S_ .f32 := constant S_ .f32 0x00000000#32
  let main_v1 : FVec F S16x256 .f32 := (fun x v => Host.reduceAdd x v reducesTo_S16x256x1024_S16x256_d2 h_S_) main_v0 main_cst
  let main_v2 : FVec F S16x256x1 .f32 := broadcastInDim S16x256x1 ![0, 1] bcast_S16x256_S16x256x1_0_1 main_v1
  let main_cst_0 : FVec F S_ .f32 := constant S_ .f32 0x44800000#32
  let main_v3 : FVec F S16x256x1 .f32 := broadcastInDim S16x256x1 ![] bcast_S_S16x256x1 main_cst_0
  let main_v4 : FVec F S16x256x1 .f32 := Host.divf main_v2 main_v3
  let main_cst_1 : FVec F S_ .f32 := constant S_ .f32 0x358637BD#32
  let main_v5 : FVec F S16x256x1 .f32 := broadcastInDim S16x256x1 ![] bcast_S_S16x256x1 main_cst_1
  let main_v6 : FVec F S16x256x1 .f32 := addf main_v4 main_v5
  let main_v7 : FVec F S16x256x1 .f32 := Host.rsqrt main_v6
  let main_v8 : FVec F S16x256x1024 .f32 := broadcastInDim S16x256x1024 ![0, 1, 2] bcast_S16x256x1_S16x256x1024_0_1_2 main_v7
  let main_v9 : FVec F S16x256x1024 .f32 := mulf main_arg0 main_v8
  let main_v10 : FVec F S1x1x1024 .f32 := broadcastInDim S1x1x1024 ![2] bcast_S1024_S1x1x1024_2 main_arg2
  let main_v11 : FVec F S16x256x1024 .f32 := broadcastInDim S16x256x1024 ![0, 1, 2] bcast_S1x1x1024_S16x256x1024_0_1_2 main_v10
  let main_v12 : FVec F S16x256x1024 .f32 := mulf main_v9 main_v11
  let main_v13 : FVec F S1x1024 .f32 := (extractStridedSlice S1x1024 ![16, 1024] · slices_S17x6144_S1x1024_16_1024) main_arg1
  let main_v14 : FVec F S1024 .f32 := shapeCast S1024 main_v13 shapeCasts_S1x1024_S1024
  let main_cst_2 : FVec F S_ .f32 := constant S_ .f32 0x3F800000#32
  let main_v15 : FVec F S1024 .f32 := broadcastInDim S1024 ![] bcast_S_S1024 main_cst_2
  let main_v16 : FVec F S1024 .f32 := addf main_v15 main_v14
  let main_v17 : FVec F S1x1x1024 .f32 := broadcastInDim S1x1x1024 ![2] bcast_S1024_S1x1x1024_2 main_v16
  let main_v18 : FVec F S16x256x1024 .f32 := broadcastInDim S16x256x1024 ![0, 1, 2] bcast_S1x1x1024_S16x256x1024_0_1_2 main_v17
  let main_v19 : FVec F S16x256x1024 .f32 := mulf main_v12 main_v18
  fn_part1 (F := F) main_arg1 main_arg5 main_arg6 main_v19
-- ==== OutK.lean ====
abbrev S16x2048x1024 : Shape := ⟨3, ![16, 2048, 1024]⟩
abbrev S17x6144 : Shape := ⟨2, ![17, 6144]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S1x1024 : Shape := ⟨2, ![1, 1024]⟩
abbrev S1x512x1024 : Shape := ⟨3, ![1, 512, 1024]⟩
abbrev S1x6144 : Shape := ⟨2, ![1, 6144]⟩
abbrev S512x1024 : Shape := ⟨2, ![512, 1024]⟩
abbrev S512 : Shape := ⟨1, ![512]⟩
abbrev S512x1 : Shape := ⟨2, ![512, 1]⟩
abbrev S512x4096 : Shape := ⟨2, ![512, 4096]⟩

abbrev nBuf : Space → Nat
  | .hbm => 18
  | .vmem => 17
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .bf16⟩
  | .hbm, ⟨2, _⟩ => ⟨S16x2048x1024, .bf16⟩
  | .hbm, ⟨3, _⟩ => ⟨S16x2048x1024, .bf16⟩
  | .hbm, ⟨4, _⟩ => ⟨S17x6144, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024x1024, .f32⟩
  | .hbm, ⟨9, _⟩ => ⟨S1024x4096, .f32⟩
  | .hbm, ⟨10, _⟩ => ⟨S4096x1024, .f32⟩
  | .hbm, ⟨11, _⟩ => ⟨S1x1024, .f32⟩
  | .hbm, ⟨12, _⟩ => ⟨S1x1024, .f32⟩
  | .hbm, ⟨13, _⟩ => ⟨S1024x1024, .bf16⟩
  | .hbm, ⟨14, _⟩ => ⟨S1024x1024, .bf16⟩
  | .hbm, ⟨15, _⟩ => ⟨S1024x4096, .bf16⟩
  | .hbm, ⟨16, _⟩ => ⟨S4096x1024, .bf16⟩
  | .hbm, ⟨17, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S17x6144, .f32⟩
  | .local _ .vmem, ⟨9, _⟩ => ⟨S1x1024, .f32⟩
  | .local _ .vmem, ⟨10, _⟩ => ⟨S1x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x4096, .bf16⟩
  | .local _ .vmem, ⟨14, _⟩ => ⟨S4096x1024, .bf16⟩
  | .local _ .vmem, ⟨15, _⟩ => ⟨S1x512x1024, .f32⟩
  | .local _ .vmem, ⟨16, _⟩ => ⟨S1x512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![16, 4], ![false, false]⟩

def k0_off1 (i : grid0.Coords) : Fin 2 → Nat :=
  let arg0 : BitVec 32 := BitVec.ofNat 32 (i 0).val
  let v0 : Index := Scalar.indexCast arg0
  let c0 : Index := 0#32
  ![v0.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S17x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4096x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== OutRIdeal.lean ====
abbrev S16x2048x1024 : Shape := ⟨3, ![16, 2048, 1024]⟩
abbrev S17x6144 : Shape := ⟨2, ![17, 6144]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S16x6144 : Shape := ⟨2, ![16, 6144]⟩
abbrev S16x1024 : Shape := ⟨2, ![16, 1024]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x4096 : Shape := ⟨3, ![16, 2048, 4096]⟩

abbrev nBuf : Space → Nat
  | .hbm => 82
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .bf16⟩
  | .hbm, ⟨2, _⟩ => ⟨S16x2048x1024, .bf16⟩
  | .hbm, ⟨3, _⟩ => ⟨S16x2048x1024, .bf16⟩
  | .hbm, ⟨4, _⟩ => ⟨S17x6144, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024x1024, .f32⟩
  | .hbm, ⟨9, _⟩ => ⟨S1024x4096, .f32⟩
  | .hbm, ⟨10, _⟩ => ⟨S4096x1024, .f32⟩
  | .hbm, ⟨11, _⟩ => ⟨S16x6144, .f32⟩
  | .hbm, ⟨12, _⟩ => ⟨S16x1024, .f32⟩
  | .hbm, ⟨13, _⟩ => ⟨S16x1024, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S16x1024, .f32⟩
  | .hbm, ⟨18, _⟩ => ⟨S16x1x1024, .f32⟩
  | .hbm, ⟨19, _⟩ => ⟨S16x1x1024, .f32⟩
  | .hbm, ⟨20, _⟩ => ⟨S16x1x1024, .f32⟩
  | .hbm, ⟨21, _⟩ => ⟨S16x1x1024, .f32⟩
  | .hbm, ⟨22, _⟩ => ⟨S16x1x1024, .f32⟩
  | .hbm, ⟨23, _⟩ => ⟨S16x1x1024, .f32⟩
  | .hbm, ⟨24, _⟩ => ⟨S16x2048x1024, .f32⟩
  | .hbm, ⟨25, _⟩ => ⟨S16x2048x1024, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | .hbm, ⟨29, _⟩ => ⟨S16x2048x1024, .f32⟩
  | .hbm, ⟨30, _⟩ => ⟨S16x2048x1024, .f32⟩
  | .hbm, ⟨31, _⟩ => ⟨S16x2048x1024, .f32⟩
  | .hbm, ⟨32, _⟩ => ⟨S16x2048x1024, .f32⟩
  | .hbm, ⟨33, _⟩ => ⟨S16x2048x1024, .f32⟩
  | .hbm, ⟨34, _⟩ => ⟨S16x2048x1024, .f32⟩
  | .hbm, ⟨35, _⟩ => ⟨S_, .f32⟩
  | .hbm, ⟨36, _⟩ => ⟨S16x2048, .f32⟩
  | .hbm, ⟨37, _⟩ => ⟨S16x2048x1, .f32⟩
  | .hbm, ⟨38, _⟩ => ⟨S_, .f32⟩
  | .hbm, ⟨39, _⟩ => ⟨S16x2048x1, .f32⟩
  | .hbm, ⟨40, _⟩ => ⟨S16x2048x1, .f32⟩
  | .hbm, ⟨41, _⟩ => ⟨S_, .f32⟩
  | .hbm, ⟨42, _⟩ => ⟨S16x2048x1, .f32⟩
  | .hbm, ⟨43, _⟩ => ⟨S16x2048x1, .f32⟩
  | .hbm, ⟨44, _⟩ => ⟨S16x2048x1, .f32⟩
  | .hbm, ⟨45, _⟩ => ⟨S16x2048x1024, .f32⟩
  | .hbm, ⟨46, _⟩ => ⟨S16x2048x1024, .f32⟩
  | .hbm, ⟨47, _⟩ => ⟨S1x1x1024, .f32⟩
  | .hbm, ⟨48, _⟩ => ⟨S16x2048x1024, .f32⟩
  | .hbm, ⟨49, _⟩ => ⟨S16x2048x1024, .f32⟩
  | .hbm, ⟨50, _⟩ => ⟨S_, .f32⟩
  | .hbm, ⟨51, _⟩ => ⟨S16x1x1024, .f32⟩
  | .hbm, ⟨52, _⟩ => ⟨S16x1x1024, .f32⟩
  | .hbm, ⟨53, _⟩ => ⟨S16x2048x1024, .f32⟩
  | .hbm, ⟨54, _⟩ => ⟨S16x2048x1024, .f32⟩
  | .hbm, ⟨55, _⟩ => ⟨S16x2048x1024, .f32⟩
  | .hbm, ⟨56, _⟩ => ⟨S16x2048x1024, .f32⟩
  | .hbm, ⟨57, _⟩ => ⟨S16x2048x4096, .f32⟩
  | .hbm, ⟨58, _⟩ => ⟨S_, .f32⟩
  | .hbm, ⟨59, _⟩ => ⟨S16x2048x4096, .f32⟩
  | .hbm, ⟨60, _⟩ => ⟨S16x2048x4096, .f32⟩
  | .hbm, ⟨61, _⟩ => ⟨S16x2048x4096, .f32⟩
  | .hbm, ⟨62, _⟩ => ⟨S16x2048x1024, .f32⟩
  | .hbm, ⟨63, _⟩ => ⟨S16x2048x1024, .f32⟩
  | .hbm, ⟨64, _⟩ => ⟨S16x2048x1024, .f32⟩
  | .hbm, ⟨65, _⟩ => ⟨S16x2048x1024, .f32⟩
  | .hbm, ⟨66, _⟩ => ⟨S16x2048x1024, .f32⟩
  | .hbm, ⟨67, _⟩ => ⟨S_, .f32⟩
  | .hbm, ⟨68, _⟩ => ⟨S16x2048, .f32⟩
  | .hbm, ⟨69, _⟩ => ⟨S16x2048x1, .f32⟩
  | .hbm, ⟨70, _⟩ => ⟨S_, .f32⟩
  | .hbm, ⟨71, _⟩ => ⟨S16x2048x1, .f32⟩
  | .hbm, ⟨72, _⟩ => ⟨S16x2048x1, .f32⟩
  | .hbm, ⟨73, _⟩ => ⟨S_, .f32⟩
  | .hbm, ⟨74, _⟩ => ⟨S16x2048x1, .f32⟩
  | .hbm, ⟨75, _⟩ => ⟨S16x2048x1, .f32⟩
  | .hbm, ⟨76, _⟩ => ⟨S16x2048x1, .f32⟩
  | .hbm, ⟨77, _⟩ => ⟨S16x2048x1024, .f32⟩
  | .hbm, ⟨78, _⟩ => ⟨S16x2048x1024, .f32⟩
  | .hbm, ⟨79, _⟩ => ⟨S1x1x1024, .f32⟩
  | .hbm, ⟨80, _⟩ => ⟨S16x2048x1024, .f32⟩
  | .hbm, ⟨81, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst : Ref sig .tc := ⟨.hbm, 35, rfl⟩
abbrev main_v24 : Ref sig .tc := ⟨.hbm, 36, rfl⟩
abbrev main_v25 : Ref sig .tc := ⟨.hbm, 37, rfl⟩
abbrev main_cst_0 : Ref sig .tc := ⟨.hbm, 38, rfl⟩
abbrev main_v26 : Ref sig .tc := ⟨.hbm, 39, rfl⟩
abbrev main_v27 : Ref sig .tc := ⟨.hbm, 40, rfl⟩
abbrev main_cst_1 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_2 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call0_cst : Ref sig .tc := ⟨.hbm, 58, rfl⟩
abbrev main_call0_v0 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_3 : Ref sig .tc := ⟨.hbm, 67, rfl⟩
abbrev main_v50 : Ref sig .tc := ⟨.hbm, 68, rfl⟩
abbrev main_v51 : Ref sig .tc := ⟨.hbm, 69, rfl⟩
abbrev main_cst_4 : Ref sig .tc := ⟨.hbm, 70, rfl⟩
abbrev main_v52 : Ref sig .tc := ⟨.hbm, 71, rfl⟩
abbrev main_v53 : Ref sig .tc := ⟨.hbm, 72, rfl⟩
abbrev main_cst_5 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]
-- ==== InK.lean ====
abbrev S16x2048x1024 : Shape := ⟨3, ![16, 2048, 1024]⟩
abbrev S17x6144 : Shape := ⟨2, ![17, 6144]⟩
abbrev S1024 : Shape := ⟨1, ![1024]⟩
abbrev S1024x8224 : Shape := ⟨2, ![1024, 8224]⟩
abbrev S8224 : Shape := ⟨1, ![8224]⟩
abbrev S3x1024 : Shape := ⟨2, ![3, 1024]⟩
abbrev S1024x1024 : Shape := ⟨2, ![1024, 1024]⟩
abbrev S1024x512 : Shape := ⟨2, ![1024, 512]⟩
abbrev S_ : Shape := ⟨0, ![]⟩
abbrev S1024x6144 : Shape := ⟨2, ![1024, 6144]⟩
abbrev S1024x6x1024 : Shape := ⟨3, ![1024, 6, 1024]⟩
abbrev S6 : Shape := ⟨1, ![6]⟩
abbrev S1x6x1 : Shape := ⟨3, ![1, 6, 1]⟩
abbrev S1024x6656 : Shape := ⟨2, ![1024, 6656]⟩
abbrev S1024x32 : Shape := ⟨2, ![1024, 32]⟩
abbrev S1024x2x2x4x2 : Shape := ⟨5, ![1024, 2, 2, 4, 2]⟩
abbrev S1024x4x2x2x2 : Shape := ⟨5, ![1024, 4, 2, 2, 2]⟩
abbrev S1024x480 : Shape := ⟨2, ![1024, 480]⟩
abbrev S1024x2048 : Shape := ⟨2, ![1024, 2048]⟩
abbrev S2048x1024 : Shape := ⟨2, ![2048, 1024]⟩
abbrev S6144 : Shape := ⟨1, ![6144]⟩
abbrev S6x1024 : Shape := ⟨2, ![6, 1024]⟩
abbrev S6x1 : Shape := ⟨2, ![6, 1]⟩
abbrev S512 : Shape := ⟨1, ![512]⟩
abbrev S6656 : Shape := ⟨1, ![6656]⟩
abbrev S1x6656 : Shape := ⟨2, ![1, 6656]⟩
abbrev S32 : Shape := ⟨1, ![32]⟩
abbrev S2x2x4x2 : Shape := ⟨4, ![2, 2, 4, 2]⟩
abbrev S4x2x2x2 : Shape := ⟨4, ![4, 2, 2, 2]⟩
abbrev S480 : Shape := ⟨1, ![480]⟩
abbrev S2048 : Shape := ⟨1, ![2048]⟩
abbrev S2048x1 : Shape := ⟨2, ![2048, 1]⟩
abbrev S1x1024 : Shape := ⟨2, ![1, 1024]⟩
abbrev S16x2048x512 : Shape := ⟨3, ![16, 2048, 512]⟩
abbrev S16x16x512x128 : Shape := ⟨4, ![16, 16, 512, 128]⟩
abbrev S16x16x1024x128 : Shape := ⟨4, ![16, 16, 1024, 128]⟩
abbrev S16x16x32x128 : Shape := ⟨4, ![16, 16, 32, 128]⟩
abbrev S1x512x1024 : Shape := ⟨3, ![1, 512, 1024]⟩
abbrev S1x512x512 : Shape := ⟨3, ![1, 512, 512]⟩
abbrev S1x4x512x128 : Shape := ⟨4, ![1, 4, 512, 128]⟩
abbrev S1x4x1024x128 : Shape := ⟨4, ![1, 4, 1024, 128]⟩
abbrev S1x4x32x128 : Shape := ⟨4, ![1, 4, 32, 128]⟩
abbrev S512x1024 : Shape := ⟨2, ![512, 1024]⟩
abbrev S1x6144 : Shape := ⟨2, ![1, 6144]⟩
abbrev S512x1 : Shape := ⟨2, ![512, 1]⟩
abbrev S512x512 : Shape := ⟨2, ![512, 512]⟩
abbrev S1x512 : Shape := ⟨2, ![1, 512]⟩
abbrev S1568x1024 : Shape := ⟨2, ![1568, 1024]⟩
abbrev S1568x512 : Shape := ⟨2, ![1568, 512]⟩
abbrev S1568x1 : Shape := ⟨2, ![1568, 1]⟩
abbrev S1024x128 : Shape := ⟨2, ![1024, 128]⟩
abbrev S1x1x1024x128 : Shape := ⟨4, ![1, 1, 1024, 128]⟩
abbrev S512x128 : Shape := ⟨2, ![512, 128]⟩
abbrev S1x1x512x128 : Shape := ⟨4, ![1, 1, 512, 128]⟩
abbrev S32x128 : Shape := ⟨2, ![32, 128]⟩
abbrev S1x1x32x128 : Shape := ⟨4, ![1, 1, 32, 128]⟩

abbrev nBuf : Space → Nat
  | .hbm => 92
  | .vmem => 25
  | .smem => 0
  | _ => 0

abbrev bufTy : (tb : Table) → Fin (tcTables nBuf tb) → BufTy
  | .hbm, ⟨0, _⟩ => ⟨S16x2048x1024, .f32⟩
  | .hbm, ⟨1, _⟩ => ⟨S17x6144, .f32⟩
  | .hbm, ⟨2, _⟩ => ⟨S1024, .f32⟩
  | .hbm, ⟨3, _⟩ => ⟨S1024, .f32⟩
  | .hbm, ⟨4, _⟩ => ⟨S1024x8224, .f32⟩
  | .hbm, ⟨5, _⟩ => ⟨S8224, .f32⟩
  | .hbm, ⟨6, _⟩ => ⟨S3x1024, .f32⟩
  | .hbm, ⟨7, _⟩ => ⟨S1024x1024, .f32⟩
  | .hbm, ⟨8, _⟩ => ⟨S1024x512, .f32⟩
  | .hbm, ⟨9, _⟩ => ⟨S_, .f32⟩
  | .hbm, ⟨10, _⟩ => ⟨S1024x512, .f32⟩
  | .hbm, ⟨11, _⟩ => ⟨S1024x512, .f32⟩
  | .hbm, ⟨12, _⟩ => ⟨S1024x6144, .f32⟩
  | .hbm, ⟨13, _⟩ => ⟨S1024x6x1024, .f32⟩
  | .hbm, ⟨14, _⟩ => ⟨S6, .i32⟩
  | .hbm, ⟨15, _⟩ => ⟨S_, .i32⟩
  | .hbm, ⟨16, _⟩ => ⟨S6, .i32⟩
  | .hbm, ⟨17, _⟩ => ⟨S6, .i1⟩
  | .hbm, ⟨18, _⟩ => ⟨S_, .i32⟩
  | .hbm, ⟨19, _⟩ => ⟨S6, .i32⟩
  | .hbm, ⟨20, _⟩ => ⟨S6, .i1⟩
  | .hbm, ⟨21, _⟩ => ⟨S6, .i1⟩
  | .hbm, ⟨22, _⟩ => ⟨S_, .f32⟩
  | .hbm, ⟨23, _⟩ => ⟨S_, .f32⟩
  | .hbm, ⟨24, _⟩ => ⟨S6, .f32⟩
  | .hbm, ⟨25, _⟩ => ⟨S6, .f32⟩
  | .hbm, ⟨26, _⟩ => ⟨S6, .f32⟩
  | .hbm, ⟨27, _⟩ => ⟨S1x6x1, .f32⟩
  | .hbm, ⟨28, _⟩ => ⟨S1x6x1, .f32⟩
  | .hbm, ⟨29, _⟩ => ⟨S1024x6x1024, .f32⟩
  | .hbm, ⟨30, _⟩ => ⟨S1024x6x1024, .f32⟩
  | .hbm, ⟨31, _⟩ => ⟨S1024x6144, .f32⟩
  | .hbm, ⟨32, _⟩ => ⟨S1024x6656, .f32⟩
  | .hbm, ⟨33, _⟩ => ⟨S1024x6656, .bf16⟩
  | .hbm, ⟨34, _⟩ => ⟨S1024x1024, .f32⟩
  | .hbm, ⟨35, _⟩ => ⟨S1024x512, .f32⟩
  | .hbm, ⟨36, _⟩ => ⟨S1024x32, .f32⟩
  | .hbm, ⟨37, _⟩ => ⟨S1024x2x2x4x2, .f32⟩
  | .hbm, ⟨38, _⟩ => ⟨S1024x4x2x2x2, .f32⟩
  | .hbm, ⟨39, _⟩ => ⟨S1024x32, .f32⟩
  | .hbm, ⟨40, _⟩ => ⟨S_, .f32⟩
  | .hbm, ⟨41, _⟩ => ⟨S1024x480, .f32⟩
  | .hbm, ⟨42, _⟩ => ⟨S1024x2048, .f32⟩
  | .hbm, ⟨43, _⟩ => ⟨S2048x1024, .f32⟩
  | .hbm, ⟨44, _⟩ => ⟨S2048x1024, .bf16⟩
  | .hbm, ⟨45, _⟩ => ⟨S6144, .f32⟩
  | .hbm, ⟨46, _⟩ => ⟨S6x1024, .f32⟩
  | .hbm, ⟨47, _⟩ => ⟨S6, .i32⟩
  | .hbm, ⟨48, _⟩ => ⟨S_, .i32⟩
  | .hbm, ⟨49, _⟩ => ⟨S6, .i32⟩
  | .hbm, ⟨50, _⟩ => ⟨S6, .i1⟩
  | .hbm, ⟨51, _⟩ => ⟨S6, .i32⟩
  | .hbm, ⟨52, _⟩ => ⟨S_, .i32⟩
  | .hbm, ⟨53, _⟩ => ⟨S6, .i32⟩
  | .hbm, ⟨54, _⟩ => ⟨S6, .i1⟩
  | .hbm, ⟨55, _⟩ => ⟨S6, .i1⟩
  | .hbm, ⟨56, _⟩ => ⟨S_, .f32⟩
  | .hbm, ⟨57, _⟩ => ⟨S_, .f32⟩
  | .hbm, ⟨58, _⟩ => ⟨S6, .f32⟩
  | .hbm, ⟨59, _⟩ => ⟨S6, .f32⟩
  | .hbm, ⟨60, _⟩ => ⟨S6, .f32⟩
  | .hbm, ⟨61, _⟩ => ⟨S6x1, .f32⟩
  | .hbm, ⟨62, _⟩ => ⟨S6x1, .f32⟩
  | .hbm, ⟨63, _⟩ => ⟨S6x1024, .f32⟩
  | .hbm, ⟨64, _⟩ => ⟨S6x1024, .f32⟩
  | .hbm, ⟨65, _⟩ => ⟨S512, .f32⟩
  | .hbm, ⟨66, _⟩ => ⟨S_, .f32⟩
  | .hbm, ⟨67, _⟩ => ⟨S512, .f32⟩
  | .hbm, ⟨68, _⟩ => ⟨S512, .f32⟩
  | .hbm, ⟨69, _⟩ => ⟨S6144, .f32⟩
  | .hbm, ⟨70, _⟩ => ⟨S6656, .f32⟩
  | .hbm, ⟨71, _⟩ => ⟨S1x6656, .f32⟩
  | .hbm, ⟨72, _⟩ => ⟨S1024, .f32⟩
  | .hbm, ⟨73, _⟩ => ⟨S512, .f32⟩
  | .hbm, ⟨74, _⟩ => ⟨S32, .f32⟩
  | .hbm, ⟨75, _⟩ => ⟨S2x2x4x2, .f32⟩
  | .hbm, ⟨76, _⟩ => ⟨S4x2x2x2, .f32⟩
  | .hbm, ⟨77, _⟩ => ⟨S32, .f32⟩
  | .hbm, ⟨78, _⟩ => ⟨S_, .f32⟩
  | .hbm, ⟨79, _⟩ => ⟨S480, .f32⟩
  | .hbm, ⟨80, _⟩ => ⟨S2048, .f32⟩
  | .hbm, ⟨81, _⟩ => ⟨S2048x1, .f32⟩
  | .hbm, ⟨82, _⟩ => ⟨S1x1024, .f32⟩
  | .hbm, ⟨83, _⟩ => ⟨S1x1024, .f32⟩
  | .hbm, ⟨84, _⟩ => ⟨S1024x1024, .bf16⟩
  | .hbm, ⟨85, _⟩ => ⟨S16x2048x512, .bf16⟩
  | .hbm, ⟨86, _⟩ => ⟨S16x16x512x128, .bf16⟩
  | .hbm, ⟨87, _⟩ => ⟨S16x16x1024x128, .bf16⟩
  | .hbm, ⟨88, _⟩ => ⟨S16x16x32x128, .f32⟩
  | .hbm, ⟨89, _⟩ => ⟨S16x2048x1024, .bf16⟩
  | .hbm, ⟨90, _⟩ => ⟨S16x2048x1024, .bf16⟩
  | .hbm, ⟨91, _⟩ => ⟨S16x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S17x6144, .f32⟩
  | .local _ .vmem, ⟨3, _⟩ => ⟨S1x1024, .f32⟩
  | .local _ .vmem, ⟨4, _⟩ => ⟨S1x1024, .f32⟩
  | .local _ .vmem, ⟨5, _⟩ => ⟨S1024x6656, .bf16⟩
  | .local _ .vmem, ⟨6, _⟩ => ⟨S1x6656, .f32⟩
  | .local _ .vmem, ⟨7, _⟩ => ⟨S2048x1024, .bf16⟩
  | .local _ .vmem, ⟨8, _⟩ => ⟨S2048x1, .f32⟩
  | .local _ .vmem, ⟨9, _⟩ => ⟨S3x1024, .f32⟩
  | .local _ .vmem, ⟨10, _⟩ => ⟨S1024x1024, .bf16⟩
  | .local _ .vmem, ⟨11, _⟩ => ⟨S1x512x512, .bf16⟩
  | .local _ .vmem, ⟨12, _⟩ => ⟨S1x512x512, .bf16⟩
  | .local _ .vmem, ⟨13, _⟩ => ⟨S1x4x512x128, .bf16⟩
  | .local _ .vmem, ⟨14, _⟩ => ⟨S1x4x512x128, .bf16⟩
  | .local _ .vmem, ⟨15, _⟩ => ⟨S1x4x1024x128, .bf16⟩
  | .local _ .vmem, ⟨16, _⟩ => ⟨S1x4x1024x128, .bf16⟩
  | .local _ .vmem, ⟨17, _⟩ => ⟨S1x4x32x128, .f32⟩
  | .local _ .vmem, ⟨18, _⟩ => ⟨S1x4x32x128, .f32⟩
  | .local _ .vmem, ⟨19, _⟩ => ⟨S1x512x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x512x1024, .bf16⟩
  | .local _ .vmem, ⟨23, _⟩ => ⟨S1x512x1024, .bf16⟩
  | .local _ .vmem, ⟨24, _⟩ => ⟨S1x512x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_cst_7 : Ref sig .tc := ⟨.hbm, 57, rfl⟩
abbrev main_call1_v0 : Ref sig .tc := ⟨.hbm, 58, rfl⟩
abbrev main_call1_v1 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_9 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61_0 : Ref sig .tc := ⟨.hbm, 85, rfl⟩
abbrev main_v61_1 : Ref sig .tc := ⟨.hbm, 86, rfl⟩
abbrev main_v61_2 : Ref sig .tc := ⟨.hbm, 87, rfl⟩
abbrev main_v61_3 : Ref sig .tc := ⟨.hbm, 88, rfl⟩
abbrev main_v61_4 : Ref sig .tc := ⟨.hbm, 89, rfl⟩
abbrev main_v61_5 : Ref sig .tc := ⟨.hbm, 90, rfl⟩
abbrev main_v61_6 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨2, ![16, 4], ![false, false]⟩

def k0_off1 (i : grid0.Coords) : Fin 2 → Nat :=
  let arg0 : BitVec 32 := BitVec.ofNat 32 (i 0).val
  let v2 : Index := Scalar.indexCast arg0
  let c0_2 : Index := 0#32
  ![v2.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S17x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x6656 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x6656 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x1024x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x32x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== InRIdeal.lean ====
abbrev S16x2048x1024 : Shape := ⟨3, ![16, 2048, 1024]⟩
abbrev S17x6144 : Shape := ⟨2, ![17, 6144]⟩
abbrev S1024 : Shape := ⟨1, ![1024]⟩
abbrev S1024x8224 : Shape := ⟨2, ![1024, 8224]⟩
abbrev S8224 : Shape := ⟨1, ![8224]⟩
abbrev S3x1024 : Shape := ⟨2, ![3, 1024]⟩
abbrev S1024x1024 : Shape := ⟨2, ![1024, 1024]⟩
abbrev S16x6144 : Shape := ⟨2, ![16, 6144]⟩
abbrev S16x1024 : Shape := ⟨2, ![16, 1024]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x8224 : Shape := ⟨3, ![16, 2048, 8224]⟩
abbrev S1x1x8224 : Shape := ⟨3, ![1, 1, 8224]⟩
abbrev S16x2048x512 : Shape := ⟨3, ![16, 2048, 512]⟩
abbrev S16x2048x16 : Shape := ⟨3, ![16, 2048, 16]⟩
abbrev S16x32x64x1024 : Shape := ⟨4, ![16, 32, 64, 1024]⟩
abbrev S16x32x66x1024 : Shape := ⟨4, ![16, 32, 66, 1024]⟩
abbrev S1x1024 : Shape := ⟨2, ![1, 1024]⟩
abbrev S1x1x1x1024 : Shape := ⟨4, ![1, 1, 1, 1024]⟩
abbrev S16x2048x2x4x2 : Shape := ⟨5, ![16, 2048, 2, 4, 2]⟩
abbrev S16x2048x1x2x4x2 : Shape := ⟨6, ![16, 2048, 1, 2, 4, 2]⟩
abbrev S16x2048x2x2x4x2 : Shape := ⟨6, ![16, 2048, 2, 2, 4, 2]⟩
abbrev S16x2048x4x2x2x2 : Shape := ⟨6, ![16, 2048, 4, 2, 2, 2]⟩
abbrev S16x2048x32 : Shape := ⟨3, ![16, 2048, 32]⟩
abbrev S16x16x128x512 : Shape := ⟨4, ![16, 16, 128, 512]⟩
abbrev S16x16x512x128 : Shape := ⟨4, ![16, 16, 512, 128]⟩
abbrev S16x16x128x1024 : Shape := ⟨4, ![16, 16, 128, 1024]⟩
abbrev S16x16x1024x128 : Shape := ⟨4, ![16, 16, 1024, 128]⟩
abbrev S16x16x128x32 : Shape := ⟨4, ![16, 16, 128, 32]⟩
abbrev S16x16x32x128 : Shape := ⟨4, ![16, 16, 32, 128]⟩

abbrev nBuf : Space → Nat
  | .hbm => 137
  | .vmem => 0
  | .smem => 0
  | _ => 0

abbrev hbmTy0_0 (i : Nat) : BufTy := match i % 128 with
  | 0 => ⟨S16x2048x1024, .f32⟩
  | 1 => ⟨S17x6144, .f32⟩
  | 2 => ⟨S1024, .f32⟩
  | 3 => ⟨S1024, .f32⟩
  | 4 => ⟨S1024x8224, .f32⟩
  | 5 => ⟨S8224, .f32⟩
  | 6 => ⟨S3x1024, .f32⟩
  | 7 => ⟨S1024x1024, .f32⟩
  | 8 => ⟨S16x6144, .f32⟩
  | 9 => ⟨S16x1024, .f32⟩
  | 10 => ⟨S16x1024, .f32⟩
  | 11 => ⟨S16x1024, .f32⟩
  | 12 => ⟨S16x1024, .f32⟩
  | 13 => ⟨S16x1024, .f32⟩
  | 14 => ⟨S16x1024, .f32⟩
  | 15 => ⟨S16x1x1024, .f32⟩
  | 16 => ⟨S16x1x1024, .f32⟩
  | 17 => ⟨S16x1x1024, .f32⟩
  | 18 => ⟨S16x1x1024, .f32⟩
  | 19 => ⟨S16x1x1024, .f32⟩
  | 20 => ⟨S16x1x1024, .f32⟩
  | 21 => ⟨S16x2048x1024, .f32⟩
  | 22 => ⟨S_, .f32⟩
  | 23 => ⟨S16x2048, .f32⟩
  | 24 => ⟨S16x2048x1, .f32⟩
  | 25 => ⟨S_, .f32⟩
  | 26 => ⟨S16x2048x1, .f32⟩
  | 27 => ⟨S16x2048x1, .f32⟩
  | 28 => ⟨S_, .f32⟩
  | 29 => ⟨S16x2048x1, .f32⟩
  | 30 => ⟨S16x2048x1, .f32⟩
  | 31 => ⟨S16x2048x1, .f32⟩
  | 32 => ⟨S16x2048x1024, .f32⟩
  | 33 => ⟨S16x2048x1024, .f32⟩
  | 34 => ⟨S1x1x1024, .f32⟩
  | 35 => ⟨S16x2048x1024, .f32⟩
  | 36 => ⟨S16x2048x1024, .f32⟩
  | 37 => ⟨S_, .f32⟩
  | 38 => ⟨S16x1x1024, .f32⟩
  | 39 => ⟨S16x1x1024, .f32⟩
  | 40 => ⟨S16x2048x1024, .f32⟩
  | 41 => ⟨S16x2048x1024, .f32⟩
  | 42 => ⟨S16x2048x1024, .f32⟩
  | 43 => ⟨S16x2048x1024, .f32⟩
  | 44 => ⟨S16x2048x8224, .f32⟩
  | 45 => ⟨S1x1x8224, .f32⟩
  | 46 => ⟨S16x2048x8224, .f32⟩
  | 47 => ⟨S16x2048x8224, .f32⟩
  | 48 => ⟨S16x2048x512, .f32⟩
  | 49 => ⟨S16x2048x1024, .f32⟩
  | 50 => ⟨S16x2048x16, .f32⟩
  | 51 => ⟨S16x2048x16, .f32⟩
  | 52 => ⟨S16x2048x512, .f32⟩
  | 53 => ⟨S16x2048x1024, .f32⟩
  | 54 => ⟨S16x2048x1024, .f32⟩
  | 55 => ⟨S16x2048x1024, .f32⟩
  | 56 => ⟨S16x2048x1024, .f32⟩
  | 57 => ⟨S16x2048x1024, .f32⟩
  | 58 => ⟨S16x2048x1024, .f32⟩
  | 59 => ⟨S16x2048x1024, .f32⟩
  | 60 => ⟨S16x32x64x1024, .f32⟩
  | 61 => ⟨S_, .i32⟩
  | 62 => ⟨S_, .f32⟩
  | 63 => ⟨S16x32x66x1024, .f32⟩
  | 64 => ⟨S1x1024, .f32⟩
  | 65 => ⟨S1024, .f32⟩
  | 66 => ⟨S16x32x64x1024, .f32⟩
  | 67 => ⟨S1x1x1x1024, .f32⟩
  | 68 => ⟨S16x32x64x1024, .f32⟩
  | 69 => ⟨S16x32x64x1024, .f32⟩
  | 70 => ⟨S1x1024, .f32⟩
  | 71 => ⟨S1024, .f32⟩
  | 72 => ⟨S16x32x64x1024, .f32⟩
  | 73 => ⟨S1x1x1x1024, .f32⟩
  | 74 => ⟨S16x32x64x1024, .f32⟩
  | 75 => ⟨S16x32x64x1024, .f32⟩
  | 76 => ⟨S16x32x64x1024, .f32⟩
  | 77 => ⟨S1x1024, .f32⟩
  | 78 => ⟨S1024, .f32⟩
  | 79 => ⟨S16x32x64x1024, .f32⟩
  | 80 => ⟨S1x1x1x1024, .f32⟩
  | 81 => ⟨S16x32x64x1024, .f32⟩
  | 82 => ⟨S16x32x64x1024, .f32⟩
  | 83 => ⟨S16x32x64x1024, .f32⟩
  | 84 => ⟨S16x2048x1024, .f32⟩
  | 85 => ⟨S16x2048x1024, .f32⟩
  | 86 => ⟨S16x2048x1024, .f32⟩
  | 87 => ⟨S16x2048x2x4x2, .f32⟩
  | 88 => ⟨S16x2048x2x4x2, .f32⟩
  | 89 => ⟨S16x2048x1x2x4x2, .f32⟩
  | 90 => ⟨S16x2048x1x2x4x2, .f32⟩
  | 91 => ⟨S16x2048x2x2x4x2, .f32⟩
  | 92 => ⟨S16x2048x4x2x2x2, .f32⟩
  | 93 => ⟨S16x2048x32, .f32⟩
  | 94 => ⟨S_, .f32⟩
  | 95 => ⟨S16x2048x512, .f32⟩
  | 96 => ⟨S16x2048x512, .f32⟩
  | 97 => ⟨S16x2048x512, .bf16⟩
  | 98 => ⟨S16x16x128x512, .f32⟩
  | 99 => ⟨S16x16x512x128, .f32⟩
  | 100 => ⟨S16x16x512x128, .bf16⟩
  | 101 => ⟨S16x16x128x1024, .f32⟩
  | 102 => ⟨S16x16x1024x128, .f32⟩
  | 103 => ⟨S16x16x1024x128, .bf16⟩
  | 104 => ⟨S16x16x128x32, .f32⟩
  | 105 => ⟨S16x16x32x128, .f32⟩
  | 106 => ⟨S16x2048x1024, .f32⟩
  | 107 => ⟨S16x2048x1024, .f32⟩
  | 108 => ⟨S_, .f32⟩
  | 109 => ⟨S16x2048x1024, .f32⟩
  | 110 => ⟨S16x2048x1024, .f32⟩
  | 111 => ⟨S_, .f32⟩
  | 112 => ⟨S16x2048x1024, .f32⟩
  | 113 => ⟨S16x2048x1024, .f32⟩
  | 114 => ⟨S1x1x1024, .f32⟩
  | 115 => ⟨S16x2048x1024, .f32⟩
  | 116 => ⟨S16x2048x1024, .f32⟩
  | 117 => ⟨S16x2048x1024, .bf16⟩
  | 118 => ⟨S16x2048x1024, .f32⟩
  | 119 => ⟨S16x2048x1024, .f32⟩
  | 120 => ⟨S_, .f32⟩
  | 121 => ⟨S16x2048x1024, .f32⟩
  | 122 => ⟨S16x2048x1024, .f32⟩
  | 123 => ⟨S_, .f32⟩
  | 124 => ⟨S16x2048x1024, .f32⟩
  | 125 => ⟨S16x2048x1024, .f32⟩
  | 126 => ⟨S16x2048x1024, .f32⟩
  | 127 => ⟨S16x2048x1024, .bf16⟩
  | _ => ⟨S16x2048x1024, .f32⟩

abbrev hbmTy0_1 (i : Nat) : BufTy := match i % 128 with
  | 0 => ⟨S16x2048x1024, .f32⟩
  | 1 => ⟨S16x2048x1024, .f32⟩
  | 2 => ⟨S_, .f32⟩
  | 3 => ⟨S16x2048x1024, .f32⟩
  | 4 => ⟨S16x2048x1024, .f32⟩
  | 5 => ⟨S_, .f32⟩
  | 6 => ⟨S16x2048x1024, .f32⟩
  | 7 => ⟨S16x2048x1024, .f32⟩
  | 8 => ⟨S16x2048x1024, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_c : Ref sig .tc := ⟨.hbm, 61, rfl⟩
abbrev main_call0_v0 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_cst_3 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_cst_4 : Ref sig .tc := ⟨.hbm, 108, rfl⟩
abbrev main_v93 : Ref sig .tc := ⟨.hbm, 109, rfl⟩
abbrev main_v94 : Ref sig .tc := ⟨.hbm, 110, rfl⟩
abbrev main_cst_5 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_cst_6 : Ref sig .tc := ⟨.hbm, 120, rfl⟩
abbrev main_v103 : Ref sig .tc := ⟨.hbm, 121, rfl⟩
abbrev main_v104 : Ref sig .tc := ⟨.hbm, 122, rfl⟩
abbrev main_cst_7 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_cst_8 : Ref sig .tc := ⟨.hbm, 130, rfl⟩
abbrev main_v111 : Ref sig .tc := ⟨.hbm, 131, rfl⟩
abbrev main_v112 : Ref sig .tc := ⟨.hbm, 132, rfl⟩
abbrev main_cst_9 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩

abbrev nD : Nat := 1
abbrev τ : Topo := Topo.v7x

variable {F : FTy → Type} [FloatOps F]
-- ==== WnK.lean ====
abbrev S1024x8224 : Shape := ⟨2, ![1024, 8224]⟩
abbrev S8224x1024 : Shape := ⟨2, ![8224, 1024]⟩
abbrev S1024x6656 : Shape := ⟨2, ![1024, 6656]⟩
abbrev S512x1024 : Shape := ⟨2, ![512, 1024]⟩
abbrev S1024x512 : Shape := ⟨2, ![1024, 512]⟩

abbrev nBuf : Space → Nat
  | .hbm => 3
  | .vmem => 4
  | .smem => 0
  | _ => 0

abbrev bufTy : (tb : Table) → Fin (tcTables nBuf tb) → BufTy
  | .hbm, ⟨0, _⟩ => ⟨S1024x8224, .f32⟩
  | .hbm, ⟨1, _⟩ => ⟨S8224x1024, .f32⟩
  | .hbm, ⟨2, _⟩ => ⟨S1024x6656, .bf16⟩
  | .local _ .vmem, ⟨0, _⟩ => ⟨S512x1024, .f32⟩
  | .local _ .vmem, ⟨1, _⟩ => ⟨S512x1024, .f32⟩
  | .local _ .vmem, ⟨2, _⟩ => ⟨S1024x512, .bf16⟩
  | .local _ .vmem, ⟨3, _⟩ => ⟨S1024x512, .bf16⟩
  | _, _ => ⟨S1024x8224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let v0 : BitVec 1 := Scalar.cmpi .eq arg0 c0_i32
  let c1_i32 : BitVec 32 := 1#32
  let v1 : BitVec 32 := Scalar.subi arg0 c1_i32
  let c64_i32 : BitVec 32 := 64#32
  let v2 : BitVec 32 := Scalar.muli v1 c64_i32
  let c260_i32 : BitVec 32 := 260#32
  let v3 : BitVec 32 := Scalar.addi c260_i32 v2
  let c0_i32_0 : BitVec 32 := 0#32
  let v4 : BitVec 32 := Scalar.select v0 c0_i32_0 v3
  let c8_i32 : BitVec 32 := 8#32
  let v5 : BitVec 32 := Scalar.muli c8_i32 v4
  let c0_i32_1 : BitVec 32 := 0#32
  let c0_i32_2 : BitVec 32 := 0#32
  ![v5.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== WnRIdeal.lean ====
abbrev S1024x8224 : Shape := ⟨2, ![1024, 8224]⟩
abbrev S1024x512 : Shape := ⟨2, ![1024, 512]⟩
abbrev S1024x6144 : Shape := ⟨2, ![1024, 6144]⟩
abbrev S1024x1024 : Shape := ⟨2, ![1024, 1024]⟩
abbrev S1024x3072 : Shape := ⟨2, ![1024, 3072]⟩
abbrev S1024x2048 : Shape := ⟨2, ![1024, 2048]⟩
abbrev S_ : Shape := ⟨0, ![]⟩
abbrev S1024x6656 : Shape := ⟨2, ![1024, 6656]⟩

abbrev nBuf : Space → Nat
  | .hbm => 17
  | .vmem => 0
  | .smem => 0
  | _ => 0

abbrev bufTy : (tb : Table) → Fin (tcTables nBuf tb) → BufTy
  | .hbm, ⟨0, _⟩ => ⟨S1024x8224, .f32⟩
  | .hbm, ⟨1, _⟩ => ⟨S1024x512, .f32⟩
  | .hbm, ⟨2, _⟩ => ⟨S1024x6144, .f32⟩
  | .hbm, ⟨3, _⟩ => ⟨S1024x1024, .f32⟩
  | .hbm, ⟨4, _⟩ => ⟨S1024x3072, .f32⟩
  | .hbm, ⟨5, _⟩ => ⟨S1024x2048, .f32⟩
  | .hbm, ⟨6, _⟩ => ⟨S_, .f32⟩
  | .hbm, ⟨7, _⟩ => ⟨S1024x512, .f32⟩
  | .hbm, ⟨8, _⟩ => ⟨S1024x512, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x2048, .f32⟩
  | .hbm, ⟨14, _⟩ => ⟨S1024x2048, .f32⟩
  | .hbm, ⟨15, _⟩ => ⟨S1024x6656, .f32⟩
  | .hbm, ⟨16, _⟩ => ⟨S1024x6656, .bf16⟩
  | _, _ => ⟨S1024x8224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== WtK.lean ====
abbrev S1024x8224 : Shape := ⟨2, ![1024, 8224]⟩
abbrev S4 : Shape := ⟨1, ![4]⟩
abbrev S8224x1024 : Shape := ⟨2, ![8224, 1024]⟩
abbrev S32x32 : Shape := ⟨2, ![32, 32]⟩
abbrev S_ : Shape := ⟨0, ![]⟩
abbrev S32 : Shape := ⟨1, ![32]⟩
abbrev S2x2x4x2 : Shape := ⟨4, ![2, 2, 4, 2]⟩
abbrev S4x2x2x2 : Shape := ⟨4, ![4, 2, 2, 2]⟩
abbrev S32x1 : Shape := ⟨2, ![32, 1]⟩
abbrev S2048x1024 : Shape := ⟨2, ![2048, 1024]⟩
abbrev S512x1024 : Shape := ⟨2, ![512, 1024]⟩
abbrev S1 : Shape := ⟨1, ![1]⟩
abbrev S32x1024 : Shape := ⟨2, ![32, 1024]⟩

abbrev nBuf : Space → Nat
  | .hbm => 23
  | .vmem => 5
  | .smem => 1
  | _ => 0

abbrev bufTy : (tb : Table) → Fin (tcTables nBuf tb) → BufTy
  | .hbm, ⟨0, _⟩ => ⟨S1024x8224, .f32⟩
  | .hbm, ⟨1, _⟩ => ⟨S8224x1024, .f32⟩
  | .hbm, ⟨2, _⟩ => ⟨S32x32, .i32⟩
  | .hbm, ⟨3, _⟩ => ⟨S32x32, .i32⟩
  | .hbm, ⟨4, _⟩ => ⟨S_, .i32⟩
  | .hbm, ⟨5, _⟩ => ⟨S32x32, .i32⟩
  | .hbm, ⟨6, _⟩ => ⟨S32x32, .i32⟩
  | .hbm, ⟨7, _⟩ => ⟨S32x32, .i1⟩
  | .hbm, ⟨8, _⟩ => ⟨S32x32, .bf16⟩
  | .hbm, ⟨9, _⟩ => ⟨S32, .i32⟩
  | .hbm, ⟨10, _⟩ => ⟨S2x2x4x2, .i32⟩
  | .hbm, ⟨11, _⟩ => ⟨S4x2x2x2, .i32⟩
  | .hbm, ⟨12, _⟩ => ⟨S32, .i32⟩
  | .hbm, ⟨13, _⟩ => ⟨S_, .i32⟩
  | .hbm, ⟨14, _⟩ => ⟨S32, .i32⟩
  | .hbm, ⟨15, _⟩ => ⟨S32, .i1⟩
  | .hbm, ⟨16, _⟩ => ⟨S_, .i32⟩
  | .hbm, ⟨17, _⟩ => ⟨S32, .i32⟩
  | .hbm, ⟨18, _⟩ => ⟨S32, .i32⟩
  | .hbm, ⟨19, _⟩ => ⟨S32, .i32⟩
  | .hbm, ⟨20, _⟩ => ⟨S32x1, .i32⟩
  | .hbm, ⟨21, _⟩ => ⟨S32x32, .bf16⟩
  | .hbm, ⟨22, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S32x32, .bf16⟩
  | .local _ .vmem, ⟨3, _⟩ => ⟨S512x1024, .bf16⟩
  | .local _ .vmem, ⟨4, _⟩ => ⟨S512x1024, .bf16⟩
  | .local _ .smem, ⟨0, _⟩ => ⟨S4, .i32⟩
  | _, _ => ⟨S1024x8224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c_0 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c_1 : Ref sig .tc := ⟨.hbm, 13, rfl⟩
abbrev main_v11 : Ref sig .tc := ⟨.hbm, 14, rfl⟩
abbrev main_v12 : Ref sig .tc := ⟨.hbm, 15, rfl⟩
abbrev main_c_2 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (pf : pre0.Contents (Elt F)) (i : grid0.Coords) : BitVec 32 :=
  let c8_i32 : BitVec 32 := 8#32
  let arg0 : BitVec 32 := BitVec.ofNat 32 (i 0).val
  let v0 : Index := Scalar.indexCast arg0
  let v1 : BitVec 32 := pf.atD 0 ![v0.toNat]
  let v2 : BitVec 32 := Scalar.muli c8_i32 v1
  v2

def cc0_transform_0 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S4) ![v0.toNat] S1.size (k0_off1_inb i)) numel1_S1
  let c8_i32 : BitVec 32 := 8#32
  let v2 : BitVec 32 := Scalar.muli c8_i32 v1
  let v3 : BitVec 32 := v2
  let c0_i32 : BitVec 32 := 0#32
  let c0_i32_0 : BitVec 32 := 0#32
  ![v3.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== WtRIdeal.lean ====
abbrev S1024x8224 : Shape := ⟨2, ![1024, 8224]⟩
abbrev S1024x1024 : Shape := ⟨2, ![1024, 1024]⟩
abbrev S1024x16 : Shape := ⟨2, ![1024, 16]⟩
abbrev S1024x512 : Shape := ⟨2, ![1024, 512]⟩
abbrev S1024x2x4x2 : Shape := ⟨4, ![1024, 2, 4, 2]⟩
abbrev S1024x1x2x4x2 : Shape := ⟨5, ![1024, 1, 2, 4, 2]⟩
abbrev S1024x2x2x4x2 : Shape := ⟨5, ![1024, 2, 2, 4, 2]⟩
abbrev S1024x4x2x2x2 : Shape := ⟨5, ![1024, 4, 2, 2, 2]⟩
abbrev S1024x32 : Shape := ⟨2, ![1024, 32]⟩
abbrev S1024x480 : Shape := ⟨2, ![1024, 480]⟩
abbrev S1024x2048 : Shape := ⟨2, ![1024, 2048]⟩
abbrev S2048x1024 : Shape := ⟨2, ![2048, 1024]⟩

abbrev nBuf : Space → Nat
  | .hbm => 16
  | .vmem => 0
  | .smem => 0
  | _ => 0

abbrev bufTy : (tb : Table) → Fin (tcTables nBuf tb) → BufTy
  | .hbm, ⟨0, _⟩ => ⟨S1024x8224, .f32⟩
  | .hbm, ⟨1, _⟩ => ⟨S1024x1024, .f32⟩
  | .hbm, ⟨2, _⟩ => ⟨S1024x16, .f32⟩
  | .hbm, ⟨3, _⟩ => ⟨S1024x16, .f32⟩
  | .hbm, ⟨4, _⟩ => ⟨S1024x512, .f32⟩
  | .hbm, ⟨5, _⟩ => ⟨S1024x2x4x2, .f32⟩
  | .hbm, ⟨6, _⟩ => ⟨S1024x2x4x2, .f32⟩
  | .hbm, ⟨7, _⟩ => ⟨S1024x1x2x4x2, .f32⟩
  | .hbm, ⟨8, _⟩ => ⟨S1024x1x2x4x2, .f32⟩
  | .hbm, ⟨9, _⟩ => ⟨S1024x2x2x4x2, .f32⟩
  | .hbm, ⟨10, _⟩ => ⟨S1024x4x2x2x2, .f32⟩
  | .hbm, ⟨11, _⟩ => ⟨S1024x32, .f32⟩
  | .hbm, ⟨12, _⟩ => ⟨S1024x480, .f32⟩
  | .hbm, ⟨13, _⟩ => ⟨S1024x2048, .f32⟩
  | .hbm, ⟨14, _⟩ => ⟨S2048x1024, .f32⟩
  | .hbm, ⟨15, _⟩ => ⟨S2048x1024, .bf16⟩
  | _, _ => ⟨S1024x8224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩

abbrev nD : Nat := 1
abbrev τ : Topo := Topo.v7x

variable {F : FTy → Type} [FloatOps F]
-- ==== AdK.lean ====
abbrev S16x1024 : Shape := ⟨2, ![16, 1024]⟩
abbrev S1024 : Shape := ⟨1, ![1024]⟩
abbrev S1024x6144 : Shape := ⟨2, ![1024, 6144]⟩
abbrev S6144 : Shape := ⟨1, ![6144]⟩
abbrev S1x1024 : Shape := ⟨2, ![1, 1024]⟩
abbrev S17x1024 : Shape := ⟨2, ![17, 1024]⟩
abbrev S1x6144 : Shape := ⟨2, ![1, 6144]⟩
abbrev S17x6144 : Shape := ⟨2, ![17, 6144]⟩
abbrev S3x1024x1024 : Shape := ⟨3, ![3, 1024, 1024]⟩
abbrev S3 : Shape := ⟨1, ![3]⟩
abbrev S1 : Shape := ⟨1, ![1]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S1x1024, .f32⟩
  | .hbm, ⟨5, _⟩ => ⟨S17x1024, .f32⟩
  | .hbm, ⟨6, _⟩ => ⟨S1x6144, .f32⟩
  | .hbm, ⟨7, _⟩ => ⟨S17x6144, .f32⟩
  | .local _ .vmem, ⟨0, _⟩ => ⟨S17x1024, .f32⟩
  | .local _ .vmem, ⟨1, _⟩ => ⟨S1x1024, .f32⟩
  | .local _ .vmem, ⟨2, _⟩ => ⟨S1x1024, .f32⟩
  | .local _ .vmem, ⟨3, _⟩ => ⟨S17x1024, .f32⟩
  | .local _ .vmem, ⟨4, _⟩ => ⟨S17x1024, .f32⟩
  | .local _ .vmem, ⟨5, _⟩ => ⟨S3x1024x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![6], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_20 : BitVec 32 := 0#32
  c0_i32_20
def k0_off1 (c0_i32_18 : BitVec 32) : Fin 1 → Nat :=
  let c3_i32_19 : BitVec 32 := 3#32
  let v47 : BitVec 32 := Scalar.remsi c0_i32_18 c3_i32_19
  ![v47.toNat]
def k0_off2 (c0_i32_18 : BitVec 32) : Fin 3 → Nat :=
  let c3_i32_19 : BitVec 32 := 3#32
  let v47 : BitVec 32 := Scalar.remsi c0_i32_18 c3_i32_19
  let c0_i32_21 : BitVec 32 := 0#32
  let c0_i32_22 : BitVec 32 := 0#32
  ![v47.toNat, 0, 0]
def k0_mult2 : BitVec 32 :=
  let c1024_i32_25 : BitVec 32 := 1024#32
  c1024_i32_25
def k0_cond2 (i : grid0.Coords) : BitVec 1 :=
  let arg0 : BitVec 32 := BitVec.ofNat 32 (i 0).val
  let c2_i32 : BitVec 32 := 2#32
  let v3 : BitVec 32 := Scalar.addi arg0 c2_i32
  let c6_i32 : BitVec 32 := 6#32
  let v4 : BitVec 1 := Scalar.cmpi .slt v3 c6_i32
  let v5 : BitVec 32 := Scalar.extui v4
  let c0_i32_1 : BitVec 32 := 0#32
  let v6 : BitVec 1 := Scalar.cmpi .ne v5 c0_i32_1
  v6

def k0_mult3 (i : grid0.Coords) : BitVec 32 :=
  let arg0 : BitVec 32 := BitVec.ofNat 32 (i 0).val
  let c2_i32_18 : BitVec 32 := 2#32
  let v47 : BitVec 32 := Scalar.addi arg0 c2_i32_18
  let c1024_i32_20 : BitVec 32 := 1024#32
  let v49 : BitVec 32 := Scalar.muli v47 c1024_i32_20
  v49
def k0_off3 (i : grid0.Coords) : Fin 1 → Nat :=
  let arg0 : BitVec 32 := BitVec.ofNat 32 (i 0).val
  let c2_i32_18 : BitVec 32 := 2#32
  let v47 : BitVec 32 := Scalar.addi arg0 c2_i32_18
  let c3_i32_19 : BitVec 32 := 3#32
  let v48 : BitVec 32 := Scalar.remsi v47 c3_i32_19
  ![v48.toNat]
def k0_off4 (i : grid0.Coords) : Fin 3 → Nat :=
  let arg0 : BitVec 32 := BitVec.ofNat 32 (i 0).val
  let c2_i32_18 : BitVec 32 := 2#32
  let v47 : BitVec 32 := Scalar.addi arg0 c2_i32_18
  let c3_i32_19 : BitVec 32 := 3#32
  let v48 : BitVec 32 := Scalar.remsi v47 c3_i32_19
  let c0_i32_21 : BitVec 32 := 0#32
  let c0_i32_22 : BitVec 32 := 0#32
  ![v48.toNat, 0, 0]
def k0_off5 (i : grid0.Coords) : Fin 2 → Nat :=
  let c0_i32_23 : BitVec 32 := 0#32
  let arg0 : BitVec 32 := BitVec.ofNat 32 (i 0).val
  let c2_i32_18 : BitVec 32 := 2#32
  let v47 : BitVec 32 := Scalar.addi arg0 c2_i32_18
  let c1024_i32_20 : BitVec 32 := 1024#32
  let v49 : BitVec 32 := Scalar.muli v47 c1024_i32_20
  let v50 : BitVec 32 := v49
  ![0, v50.toNat]
def k0_mult4 (i : grid0.Coords) : BitVec 32 :=
  let arg0 : BitVec 32 := BitVec.ofNat 32 (i 0).val
  let c1024_i32 : BitVec 32 := 1024#32
  let v18 : BitVec 32 := Scalar.muli arg0 c1024_i32
  v18
def k0_off6 (i : grid0.Coords) : Fin 1 → Nat :=
  let arg0 : BitVec 32 := BitVec.ofNat 32 (i 0).val
  let c3_i32 : BitVec 32 := 3#32
  let v17 : BitVec 32 := Scalar.remsi arg0 c3_i32
  ![v17.toNat]
def k0_off7 (i : grid0.Coords) : Fin 3 → Nat :=
  let arg0 : BitVec 32 := BitVec.ofNat 32 (i 0).val
  let c3_i32 : BitVec 32 := 3#32
  let v17 : BitVec 32 := Scalar.remsi arg0 c3_i32
  let c0_i32_5 : BitVec 32 := 0#32
  let c0_i32_6 : BitVec 32 := 0#32
  ![v17.toNat, 0, 0]
def k0_off8 (i : grid0.Coords) : Fin 2 → Nat :=
  let c0_i32_7 : BitVec 32 := 0#32
  let arg0 : BitVec 32 := BitVec.ofNat 32 (i 0).val
  let c1024_i32 : BitVec 32 := 1024#32
  let v18 : BitVec 32 := Scalar.muli arg0 c1024_i32
  let v19 : BitVec 32 := v18
  ![0, v19.toNat]
def k0_off9 (i : grid0.Coords) : Fin 3 → Nat :=
  let arg0 : BitVec 32 := BitVec.ofNat 32 (i 0).val
  let c3_i32_8 : BitVec 32 := 3#32
  let v25 : BitVec 32 := Scalar.remsi arg0 c3_i32_8
  let v26 : Index := Scalar.indexCast v25
  let c0_9 : Index := 0#32
  let c0_10 : Index := 0#32
  ![v26.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S17x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S17x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AdRIdeal.lean ====
abbrev S16x1024 : Shape := ⟨2, ![16, 1024]⟩
abbrev S1024 : Shape := ⟨1, ![1024]⟩
abbrev S1024x6144 : Shape := ⟨2, ![1024, 6144]⟩
abbrev S6144 : Shape := ⟨1, ![6144]⟩
abbrev S1x1024 : Shape := ⟨2, ![1, 1024]⟩
abbrev S17x1024 : Shape := ⟨2, ![17, 1024]⟩
abbrev S_ : Shape := ⟨0, ![]⟩
abbrev S17x6144 : Shape := ⟨2, ![17, 6144]⟩
abbrev S1x6144 : Shape := ⟨2, ![1, 6144]⟩

abbrev nBuf : Space → Nat
  | .hbm => 19
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S1x1024, .f32⟩
  | .hbm, ⟨5, _⟩ => ⟨S17x1024, .f32⟩
  | .hbm, ⟨6, _⟩ => ⟨S17x1024, .f32⟩
  | .hbm, ⟨7, _⟩ => ⟨S17x1024, .f32⟩
  | .hbm, ⟨8, _⟩ => ⟨S_, .f32⟩
  | .hbm, ⟨9, _⟩ => ⟨S17x1024, .f32⟩
  | .hbm, ⟨10, _⟩ => ⟨S17x1024, .f32⟩
  | .hbm, ⟨11, _⟩ => ⟨S_, .f32⟩
  | .hbm, ⟨12, _⟩ => ⟨S17x1024, .f32⟩
  | .hbm, ⟨13, _⟩ => ⟨S17x1024, .f32⟩
  | .hbm, ⟨14, _⟩ => ⟨S17x1024, .f32⟩
  | .hbm, ⟨15, _⟩ => ⟨S17x6144, .f32⟩
  | .hbm, ⟨16, _⟩ => ⟨S1x6144, .f32⟩
  | .hbm, ⟨17, _⟩ => ⟨S17x6144, .f32⟩
  | .hbm, ⟨18, _⟩ => ⟨S17x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]
-- ==== CxK.lean ====
abbrev S16x256x1024 : Shape := ⟨3, ![16, 256, 1024]⟩
abbrev S17x6144 : Shape := ⟨2, ![17, 6144]⟩
abbrev S1024 : Shape := ⟨1, ![1024]⟩
abbrev S1024x6656 : Shape := ⟨2, ![1024, 6656]⟩
abbrev S1x6656 : Shape := ⟨2, ![1, 6656]⟩
abbrev S2048x1024 : Shape := ⟨2, ![2048, 1024]⟩
abbrev S2048x1 : Shape := ⟨2, ![2048, 1]⟩
abbrev S1x1024 : Shape := ⟨2, ![1, 1024]⟩
abbrev S16x2x4x144x128 : Shape := ⟨5, ![16, 2, 4, 144, 128]⟩
abbrev S16x32x1 : Shape := ⟨3, ![16, 32, 1]⟩
abbrev S4x256x1024 : Shape := ⟨3, ![4, 256, 1024]⟩
abbrev S1024x512 : Shape := ⟨2, ![1024, 512]⟩
abbrev S1x512 : Shape := ⟨2, ![1, 512]⟩
abbrev S1024x1024 : Shape := ⟨2, ![1024, 1024]⟩
abbrev S1024x1 : Shape := ⟨2, ![1024, 1]⟩
abbrev S32x1024 : Shape := ⟨2, ![32, 1024]⟩
abbrev S32x1 : Shape := ⟨2, ![32, 1]⟩
abbrev S4x2x4x144x128 : Shape := ⟨5, ![4, 2, 4, 144, 128]⟩
abbrev S4x32x1 : Shape := ⟨3, ![4, 32, 1]⟩
abbrev S16x256 : Shape := ⟨2, ![16, 256]⟩
abbrev S256x128 : Shape := ⟨2, ![256, 128]⟩
abbrev S32x256 : Shape := ⟨2, ![32, 256]⟩
abbrev S1024x256 : Shape := ⟨2, ![1024, 256]⟩
abbrev S256x512 : Shape := ⟨2, ![256, 512]⟩
abbrev S256x256 : Shape := ⟨2, ![256, 256]⟩
abbrev S32 : Shape := ⟨1, ![32]⟩
abbrev S1x32x1 : Shape := ⟨3, ![1, 32, 1]⟩
abbrev S512x128 : Shape := ⟨2, ![512, 128]⟩
abbrev S128x256 : Shape := ⟨2, ![128, 256]⟩
abbrev S144x256 : Shape := ⟨2, ![144, 256]⟩
abbrev S1x256 : Shape := ⟨2, ![1, 256]⟩
abbrev S144x512 : Shape := ⟨2, ![144, 512]⟩
abbrev S144x128 : Shape := ⟨2, ![144, 128]⟩
abbrev S1x1x1x144x128 : Shape := ⟨5, ![1, 1, 1, 144, 128]⟩

abbrev nBuf : Space → Nat
  | .hbm => 10
  | .vmem => 14
  | .smem => 0
  | _ => 0

abbrev bufTy : (tb : Table) → Fin (tcTables nBuf tb) → BufTy
  | .hbm, ⟨0, _⟩ => ⟨S16x256x1024, .f32⟩
  | .hbm, ⟨1, _⟩ => ⟨S17x6144, .f32⟩
  | .hbm, ⟨2, _⟩ => ⟨S1024, .f32⟩
  | .hbm, ⟨3, _⟩ => ⟨S1024x6656, .bf16⟩
  | .hbm, ⟨4, _⟩ => ⟨S1x6656, .f32⟩
  | .hbm, ⟨5, _⟩ => ⟨S2048x1024, .bf16⟩
  | .hbm, ⟨6, _⟩ => ⟨S2048x1, .f32⟩
  | .hbm, ⟨7, _⟩ => ⟨S1x1024, .f32⟩
  | .hbm, ⟨8, _⟩ => ⟨S16x2x4x144x128, .f32⟩
  | .hbm, ⟨9, _⟩ => ⟨S16x32x1, .f32⟩
  | .local _ .vmem, ⟨0, _⟩ => ⟨S4x256x1024, .f32⟩
  | .local _ .vmem, ⟨1, _⟩ => ⟨S4x256x1024, .f32⟩
  | .local _ .vmem, ⟨2, _⟩ => ⟨S17x6144, .f32⟩
  | .local _ .vmem, ⟨3, _⟩ => ⟨S1x1024, .f32⟩
  | .local _ .vmem, ⟨4, _⟩ => ⟨S1024x512, .bf16⟩
  | .local _ .vmem, ⟨5, _⟩ => ⟨S1x512, .f32⟩
  | .local _ .vmem, ⟨6, _⟩ => ⟨S1024x1024, .bf16⟩
  | .local _ .vmem, ⟨7, _⟩ => ⟨S1024x1, .f32⟩
  | .local _ .vmem, ⟨8, _⟩ => ⟨S32x1024, .bf16⟩
  | .local _ .vmem, ⟨9, _⟩ => ⟨S32x1, .f32⟩
  | .local _ .vmem, ⟨10, _⟩ => ⟨S4x2x4x144x128, .f32⟩
  | .local _ .vmem, ⟨11, _⟩ => ⟨S4x2x4x144x128, .f32⟩
  | .local _ .vmem, ⟨12, _⟩ => ⟨S4x32x1, .f32⟩
  | .local _ .vmem, ⟨13, _⟩ => ⟨S4x32x1, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c48_i32 : BitVec 32 := 48#32
  let c0_i32 : BitVec 32 := 0#32
  let c0_i32_0 : BitVec 32 := 0#32
  ![c48_i32.toNat, c0_i32.toNat]

def cc0_transform_8 (i : grid0.Coords) : Fin 2 → Nat :=
  let arg0 : BitVec 32 := BitVec.ofNat 32 (i 0).val
  let c48_i32 : BitVec 32 := 48#32
  let c0_i32 : BitVec 32 := 0#32
  let c0_i32_0 : BitVec 32 := 0#32
  ![c48_i32.toNat, c0_i32.toNat]

def cc0_transform_9 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S17x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4x2x4x144x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x32x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== CxRIdeal.lean ====
abbrev S16x256x1024 : Shape := ⟨3, ![16, 256, 1024]⟩
abbrev S17x6144 : Shape := ⟨2, ![17, 6144]⟩
abbrev S1024 : Shape := ⟨1, ![1024]⟩
abbrev S1024x6656 : Shape := ⟨2, ![1024, 6656]⟩
abbrev S1x6656 : Shape := ⟨2, ![1, 6656]⟩
abbrev S2048x1024 : Shape := ⟨2, ![2048, 1024]⟩
abbrev S2048x1 : Shape := ⟨2, ![2048, 1]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S1x1024 : Shape := ⟨2, ![1, 1024]⟩
abbrev S1024x512 : Shape := ⟨2, ![1024, 512]⟩
abbrev S16x256x512 : Shape := ⟨3, ![16, 256, 512]⟩
abbrev S1x512 : Shape := ⟨2, ![1, 512]⟩
abbrev S512 : Shape := ⟨1, ![512]⟩
abbrev S1x1x512 : Shape := ⟨3, ![1, 1, 512]⟩
abbrev S1024x1024 : Shape := ⟨2, ![1024, 1024]⟩
abbrev S1024x1 : Shape := ⟨2, ![1024, 1]⟩
abbrev S32x1024 : Shape := ⟨2, ![32, 1024]⟩
abbrev S1024x32 : Shape := ⟨2, ![1024, 32]⟩
abbrev S16x256x32 : Shape := ⟨3, ![16, 256, 32]⟩
abbrev S32x1 : Shape := ⟨2, ![32, 1]⟩
abbrev S32 : Shape := ⟨1, ![32]⟩
abbrev S1x1x32 : Shape := ⟨3, ![1, 1, 32]⟩
abbrev S256 : Shape := ⟨1, ![256]⟩
abbrev S256x1 : Shape := ⟨2, ![256, 1]⟩
abbrev S1x256 : Shape := ⟨2, ![1, 256]⟩
abbrev S16x32x256 : Shape := ⟨3, ![16, 32, 256]⟩
abbrev S256x256 : Shape := ⟨2, ![256, 256]⟩
abbrev S8 : Shape := ⟨1, ![8]⟩
abbrev S1x8 : Shape := ⟨2, ![1, 8]⟩
abbrev S4x8 : Shape := ⟨2, ![4, 8]⟩
abbrev S16x256x4 : Shape := ⟨3, ![16, 256, 4]⟩
abbrev S16x256x28 : Shape := ⟨3, ![16, 256, 28]⟩
abbrev S16x32 : Shape := ⟨2, ![16, 32]⟩
abbrev S16x32x1 : Shape := ⟨3, ![16, 32, 1]⟩
abbrev S16x4x2x2x2x256 : Shape := ⟨6, ![16, 4, 2, 2, 2, 256]⟩
abbrev S16x4x1x2x2x256 : Shape := ⟨6, ![16, 4, 1, 2, 2, 256]⟩
abbrev S16x4x2x2x256 : Shape := ⟨5, ![16, 4, 2, 2, 256]⟩
abbrev S16x2x4x2x256 : Shape := ⟨5, ![16, 2, 4, 2, 256]⟩
abbrev S16x256x4x2x128 : Shape := ⟨5, ![16, 256, 4, 2, 128]⟩
abbrev S16x4x2x128x256 : Shape := ⟨5, ![16, 4, 2, 128, 256]⟩
abbrev S16x1x4x2x128x256 : Shape := ⟨6, ![16, 1, 4, 2, 128, 256]⟩
abbrev S16x256x4x2x64 : Shape := ⟨5, ![16, 256, 4, 2, 64]⟩
abbrev S16x4x2x256x64 : Shape := ⟨5, ![16, 4, 2, 256, 64]⟩
abbrev S16x1x4x2x256x64 : Shape := ⟨6, ![16, 1, 4, 2, 256, 64]⟩
abbrev S16x2x4x2x256x64 : Shape := ⟨6, ![16, 2, 4, 2, 256, 64]⟩
abbrev S16x2x4x2x1x256 : Shape := ⟨6, ![16, 2, 4, 2, 1, 256]⟩
abbrev S16x2x4x2x128x256 : Shape := ⟨6, ![16, 2, 4, 2, 128, 256]⟩
abbrev S16x2x4x2x128x64 : Shape := ⟨6, ![16, 2, 4, 2, 128, 64]⟩
abbrev S16x2x4x2x1x64 : Shape := ⟨6, ![16, 2, 4, 2, 1, 64]⟩
abbrev S16x2x4x2x15x64 : Shape := ⟨6, ![16, 2, 4, 2, 15, 64]⟩
abbrev S16x2x4x2x144x64 : Shape := ⟨6, ![16, 2, 4, 2, 144, 64]⟩
abbrev S16x2x4x144x2x64 : Shape := ⟨6, ![16, 2, 4, 144, 2, 64]⟩
abbrev S16x2x4x144x128 : Shape := ⟨5, ![16, 2, 4, 144, 128]⟩

abbrev nBuf : Space → Nat
  | .hbm => 140
  | .vmem => 0
  | .smem => 0
  | _ => 0

abbrev hbmTy0_0 (i : Nat) : BufTy := match i % 128 with
  | 0 => ⟨S16x256x1024, .f32⟩
  | 1 => ⟨S17x6144, .f32⟩
  | 2 => ⟨S1024, .f32⟩
  | 3 => ⟨S1024x6656, .bf16⟩
  | 4 => ⟨S1x6656, .f32⟩
  | 5 => ⟨S2048x1024, .bf16⟩
  | 6 => ⟨S2048x1, .f32⟩
  | 7 => ⟨S16x256x1024, .f32⟩
  | 8 => ⟨S_, .f32⟩
  | 9 => ⟨S16x256, .f32⟩
  | 10 => ⟨S16x256x1, .f32⟩
  | 11 => ⟨S_, .f32⟩
  | 12 => ⟨S16x256x1, .f32⟩
  | 13 => ⟨S16x256x1, .f32⟩
  | 14 => ⟨S_, .f32⟩
  | 15 => ⟨S16x256x1, .f32⟩
  | 16 => ⟨S16x256x1, .f32⟩
  | 17 => ⟨S16x256x1, .f32⟩
  | 18 => ⟨S16x256x1024, .f32⟩
  | 19 => ⟨S16x256x1024, .f32⟩
  | 20 => ⟨S1x1x1024, .f32⟩
  | 21 => ⟨S16x256x1024, .f32⟩
  | 22 => ⟨S16x256x1024, .f32⟩
  | 23 => ⟨S1x1024, .f32⟩
  | 24 => ⟨S1024, .f32⟩
  | 25 => ⟨S_, .f32⟩
  | 26 => ⟨S1024, .f32⟩
  | 27 => ⟨S1024, .f32⟩
  | 28 => ⟨S1x1x1024, .f32⟩
  | 29 => ⟨S16x256x1024, .f32⟩
  | 30 => ⟨S16x256x1024, .f32⟩
  | 31 => ⟨S1x1024, .f32⟩
  | 32 => ⟨S1024, .f32⟩
  | 33 => ⟨S1x1x1024, .f32⟩
  | 34 => ⟨S16x256x1024, .f32⟩
  | 35 => ⟨S16x256x1024, .f32⟩
  | 36 => ⟨S1024x512, .bf16⟩
  | 37 => ⟨S1024x512, .f32⟩
  | 38 => ⟨S16x256x512, .f32⟩
  | 39 => ⟨S1x512, .f32⟩
  | 40 => ⟨S512, .f32⟩
  | 41 => ⟨S1x1x512, .f32⟩
  | 42 => ⟨S16x256x512, .f32⟩
  | 43 => ⟨S16x256x512, .f32⟩
  | 44 => ⟨S1024x1024, .bf16⟩
  | 45 => ⟨S1024x1024, .f32⟩
  | 46 => ⟨S1024x1024, .f32⟩
  | 47 => ⟨S16x256x1024, .f32⟩
  | 48 => ⟨S1024x1, .f32⟩
  | 49 => ⟨S1024, .f32⟩
  | 50 => ⟨S1x1x1024, .f32⟩
  | 51 => ⟨S16x256x1024, .f32⟩
  | 52 => ⟨S16x256x1024, .f32⟩
  | 53 => ⟨S32x1024, .bf16⟩
  | 54 => ⟨S32x1024, .f32⟩
  | 55 => ⟨S1024x32, .f32⟩
  | 56 => ⟨S16x256x32, .f32⟩
  | 57 => ⟨S32x1, .f32⟩
  | 58 => ⟨S32, .f32⟩
  | 59 => ⟨S1x1x32, .f32⟩
  | 60 => ⟨S16x256x32, .f32⟩
  | 61 => ⟨S16x256x32, .f32⟩
  | 62 => ⟨S16x256x32, .f32⟩
  | 63 => ⟨S16x256x32, .f32⟩
  | 64 => ⟨S_, .f32⟩
  | 65 => ⟨S16x256x32, .f32⟩
  | 66 => ⟨S16x256x32, .f32⟩
  | 67 => ⟨S16x256x32, .f32⟩
  | 68 => ⟨S16x256x32, .f32⟩
  | 69 => ⟨S256, .i32⟩
  | 70 => ⟨S256x1, .i32⟩
  | 71 => ⟨S256, .i32⟩
  | 72 => ⟨S1x256, .i32⟩
  | 73 => ⟨S16x32x256, .f32⟩
  | 74 => ⟨S256x256, .i32⟩
  | 75 => ⟨S256x256, .i32⟩
  | 76 => ⟨S256x256, .i1⟩
  | 77 => ⟨S_, .f32⟩
  | 78 => ⟨S_, .f32⟩
  | 79 => ⟨S256x256, .f32⟩
  | 80 => ⟨S256x256, .f32⟩
  | 81 => ⟨S256x256, .f32⟩
  | 82 => ⟨S16x32x256, .f32⟩
  | 83 => ⟨S16x32x256, .f32⟩
  | 84 => ⟨S256x256, .i32⟩
  | 85 => ⟨S256x256, .i32⟩
  | 86 => ⟨S256x256, .i1⟩
  | 87 => ⟨S_, .f32⟩
  | 88 => ⟨S_, .f32⟩
  | 89 => ⟨S256x256, .f32⟩
  | 90 => ⟨S256x256, .f32⟩
  | 91 => ⟨S256x256, .f32⟩
  | 92 => ⟨S16x32x256, .f32⟩
  | 93 => ⟨S8, .i32⟩
  | 94 => ⟨S_, .i32⟩
  | 95 => ⟨S8, .i32⟩
  | 96 => ⟨S8, .i1⟩
  | 97 => ⟨S1x8, .i1⟩
  | 98 => ⟨S4x8, .i1⟩
  | 99 => ⟨S32, .i1⟩
  | 100 => ⟨S32x1, .i1⟩
  | 101 => ⟨S16x256x4, .f32⟩
  | 102 => ⟨S16x256x28, .f32⟩
  | 103 => ⟨S16x256x32, .f32⟩
  | 104 => ⟨S16x32x256, .f32⟩
  | 105 => ⟨S16x32x256, .i1⟩
  | 106 => ⟨S16x32x256, .f32⟩
  | 107 => ⟨S16x32x256, .f32⟩
  | 108 => ⟨S_, .f32⟩
  | 109 => ⟨S16x32, .f32⟩
  | 110 => ⟨S_, .f32⟩
  | 111 => ⟨S16x32, .f32⟩
  | 112 => ⟨S16x32, .f32⟩
  | 113 => ⟨S16x32x1, .f32⟩
  | 114 => ⟨S16x32x256, .f32⟩
  | 115 => ⟨S16x32x256, .f32⟩
  | 116 => ⟨S16x32x256, .f32⟩
  | 117 => ⟨S16x4x2x2x2x256, .f32⟩
  | 118 => ⟨S16x4x1x2x2x256, .f32⟩
  | 119 => ⟨S16x4x2x2x256, .f32⟩
  | 120 => ⟨S16x2x4x2x256, .f32⟩
  | 121 => ⟨S16x256x4x2x128, .f32⟩
  | 122 => ⟨S16x4x2x128x256, .f32⟩
  | 123 => ⟨S16x1x4x2x128x256, .f32⟩
  | 124 => ⟨S16x256x4x2x64, .f32⟩
  | 125 => ⟨S16x4x2x256x64, .f32⟩
  | 126 => ⟨S16x1x4x2x256x64, .f32⟩
  | 127 => ⟨S16x2x4x2x256x64, .f32⟩
  | _ => ⟨S16x256x1024, .f32⟩

abbrev hbmTy0_1 (i : Nat) : BufTy := match i % 128 with
  | 0 => ⟨S16x2x4x2x1x256, .f32⟩
  | 1 => ⟨S16x2x4x2x128x256, .f32⟩
  | 2 => ⟨S16x2x4x2x128x256, .f32⟩
  | 3 => ⟨S16x2x4x2x128x256, .f32⟩
  | 4 => ⟨S16x2x4x2x128x64, .f32⟩
  | 5 => ⟨S16x2x4x2x1x256, .f32⟩
  | 6 => ⟨S16x2x4x2x1x64, .f32⟩
  | 7 => ⟨S_, .f32⟩
  | 8 => ⟨S16x2x4x2x15x64, .f32⟩
  | 9 => ⟨S16x2x4x2x144x64, .f32⟩
  | 10 => ⟨S16x2x4x144x2x64, .f32⟩
  | 11 => ⟨S16x2x4x144x128, .f32⟩
  | _ => ⟨S16x256x1024, .f32⟩

abbrev hbmTy (i : Nat) : BufTy := match i / 128 with
  | 0 => hbmTy0_0 i
  | 1 => hbmTy0_1 i
  | _ => ⟨S16x256x1024, .f32⟩

abbrev bufTy : (tb : Table) → Fin (tcTables nBuf tb) → BufTy
  | .hbm, ⟨i, _⟩ => hbmTy i
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_3 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_cst_4 : Ref sig .tc := ⟨.hbm, 77, rfl⟩
abbrev main_cst_5 : Ref sig .tc := ⟨.hbm, 78, rfl⟩
abbrev main_call0_v0 : Ref sig .tc := ⟨.hbm, 79, rfl⟩
abbrev main_call0_v1 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_6 : Ref sig .tc := ⟨.hbm, 87, rfl⟩
abbrev main_cst_7 : Ref sig .tc := ⟨.hbm, 88, rfl⟩
abbrev main_call1_v0 : Ref sig .tc := ⟨.hbm, 89, rfl⟩
abbrev main_call1_v1 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_c : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_call2_v0 : Ref sig .tc := ⟨.hbm, 101, rfl⟩
abbrev main_call2_v1 : Ref sig .tc := ⟨.hbm, 102, rfl⟩
abbrev main_v80 : Ref sig .tc := ⟨.hbm, 103, rfl⟩
abbrev main_v81 : Ref sig .tc := ⟨.hbm, 104, rfl⟩
abbrev main_call3_v0 : Ref sig .tc := ⟨.hbm, 105, rfl⟩
abbrev main_v82 : Ref sig .tc := ⟨.hbm, 106, rfl⟩
abbrev main_v83 : Ref sig .tc := ⟨.hbm, 107, rfl⟩
abbrev main_cst_8 : Ref sig .tc := ⟨.hbm, 108, rfl⟩
abbrev main_v84 : Ref sig .tc := ⟨.hbm, 109, rfl⟩
abbrev main_cst_9 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_cst_10 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩

abbrev nD : Nat := 1
abbrev τ : Topo := Topo.v7x

variable {F : FTy → Type} [FloatOps F]
-- ==== Proof.RowMath.lean ====
module

public import Idealize.ShloMosaic.Lib.Pointwise

/- The mathematics of one token row of the block's second half, over the extended reals:
   output of mixer B, merge, output projection, residual, modulated norm, MLP, residual, final norm. -/

@[expose] public section

noncomputable section
open Idealize.ShloMosaic
open scoped BigOperators

namespace DitRows

/-- The epsilon of the norms, as the float constant both programs hold. -/
def eps : EReal := Ideal.ofBits .f32 0x358637BD#32

/-- The model width, 1024, as the float constant both programs hold. -/
def width : EReal := Ideal.ofBits .f32 0x44800000#32

/-- The factor by which the norm scales a row: one over the root of the mean square plus epsilon. -/
def invRms (x : Fin 1024 → EReal) : EReal := Ideal.rsqrt (Ideal.div (∑ k, x k * x k) width + eps)

/-- The `p`-th of the six modulation vectors of one batch row, starting at column `o`. -/
def modPart (md : Fin 6144 → EReal) (o : ℕ) (ho : o + 1024 ≤ 6144) (j : Fin 1024) : EReal :=
  md ⟨o + j.val, by have := j.isLt; omega⟩

/-- A row normalised, weighted, scaled and shifted. -/
def modulated (x nw sc sh : Fin 1024 → EReal) (j : Fin 1024) : EReal :=
  x j * invRms x * nw j * (1 + sc j) + sh j

/-- The two mixers merged and projected: `(ya + gb * (hs @ wmo)) @ wo`. -/
def merged (hs ya gb : Fin 1024 → EReal) (wmo wo : Fin 1024 → Fin 1024 → EReal) (j : Fin 1024) : EReal :=
  ∑ k, (ya k + gb k * ∑ l, hs l * wmo l k) * wo k j

/-- The row after the mixers' residual. -/
def afterMix (x hs ya gb g : Fin 1024 → EReal) (wmo wo : Fin 1024 → Fin 1024 → EReal) (j : Fin 1024) : EReal :=
  x j + g j * merged hs ya gb wmo wo j

/-- The squared-ReLU MLP of a row. -/
def mlp (h : Fin 1024 → EReal) (w1 : Fin 1024 → Fin 4096 → EReal) (w2 : Fin 4096 → Fin 1024 → EReal) (j : Fin 1024) : EReal :=
  ∑ f, max (∑ k, h k * w1 k f) 0 * max (∑ k, h k * w1 k f) 0 * w2 f j

/-- The row after the MLP's residual, from the row `x` after the mixers' residual. -/
def afterMlp (x nw sc sh g : Fin 1024 → EReal) (w1 : Fin 1024 → Fin 4096 → EReal) (w2 : Fin 4096 → Fin 1024 → EReal)
    (j : Fin 1024) : EReal :=
  x j + g j * mlp (modulated x nw sc sh) w1 w2 j

/-- The final norm of a row. -/
def finalNorm (x fw : Fin 1024 → EReal) (j : Fin 1024) : EReal := x j * invRms x * fw j

/-- The second half of the block on one row. -/
def blockRow (x hs ya gb : Fin 1024 → EReal) (md : Fin 6144 → EReal) (nw fw : Fin 1024 → EReal)
    (wmo wo : Fin 1024 → Fin 1024 → EReal) (w1 : Fin 1024 → Fin 4096 → EReal) (w2 : Fin 4096 → Fin 1024 → EReal) :
    Fin 1024 → EReal :=
  finalNorm (afterMlp (afterMix x hs ya gb (modPart md 2048 (by omega)) wmo wo) nw (modPart md 4096 (by omega))
    (modPart md 3072 (by omega)) (modPart md 5120 (by omega)) w1 w2) fw

/-- Equal rows and weights give equal block rows. -/
theorem blockRow_congr {x x' hs hs' ya ya' gb gb' : Fin 1024 → EReal} {md md' : Fin 6144 → EReal} {nw nw' fw fw' : Fin 1024 → EReal}
    {wmo wmo' wo wo' : Fin 1024 → Fin 1024 → EReal} {w1 w1' : Fin 1024 → Fin 4096 → EReal} {w2 w2' : Fin 4096 → Fin 1024 → EReal}
    (h1 : ∀ k, x k = x' k) (h2 : ∀ k, hs k = hs' k) (h3 : ∀ k, ya k = ya' k) (h4 : ∀ k, gb k = gb' k) (h5 : ∀ k, md k = md' k)
    (h6 : ∀ k, nw k = nw' k) (h7 : ∀ k, fw k = fw' k) (h8 : ∀ k l, wmo k l = wmo' k l) (h9 : ∀ k l, wo k l = wo' k l)
    (h10 : ∀ k l, w1 k l = w1' k l) (h11 : ∀ k l, w2 k l = w2' k l) (j : Fin 1024) :
    blockRow x hs ya gb md nw fw wmo wo w1 w2 j = blockRow x' hs' ya' gb' md' nw' fw' wmo' wo' w1' w2' j := by
  obtain rfl := funext h1
  obtain rfl := funext h2
  obtain rfl := funext h3
  obtain rfl := funext h4
  obtain rfl := funext h5
  obtain rfl := funext h6
  obtain rfl := funext h7
  obtain rfl := funext fun k => funext (h8 k)
  obtain rfl := funext fun k => funext (h9 k)
  obtain rfl := funext fun k => funext (h10 k)
  obtain rfl := funext fun k => funext (h11 k)
  rfl

end DitRows
end
-- ==== Proof.OutRef.lean ====
module

public import proofs.«01_k».proof.Proof.RowMath
public import proofs.«01_k».proof.Proof.Gen.OutRIdeal.Read

/- The reference of the block's second half, read at one element: it is `DitRows.blockRow` of the token's rows. -/

@[expose] public section

set_option maxRecDepth 16384

noncomputable section
open Idealize.ShloMosaic Idealize.ShloMosaic.TcCoe Idealize.SL.Sem
open scoped BigOperators

namespace Cert.OutRIdeal.Rows
open Cert.OutRIdeal Cert.OutRIdeal.Gen Cert.OutRIdeal.Read DitRows

variable (x0 : FVec Ideal S16x2048x1024 .f32) (x1 x2 x3 : FVec Ideal S16x2048x1024 .bf16) (x4 : FVec Ideal S17x6144 .f32)
  (x5 x6 : FVec Ideal S1024 .f32) (x7 x8 : FVec Ideal S1024x1024 .f32) (x9 : FVec Ideal S1024x4096 .f32)
  (x10 : FVec Ideal S4096x1024 .f32) (b : Fin 16) (s : Fin 2048) (j : Fin 1024)

/-- The modulation row of batch `b`. -/
abbrev md : Fin 6144 → EReal := fun q => x4 (ix2 (⟨b.val, by omega⟩ : Fin 17) q)

/-- After the mixers' residual. -/
theorem x1_at : val_main_v22 (F := Ideal) x0 x1 x2 x3 x4 x7 x8 (ix3 b s j) =
    afterMix (fun k => x0 (ix3 b s k)) (fun k => x1 (ix3 b s k)) (fun k => x2 (ix3 b s k)) (fun k => x3 (ix3 b s k))
      (modPart (md x4 b) 2048 (by omega)) (fun k l => x7 (ix2 k l)) (fun k l => x8 (ix2 k l)) j := by
  pointwise [val_main_v22, val_main_v21, val_main_v20, val_main_v19, val_main_v18, val_main_v17, val_main_v16, val_main_v15,
    val_main_v14, val_main_v13, val_main_v9, val_main_v3, val_main_v0, afterMix, merged, modPart]

/-- The modulated norm. -/
theorem h_at (X : FVec Ideal S16x2048x1024 .f32) (hX : val_main_v22 (F := Ideal) x0 x1 x2 x3 x4 x7 x8 = X) :
    val_main_v41 (F := Ideal) x0 x1 x2 x3 x4 x5 x7 x8 (ix3 b s j) =
    modulated (fun k => X (ix3 b s k)) (fun k => x5 (ix1 k))
      (modPart (md x4 b) 4096 (by omega)) (modPart (md x4 b) 3072 (by omega)) j := by
  unfold val_main_v41 val_main_v39 val_main_v35 val_main_v32 val_main_v31 val_main_v30 val_main_v29 val_main_v27 val_main_v25
    val_main_v24 val_main_v23
  rw [hX]
  pointwise [val_main_v40, val_main_v38, val_main_v37, val_main_v36, val_main_v34, val_main_v33, val_main_v28, val_main_v26,
    val_main_cst, val_main_cst_0, val_main_cst_1, val_main_cst_2, val_main_v10, val_main_v4, val_main_v0, val_main_v11, val_main_v5, modulated, modPart, invRms, width, eps]

/-- After the MLP's residual. -/
theorem x2_at (X H : FVec Ideal S16x2048x1024 .f32) (hX : val_main_v22 (F := Ideal) x0 x1 x2 x3 x4 x7 x8 = X)
    (hH : val_main_v41 (F := Ideal) x0 x1 x2 x3 x4 x5 x7 x8 = H) :
    val_main_v48 (F := Ideal) x0 x1 x2 x3 x4 x5 x7 x8 x9 x10 (ix3 b s j) =
    X (ix3 b s j) + modPart (md x4 b) 5120 (by omega) j *
      mlp (fun k => H (ix3 b s k)) (fun k l => x9 (ix2 k l)) (fun k l => x10 (ix2 k l)) j := by
  unfold val_main_v48 val_main_v47 val_main_v45 val_main_v44 val_main_v43 val_main_v42
  rw [hX, hH]
  pointwise [val_main_call0_v0, val_main_call0_cst, val_main_v46, val_main_v12, val_main_v6, val_main_v0, modPart, mlp]

/-- The reference at one element. -/
theorem ref_at : val_main_v61 (F := Ideal) x0 x1 x2 x3 x4 x5 x6 x7 x8 x9 x10 (ix3 b s j) =
    blockRow (fun k => x0 (ix3 b s k)) (fun k => x1 (ix3 b s k)) (fun k => x2 (ix3 b s k)) (fun k => x3 (ix3 b s k))
      (md x4 b) (fun k => x5 (ix1 k)) (fun k => x6 (ix1 k)) (fun k l => x7 (ix2 k l)) (fun k l => x8 (ix2 k l))
      (fun k l => x9 (ix2 k l)) (fun k l => x10 (ix2 k l)) j := by
  have hrow : (fun k => val_main_v48 (F := Ideal) x0 x1 x2 x3 x4 x5 x7 x8 x9 x10 (ix3 b s k)) =
      afterMlp (afterMix (fun k => x0 (ix3 b s k)) (fun k => x1 (ix3 b s k)) (fun k => x2 (ix3 b s k)) (fun k => x3 (ix3 b s k))
        (modPart (md x4 b) 2048 (by omega)) (fun k l => x7 (ix2 k l)) (fun k l => x8 (ix2 k l))) (fun k => x5 (ix1 k))
        (modPart (md x4 b) 4096 (by omega)) (modPart (md x4 b) 3072 (by omega)) (modPart (md x4 b) 5120 (by omega))
        (fun k l => x9 (ix2 k l)) (fun k l => x10 (ix2 k l)) := by
    funext k
    rw [x2_at x0 x1 x2 x3 x4 x5 x7 x8 x9 x10 b s k _ _ rfl rfl]
    simp only [h_at x0 x1 x2 x3 x4 x5 x7 x8 b s _ _ rfl, x1_at]
    rfl
  rw [blockRow, ← hrow]
  unfold val_main_v61 val_main_v58 val_main_v57 val_main_v56 val_main_v55 val_main_v54 val_main_v53 val_main_v52 val_main_v51
    val_main_v50 val_main_v49 val_main_v60 val_main_v59
  generalize val_main_v48 (F := Ideal) x0 x1 x2 x3 x4 x5 x7 x8 x9 x10 = X
  pointwise [val_main_cst_3, val_main_cst_4, val_main_cst_5, finalNorm, invRms, width, eps]

end Cert.OutRIdeal.Rows
end
-- ==== Proof.OutValue.lean ====
module

public import proofs.«01_k».proof.Proof.OutRef
public import proofs.«01_k».proof.Proof.Gen.OutKIdeal
public import proofs.«01_k».proof.Proof.Gen.OutKIdeal.Frame
public import Idealize.ShloMosaic.Lib.Pipeline.ValueKit
public import Idealize.ShloMosaic.Lib.StableHlo.Run

/- The output array of the kernel of the block's second half, after all its grid steps. -/

@[expose] public section

set_option maxRecDepth 16384

noncomputable section
open Idealize.ShloMosaic Idealize.ShloMosaic.TcCoe Idealize.SL.Sem
open Idealize.ShloMosaic.Pipeline (Dat)
open scoped BigOperators

namespace Cert.OutKIdeal.OutValue
open Cert.OutKIdeal Cert.OutKIdeal.Gen DitRows

section Payload
variable (v1 : FVec Ideal S1x6144 .f32) (v2 : FVec Ideal S1x512x1024 .bf16) (v4 : FVec Ideal S1024x1024 .bf16)
    (v7 v10 : FVec Ideal S1x512x1024 .bf16) (v15 : FVec Ideal S1x512x1024 .f32) (v19 : FVec Ideal S1024x1024 .bf16)
    (v25 v71 : FVec Ideal S1x1024 .f32) (v47 : FVec Ideal S1024x4096 .bf16) (v55 : FVec Ideal S4096x1024 .bf16)
    (r : Fin 512) (j : Fin 1024)

/-- The kernel's row after the mixers' residual. -/
theorem mix_at : k0_pay1 (F := Ideal) v1 v2 v4 v7 v10 v15 v19 (ix2 r j) =
    afterMix (fun k => v15 (ix3 0 r k)) (fun k => v2 (ix3 0 r k)) (fun k => v7 (ix3 0 r k)) (fun k => v10 (ix3 0 r k))
      (modPart (fun q => v1 (ix2 0 q)) 2048 (by omega)) (fun k l => v4 (ix2 k l)) (fun k l => v19 (ix2 k l)) j := by
  pointwise [k0_pay1, afterMix, merged, modPart]

/-- The kernel's mean square of that row. -/
theorem meanSq_at : k0_pay5 (F := Ideal) v1 v2 v4 v7 v10 v15 v19 (ix2 r 0) =
    Ideal.div (∑ k, k0_pay1 (F := Ideal) v1 v2 v4 v7 v10 v15 v19 (ix2 r k) * k0_pay1 (F := Ideal) v1 v2 v4 v7 v10 v15 v19 (ix2 r k)) width := by
  unfold k0_pay5
  generalize k0_pay1 (F := Ideal) v1 v2 v4 v7 v10 v15 v19 = X
  pointwise [width]

/-- The kernel's last payload: the second half of the block on row `r`. -/
theorem pay_at :
    k0_pay6 (F := Ideal) v1 (k0_pay1 v1 v2 v4 v7 v10 v15 v19) (k0_pay2 v25) (k0_pay3 v1) (k0_pay4 v1)
      (k0_pay5 v1 v2 v4 v7 v10 v15 v19) (Scalar.ofBits .f32 0x358637BD#32) v47 v55 v71 (ix3 0 r j) =
    blockRow (fun k => v15 (ix3 0 r k)) (fun k => v2 (ix3 0 r k)) (fun k => v7 (ix3 0 r k)) (fun k => v10 (ix3 0 r k))
      (fun q => v1 (ix2 0 q)) (fun k => v25 (ix2 0 k)) (fun k => v71 (ix2 0 k)) (fun k l => v4 (ix2 k l)) (fun k l => v19 (ix2 k l))
      (fun k l => v47 (ix2 k l)) (fun k l => v55 (ix2 k l)) j := by
  have h5 := meanSq_at v1 v2 v4 v7 v10 v15 v19 r
  have hrow := funext (mix_at v1 v2 v4 v7 v10 v15 v19 r)
  rw [blockRow, ← hrow]
  generalize k0_pay5 (F := Ideal) v1 v2 v4 v7 v10 v15 v19 = M at h5 ⊢
  generalize k0_pay1 (F := Ideal) v1 v2 v4 v7 v10 v15 v19 = X at h5 ⊢
  pointwise [k0_pay6, k0_pay2, k0_pay3, k0_pay4, finalNorm, afterMlp, mlp, modulated, modPart, invRms, width, eps, h5, mul_assoc]

end Payload

variable (m : (ℓ : Loc nD τ sig) → Buf (Elt Ideal) ℓ)

/-- Every window's block at grid step `t`: batch row `t / 4`, token tile `t % 4`; the rest whole arrays. -/
theorem idx : ∀ t : Fin cfg0.N, win0_0.index t = ![t.val / 4, t.val % 4, 0]
    ∧ win0_1.index t = ![t.val / 4, t.val % 4, 0]
    ∧ win0_2.index t = ![t.val / 4, t.val % 4, 0]
    ∧ win0_3.index t = ![t.val / 4, t.val % 4, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![t.val / 4, t.val % 4, 0] :=
  (by decide +kernel : ∀ t : Fin grid0.N, _)

/-- The modulation row that grid step `t` loads. -/
theorem row : ∀ t : Fin cfg0.N, k0_off1 (grid0.coords t) 0 = t.val / 4 ∧ k0_off1 (grid0.coords t) 1 = 0 :=
  (by decide +kernel : ∀ t : Fin grid0.N, _)

/-- The reference's result of the arguments in memory `m` at core `c`. -/
abbrev REF (c : Dev nD) : FVec Ideal Cert.OutRIdeal.S16x2048x1024 .f32 :=
  Cert.OutRIdeal.Read.val_main_v61 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))

theorem final (c : Dev nD) : (dats m 0 c).arrAt 11 (cfgs 0).N = REF m c := by
  refine (dats m 0 c).arrAt_eq_of_covers 11 _ (by decide +kernel) fun t hf y => ?_
  blk_simp
  rw [after0_11]
  simp only [outsAt0]
  frame_out
  obtain ⟨r, j, rfl⟩ : ∃ (r : Fin 512) (j : Fin 1024), y = (ix3 0 r j : S1x512x1024.Idx) :=
    ⟨y 1, y 2, by
      refine (eq_ix3 y).trans ?_
      have h : y 0 = (0 : Fin 1) := Subsingleton.elim (α := Fin 1) _ _
      rw [h]⟩
  have ht : t.val < 64 := t.isLt
  have hr : r.val < 512 := r.isLt
  refine (pay_at _ _ _ _ _ _ _ _ _ _ _ r j).trans ?_
  rw [show ((View.whole main_v6).slice (win0_11.rect t)).emb (ix3 0 r j : S1x512x1024.Idx) =
    (ix3 ⟨t.val / 4, by omega⟩ ⟨t.val % 4 * 512 + r.val, by omega⟩ j : S16x2048x1024.Idx) by blk_ext [idx t]]
  rw [REF, Cert.OutRIdeal.Rows.ref_at]
  refine blockRow_congr (fun k => ?_) (fun k => ?_) (fun k => ?_) (fun k => ?_) (fun k => ?_) (fun k => ?_) (fun k => ?_)
    (fun k l => ?_) (fun k l => ?_) (fun k l => ?_) (fun k l => ?_) j
  · blk_ext [iblk, V, idx t]
  · blk_ext [iblk, V, idx t]
  · blk_ext [iblk, V, idx t]
  · blk_ext [iblk, V, idx t]
  · unfold Cert.OutRIdeal.Rows.md
    pointwise []
    blk_ext [iblk, V, idx t, (row t).1, (row t).2]
  · blk_point [iblk, V, idx t]
  · blk_point [iblk, V, idx t]
  · blk_point [iblk, V, idx t]
  · blk_point [iblk, V, idx t]
  · blk_point [iblk, V, idx t]
  · blk_point [iblk, V, idx t]
end Cert.OutKIdeal.OutValue
end
-- ==== Proof.InMath.lean ====
module

public import proofs.«01_k».proof.Proof.RowMath

/- The mathematics of the block's first half: projections, the logistic function, the short convolution, the order of the gates. -/

@[expose] public section

noncomputable section
open Idealize.ShloMosaic
open scoped BigOperators

namespace DitRows

/-- A projection with bias. -/
def project (h : Fin 1024 → EReal) (w : Fin 1024 → Fin 8224 → EReal) (bias : Fin 8224 → EReal) (q : Fin 8224) : EReal :=
  (∑ k, h k * w k q) + bias q

/-- One eighth, as the float constant both programs hold. -/
def eighth : EReal := Ideal.ofBits .f32 0x3E000000#32

/-- One half, as the float constant both programs hold. -/
def half : EReal := Ideal.ofBits .f32 0x3F000000#32

/-- The logistic function. -/
def sigm (z : EReal) : EReal := Ideal.div 1 (1 + Ideal.exp (-z))

/-- The three-tap convolution along the tokens inside frames of 64 tokens, zero outside the frame. -/
def conv (w : Fin 3 → EReal) (u : Fin 2048 → EReal) (s : Fin 2048) : EReal :=
  w 0 * (if h : s.val % 64 = 0 then 0 else u ⟨s.val - 1, by omega⟩) + w 1 * u s
    + w 2 * (if h : s.val % 64 = 63 then 0 else u ⟨s.val + 1, by omega⟩)

/-- The convolution read off frames padded by one token at each end. -/
theorem conv_frames (w : Fin 3 → EReal) (u : Fin 2048 → EReal) (s : Fin 2048) (z : EReal) (hz : z = 0)
    (p1 : ∀ _ : s.val / 64 < 32 ∧ 1 ≤ s.val % 64 ∧ s.val % 64 - 1 < 64, s.val / 64 * 64 + (s.val % 64 - 1) < 2048)
    (p2 : ∀ _ : s.val / 64 < 32 ∧ 1 ≤ 2 + s.val % 64 ∧ 2 + s.val % 64 - 1 < 64, s.val / 64 * 64 + (2 + s.val % 64 - 1) < 2048) :
    w 0 * (if h : s.val / 64 < 32 ∧ 1 ≤ s.val % 64 ∧ s.val % 64 - 1 < 64 then u ⟨s.val / 64 * 64 + (s.val % 64 - 1), p1 h⟩ else z)
      + w 1 * (if _ : s.val / 64 < 32 ∧ s.val % 64 < 64 then u s else z)
      + w 2 * (if h : s.val / 64 < 32 ∧ 1 ≤ 2 + s.val % 64 ∧ 2 + s.val % 64 - 1 < 64 then
          u ⟨s.val / 64 * 64 + (2 + s.val % 64 - 1), p2 h⟩ else z) = conv w u s := by
  subst hz
  have hs := s.isLt
  have e : ∀ c c' : Fin 2048, c.val = c'.val → u c = u c' := fun c c' h => by rw [Fin.ext h]
  unfold conv
  refine congrArg₂ (· + ·) (congrArg₂ (· + ·) (congrArg (w 0 * ·) ?_) (congrArg (w 1 * ·) ?_)) (congrArg (w 2 * ·) ?_)
  · by_cases h : s.val % 64 = 0
    · rw [dif_pos h, dif_neg (by omega)]
    · rw [dif_neg h, dif_pos (by omega)]
      exact e _ _ (by show s.val / 64 * 64 + (s.val % 64 - 1) = s.val - 1; omega)
  · rw [dif_pos (by omega)]
  · by_cases h : s.val % 64 = 63
    · rw [dif_pos h, dif_neg (by omega)]
    · rw [dif_neg h, dif_pos (by omega)]
      exact e _ _ (by show s.val / 64 * 64 + (2 + s.val % 64 - 1) = s.val + 1; omega)

/-- The column, inside the 32 gate columns, of the grouped gate `g`: gate groups first, then kind, direction and head. -/
def gateCol (g : Fin 32) : ℕ := g.val / 4 % 2 * 16 + g.val / 2 % 2 * 8 + g.val / 8 * 2 + g.val % 2

theorem gateCol_lt (g : Fin 32) : gateCol g < 32 := by unfold gateCol; omega

theorem eighth_eq : eighth = ((1 / 8 : ℝ) : EReal) := by
  simp only [eighth, Ideal.ofBits, Ideal.ieee]
  simp [-EReal.coe_mul]
  norm_num

theorem half_eq : half = ((1 / 2 : ℝ) : EReal) := by
  simp only [half, Ideal.ofBits, Ideal.ieee]
  simp [-EReal.coe_mul]
  norm_num

/-- A nonnegative real factor goes into a finite sum. -/
theorem sum_scale {ι : Type} (t : Finset ι) (f : ι → EReal) (c : ℝ) (hc : 0 ≤ c) :
    ∑ k ∈ t, f k * (c : EReal) = (∑ k ∈ t, f k) * (c : EReal) := by
  classical
  induction t using Finset.induction_on with
  | empty => simp
  | insert a t ha ih =>
    rw [Finset.sum_insert ha, Finset.sum_insert ha, ih,
      EReal.right_distrib_of_nonneg_of_ne_top (by exact_mod_cast hc) (EReal.coe_ne_top c)]

/-- Scaling the weights and the bias of a projection by a nonnegative real scales the projection. -/
theorem project_scale (h : Fin 1024 → EReal) (w : Fin 1024 → EReal) (bias : EReal) (c : ℝ) (hc : 0 ≤ c) :
    (∑ k, h k * (w k * (c : EReal))) + bias * (c : EReal) = ((∑ k, h k * w k) + bias) * (c : EReal) := by
  simp only [← mul_assoc]
  rw [sum_scale _ _ c hc, ← EReal.right_distrib_of_nonneg_of_ne_top (by exact_mod_cast hc) (EReal.coe_ne_top c)]

/-- The hyperbolic tangent's form of the logistic function: one half of the tangent of half the argument, plus one half. -/
theorem tanh_half (z : EReal) : half * Ideal.tanh (z * half) + half = sigm z := by
  rw [half_eq, sigm]
  induction z using EReal.rec with
  | bot =>
    rw [EReal.bot_mul_coe_of_pos (by norm_num : (0 : ℝ) < 1 / 2), Ideal.tanh_bot, EReal.neg_bot, Ideal.exp_top, EReal.add_top_of_ne_bot (by decide)]
    rw [Ideal.div, if_neg (by decide), EReal.inv_top, mul_zero]
    rw [show (-1 : EReal) = ((-1 : ℝ) : EReal) by rw [EReal.coe_neg, EReal.coe_one], ← EReal.coe_mul, ← EReal.coe_add]
    norm_num
  | top =>
    rw [EReal.top_mul_coe_of_pos (by norm_num : (0 : ℝ) < 1 / 2), Ideal.tanh_top, EReal.neg_top, Ideal.exp_bot, add_zero, mul_one]
    rw [show (1 : EReal) = ((1 : ℝ) : EReal) by norm_cast, Ideal.div_coe one_ne_zero, ← EReal.coe_mul, ← EReal.coe_add]
    norm_num
  | coe x =>
    have hpos : (0 : ℝ) < 1 + Real.exp (-x) := by positivity
    rw [← EReal.coe_mul, Ideal.tanh_coe, ← EReal.coe_mul, ← EReal.coe_add, ← EReal.coe_neg, Ideal.exp_coe,
      show (1 : EReal) = ((1 : ℝ) : EReal) by norm_cast, ← EReal.coe_add, Ideal.div_coe hpos.ne', ← EReal.coe_mul]
    congr 1
    rw [Real.tanh_eq_sinh_div_cosh, Real.sinh_eq, Real.cosh_eq]
    have e : Real.exp (-x) = Real.exp (-(x * (1 / 2))) * Real.exp (-(x * (1 / 2))) := by
      rw [← Real.exp_add]; congr 1; ring
    have i : Real.exp (x * (1 / 2)) * Real.exp (-(x * (1 / 2))) = 1 := by
      rw [← Real.exp_add]; simp
    have p := Real.exp_pos (x * (1 / 2))
    have n := Real.exp_pos (-(x * (1 / 2)))
    rw [e]
    generalize Real.exp (x * (1 / 2)) = a at i p ⊢
    generalize Real.exp (-(x * (1 / 2))) = d at i n ⊢
    have : a + d ≠ 0 := by positivity
    have : 1 + d * d ≠ 0 := by positivity
    field_simp
    nlinarith [i]

end DitRows
end
-- ==== Proof.InKernel.lean ====
module

public import proofs.«01_k».proof.Proof.InMath
public import proofs.«01_k».proof.Proof.Gen.InKIdeal.Skeleton

/- The payloads of the kernel of the block's first half, read at one element. -/

@[expose] public section

set_option maxRecDepth 16384

noncomputable section
open Idealize.ShloMosaic Idealize.ShloMosaic.TcCoe Idealize.SL.Sem
open scoped BigOperators

namespace Cert.InKIdeal.Payload
open Cert.InKIdeal Cert.InKIdeal.Gen DitRows

variable (v0 : FVec Ideal S1x512x1024 .f32) (v3 : FVec Ideal S1x6144 .f32) (v4 : FVec Ideal S1x1024 .f32) (r : Fin 512)

/-- The modulated norm of a token. -/
theorem h_at (j : Fin 1024) : k0_pay1 (F := Ideal) v0 v3 v4 (ix2 r j) =
    modulated (fun k => v0 (ix3 0 r k)) (fun k => v4 (ix2 0 k)) (modPart (fun q => v3 (ix2 0 q)) 1024 (by omega))
      (modPart (fun q => v3 (ix2 0 q)) 0 (by omega)) j := by
  pointwise [k0_pay1, modulated, modPart, invRms, width, eps, mul_assoc]

theorem k_at (v26 : FVec Ideal S1024x512 .bf16) (v29 : FVec Ideal S1x512 .f32) (j : Fin 512) :
    k0_pay2 (F := Ideal) v0 v3 v4 v26 v29 (ix3 0 r j) = (∑ k, k0_pay1 (F := Ideal) v0 v3 v4 (ix2 r k) * v26 (ix2 k j)) + v29 (ix2 0 j) := by
  unfold k0_pay2
  generalize k0_pay1 (F := Ideal) v0 v3 v4 = H
  pointwise []

variable (H : FVec Ideal S512x1024 .bf16)

theorem o_at (w : FVec Ideal S1024x1024 .bf16) (bias nw : FVec Ideal S1x1024 .f32) (j : Fin 1024) :
    k0_pay3 (F := Ideal) H w bias nw (ix3 0 r j) =
      (half * Ideal.tanh ((∑ k, H (ix2 r k) * w (ix2 k j)) + bias (ix2 0 j)) + half) * nw (ix2 0 j) := by
  pointwise [k0_pay3, half]

theorem t_at (w : FVec Ideal S1568x1024 .bf16) (bias : FVec Ideal S1568x1 .f32) (q : Fin 1568) :
    k0_pay4 (F := Ideal) H w bias (ix2 q r) = (∑ k, w (ix2 q k) * H (ix2 r k)) + bias (ix2 q 0) := by
  pointwise [k0_pay4]

theorem x_at (w : FVec Ideal S1024x1024 .bf16) (bias : FVec Ideal S1x1024 .f32) (j : Fin 1024) :
    k0_pay18 (F := Ideal) H w bias (ix2 r j) = (∑ k, H (ix2 r k) * w (ix2 k j)) + bias (ix2 0 j) := by
  pointwise [k0_pay18]

theorem c_at (w : FVec Ideal S1024x1024 .bf16) (j : Fin 1024) :
    k0_pay19 (F := Ideal) H w (ix2 r j) = (∑ k, H (ix2 r k) * w (ix2 k j)) := by
  pointwise [k0_pay19]

/-- The short convolution of one tile of 512 tokens: rotations of the tile, masked at the frames' ends. -/
theorem conv_tile (w : Fin 3 → EReal) (u : Fin 2048 → EReal) (q : Fin 4) (U : Fin 512 → EReal)
    (hU : ∀ i : Fin 512, U i = u ⟨q.val * 512 + i.val, by omega⟩) (h1 : (r.val + 512 - 1) % 512 < 512) (h2 : (r.val + 512 - 511) % 512 < 512) :
    Scalar.select (IntOp.cmpi CmpIPredicate.ne (IntOp.andi (BitVec.ofNat 32 r.val) 63#32) 0#32) (w 0 * U ⟨(r.val + 512 - 1) % 512, h1⟩) 0
      + w 1 * U r
      + Scalar.select (IntOp.cmpi CmpIPredicate.ne (IntOp.andi (BitVec.ofNat 32 r.val) 63#32) 63#32) (w 2 * U ⟨(r.val + 512 - 511) % 512, h2⟩) 0
      = conv w u ⟨q.val * 512 + r.val, by omega⟩ := by
  have hr := r.isLt
  have e : ∀ c c' : Fin 2048, c.val = c'.val → u c = u c' := fun c c' h => by rw [Fin.ext h]
  have hm : (q.val * 512 + r.val) % 64 = r.val % 64 := by omega
  have m0 : ∀ i : Fin 512, IntOp.cmpi CmpIPredicate.ne (IntOp.andi (BitVec.ofNat 32 i.val) 63#32) 0#32 = if i.val % 64 = 0 then 0#1 else 1#1 := by
    decide +kernel
  have m63 : ∀ i : Fin 512, IntOp.cmpi CmpIPredicate.ne (IntOp.andi (BitVec.ofNat 32 i.val) 63#32) 63#32 = if i.val % 64 = 63 then 0#1 else 1#1 := by
    decide +kernel
  rw [m0, m63]
  unfold conv
  refine congrArg₂ (· + ·) (congrArg₂ (· + ·) ?_ (congrArg (w 1 * ·) (hU r))) ?_
  · by_cases h : r.val % 64 = 0
    · rw [if_pos h, dif_pos (hm.trans h), mul_zero]; rfl
    · rw [if_neg h, dif_neg (by rw [hm]; exact h)]
      refine (congrArg (w 0 * ·) ((hU _).trans (e _ _ ?_)))
      show q.val * 512 + (r.val + 512 - 1) % 512 = q.val * 512 + r.val - 1
      omega
  · by_cases h : r.val % 64 = 63
    · rw [if_pos h, dif_pos (hm.trans h), mul_zero]; rfl
    · rw [if_neg h, dif_neg (by rw [hm]; exact h)]
      refine (congrArg (w 2 * ·) ((hU _).trans (e _ _ ?_)))
      show q.val * 512 + (r.val + 512 - 511) % 512 = q.val * 512 + r.val + 1
      omega

/-- The gated short convolution of a tile, given the gated input `u` of the whole batch row. -/
theorem conv_at (X C : FVec Ideal S512x1024 .f32) (cb w0 w1 w2 bias : FVec Ideal S1x1024 .f32) (w : FVec Ideal S1024x1024 .bf16) (j : Fin 1024)
    (u : Fin 2048 → EReal) (q : Fin 4) (hu : ∀ i : Fin 512, X (ix2 i j) * (C (ix2 i j) + cb (ix2 0 j)) = u ⟨q.val * 512 + i.val, by omega⟩)
    (v : Fin 3 → EReal) (v0 : w0 (ix2 0 j) = v 0) (v1 : w1 (ix2 0 j) = v 1) (v2 : w2 (ix2 0 j) = v 2) :
    k0_pay20 (F := Ideal) H X C cb w0 w1 w2 w bias (ix2 r j) = ((∑ k, H (ix2 r k) * w (ix2 k j)) + bias (ix2 0 j)) * conv v u ⟨q.val * 512 + r.val, by omega⟩ := by
  pointwise [k0_pay20]
  refine Ideal.mul_congr rfl ?_
  rw [v0, v1, v2]
  exact conv_tile r v u q (fun i => X (ix2 i j) * (C (ix2 i j) + cb (ix2 0 j))) hu _ _

theorem ya_at (U : FVec Ideal S512x1024 .bf16) (wc w : FVec Ideal S1024x1024 .bf16) (bias : FVec Ideal S1x1024 .f32) (j : Fin 1024) :
    k0_pay21 (F := Ideal) H U wc w bias (ix3 0 r j) =
      (half * Ideal.tanh ((∑ k, H (ix2 r k) * w (ix2 k j)) + bias (ix2 0 j)) + half) * (∑ k, U (ix2 r k) * wc (ix2 k j)) := by
  pointwise [k0_pay21, half]

theorem gb_at (w : FVec Ideal S1024x1024 .bf16) (bias : FVec Ideal S1x1024 .f32) (j : Fin 1024) :
    k0_pay22 (F := Ideal) H w bias (ix3 0 r j) =
      half * Ideal.tanh ((∑ k, H (ix2 r k) * w (ix2 k j)) + bias (ix2 0 j)) + half := by
  pointwise [k0_pay22, half]

end Cert.InKIdeal.Payload
end
-- ==== Proof.InRef.lean ====
module

public import proofs.«01_k».proof.Proof.InMath
public import proofs.«01_k».proof.Proof.Gen.InRIdeal.Read

/- The reference of the block's first half, read at one element of each of its seven results. -/

@[expose] public section

set_option maxRecDepth 16384

noncomputable section
open Idealize.ShloMosaic Idealize.ShloMosaic.TcCoe Idealize.SL.Sem
open scoped BigOperators

namespace Cert.InRIdeal.Rows
open Cert.InRIdeal Cert.InRIdeal.Gen Cert.InRIdeal.Read DitRows

variable (x0 : FVec Ideal S16x2048x1024 .f32) (x1 : FVec Ideal S17x6144 .f32)
  (x2 x3 : FVec Ideal S1024 .f32) (x4 : FVec Ideal S1024x8224 .f32) (x5 : FVec Ideal S8224 .f32)
  (x6 : FVec Ideal S3x1024 .f32) (x7 : FVec Ideal S1024x1024 .f32) (b : Fin 16) (s : Fin 2048)

/-- The modulation row of batch `b`. -/
abbrev md : Fin 6144 → EReal := fun q => x1 (ix2 (⟨b.val, by omega⟩ : Fin 17) q)

/-- The modulated norm of a token. -/
theorem h_at (j : Fin 1024) : val_main_v31 (F := Ideal) x0 x1 x2 (ix3 b s j) =
    modulated (fun k => x0 (ix3 b s k)) (fun k => x2 (ix1 k))
      (modPart (md x1 b) 1024 (by omega)) (modPart (md x1 b) 0 (by omega)) j := by
  pointwise [val_main_v31, val_main_v30, val_main_v29, val_main_v28, val_main_v27, val_main_v26, val_main_v25, val_main_v24,
    val_main_v23, val_main_v22, val_main_v21, val_main_v20, val_main_v19, val_main_v18, val_main_v17, val_main_v16, val_main_v15,
    val_main_v14, val_main_v13, val_main_v8, val_main_v7, val_main_v2, val_main_v1, val_main_v0,
    val_main_cst, val_main_cst_0, val_main_cst_1, val_main_cst_2, modulated, modPart, invRms, width, eps]

/-- All the projections of one token. -/
def zRow : Fin 8224 → EReal :=
  project (modulated (fun k => x0 (ix3 b s k)) (fun k => x2 (ix1 k))
      (modPart (md x1 b) 1024 (by omega)) (modPart (md x1 b) 0 (by omega))) (fun k q => x4 (ix2 k q)) (fun q => x5 (ix1 q))

theorem z_at (q : Fin 8224) : val_main_v35 (F := Ideal) x0 x1 x2 x4 x5 (ix3 b s q) = zRow x0 x1 x2 x4 x5 b s q := by
  have h := h_at x0 x1 x2 b s
  unfold val_main_v35 val_main_v32
  generalize val_main_v31 (F := Ideal) x0 x1 x2 = H at h ⊢
  pointwise [val_main_v33, val_main_v34, h, zRow, project]

variable (Z : FVec Ideal S16x2048x8224 .f32) (hZ : val_main_v35 (F := Ideal) x0 x1 x2 x4 x5 = Z)
include hZ

theorem k_at (j : Fin 512) : val_main_v82 (F := Ideal) x0 x1 x2 x4 x5 (ix3 b s j) = Z (ix3 b s (Fin.castLE (by omega) j)) * eighth := by
  unfold val_main_v82 val_main_v81 val_main_v36
  rw [hZ]
  pointwise [val_main_v80, val_main_cst_3, eighth]
  rfl

theorem q_at (n : Fin 16) (d : Fin 512) (l : Fin 128) : val_main_v85 (F := Ideal) x0 x1 x2 x4 x5 (ix4 b n d l) =
    Z (ix3 b ⟨n.val * 128 + l.val, by omega⟩ ⟨1568 + d.val, by omega⟩) := by
  unfold val_main_v85 val_main_v84 val_main_v83 val_main_v40
  rw [hZ]
  pointwise []

theorem v_at (n : Fin 16) (d : Fin 1024) (l : Fin 128) : val_main_v88 (F := Ideal) x0 x1 x2 x4 x5 (ix4 b n d l) =
    Z (ix3 b ⟨n.val * 128 + l.val, by omega⟩ ⟨512 + d.val, by omega⟩) := by
  unfold val_main_v88 val_main_v87 val_main_v86 val_main_v37
  rw [hZ]
  pointwise []

theorem gates_at (n : Fin 16) (g : Fin 32) (l : Fin 128) : val_main_v90 (F := Ideal) x0 x1 x2 x4 x5 (ix4 b n g l) =
    Z (ix3 b ⟨n.val * 128 + l.val, by omega⟩ ⟨1536 + gateCol g, by have := gateCol_lt g; omega⟩) := by
  unfold val_main_v90 val_main_v89 val_main_v79 val_main_v78 val_main_v77 val_main_v76 val_main_v75 val_main_v74 val_main_v73
    val_main_v39 val_main_v38
  rw [hZ]
  pointwise []
  have hg := g.isLt
  have e : ∀ c c' : Fin 8224, c = c' → Z (ix3 b (⟨n.val * 128 + l.val, by omega⟩ : Fin 2048) c) = Z (ix3 b ⟨n.val * 128 + l.val, by omega⟩ c') :=
    fun c c' h => by rw [h]
  by_cases h : g.val / 4 % 2 < 1
  · rw [dif_pos h]
    exact e _ _ (Fin.ext (by simp only [gateCol]; omega))
  · rw [dif_neg h]
    exact e _ _ (Fin.ext (by simp only [gateCol]; omega))

theorem o_at (j : Fin 1024) : val_main_v100 (F := Ideal) x0 x1 x2 x3 x4 x5 (ix3 b s j) =
    sigm (Z (ix3 b s ⟨2080 + j.val, by omega⟩)) * x3 (ix1 j) := by
  unfold val_main_v100 val_main_v99 val_main_v96 val_main_v94 val_main_v92 val_main_v91 val_main_v41
  rw [hZ]
  pointwise [val_main_v93, val_main_v95, val_main_v97, val_main_v98, val_main_cst_4, val_main_cst_5, sigm]

theorem mb_at (j : Fin 1024) : val_main_v115 (F := Ideal) x0 x1 x2 x4 x5 (ix3 b s j) =
    sigm (Z (ix3 b s ⟨7200 + j.val, by omega⟩)) := by
  unfold val_main_v115 val_main_v114 val_main_v112 val_main_v110 val_main_v109 val_main_v46
  rw [hZ]
  pointwise [val_main_v111, val_main_v113, val_main_cst_8, val_main_cst_9, sigm]

theorem conv_at (j : Fin 1024) : val_main_v71 (F := Ideal) x0 x1 x2 x4 x5 x6 (ix3 b s j) =
    Z (ix3 b s ⟨5152 + j.val, by omega⟩) * conv (fun p => x6 (ix2 p j))
      (fun s => Z (ix3 b s ⟨4128 + j.val, by omega⟩) * Z (ix3 b s ⟨3104 + j.val, by omega⟩)) s := by
  unfold val_main_v71 val_main_v70 val_main_v69 val_main_v68 val_main_v65 val_main_v62 val_main_v61 val_main_v58 val_main_v55 val_main_v52
    val_main_v49 val_main_v48 val_main_v47 val_main_v44 val_main_v43 val_main_v42
  rw [hZ]
  pointwise [val_main_v67, val_main_v66, val_main_v64, val_main_v63, val_main_v60, val_main_v59, val_main_v57, val_main_v56,
    val_main_v54, val_main_v53, val_main_v51, val_main_v50, val_main_call0_v0, val_main_c]
  have z0 : (FloatOps.sitofp FTy.f32 0#32 : Ideal .f32) = (0 : EReal) := by
    show ((((0#32).toInt : ℤ) : ℝ) : EReal) = 0
    simp
  exact Ideal.mul_congr rfl (conv_frames (fun p => x6 (ix2 p j))
    (fun s => Z (ix3 b s ⟨4128 + j.val, by omega⟩) * Z (ix3 b s ⟨3104 + j.val, by omega⟩)) s _ z0 _ _)

theorem ya_at (U : FVec Ideal S16x2048x1024 .f32) (hU : val_main_v71 (F := Ideal) x0 x1 x2 x4 x5 x6 = U) (j : Fin 1024) : val_main_v108 (F := Ideal) x0 x1 x2 x4 x5 x6 x7 (ix3 b s j) =
    sigm (Z (ix3 b s ⟨6176 + j.val, by omega⟩)) * ∑ k, U (ix3 b s k) * x7 (ix2 k j) := by
  unfold val_main_v108 val_main_v107 val_main_v106 val_main_v104 val_main_v102 val_main_v101 val_main_v72 val_main_v45
  rw [hZ, hU]
  pointwise [val_main_v103, val_main_v105, val_main_cst_6, val_main_cst_7, sigm]

end Cert.InRIdeal.Rows
end
-- ==== Proof.InPack.lean ====
module

public import proofs.«01_k».proof.Proof.InMath
public import proofs.«01_k».proof.Proof.Gen.InKIdeal.Frame
public import Idealize.ShloMosaic.Lib.Pipeline.ValueKit
public import Idealize.ShloMosaic.Lib.StableHlo.Run
public import Idealize.ShloMosaic.Lib.Claim

@[expose] public section

set_option maxRecDepth 16384

noncomputable section
open Idealize.ShloMosaic Idealize.ShloMosaic.TcCoe Idealize.SL.Sem
open scoped BigOperators

namespace Cert.InKIdeal.InPack
open Cert.InKIdeal Cert.InKIdeal.Gen DitRows

/- The weights and biases that the host lays out for the kernel of the block's first half, read at one element. -/

variable (m : (ℓ : Loc nD τ sig) → Buf (Elt Ideal) ℓ)

/-- The weights of the input projection. -/
abbrev w (c : Dev nD) : FVec Ideal S1024x8224 .f32 := m ((c : Thread nD τ).loc main_arg4)

/-- The biases of the input projection. -/
abbrev bias (c : Dev nD) : FVec Ideal S8224 .f32 := m ((c : Thread nD τ).loc main_arg5)

/-- The scale of the six row-major segments: one half where a logistic function follows. -/
def segScale (s : Fin 6) : EReal := if s.val = 0 ∨ 4 ≤ s.val then half else 1

theorem seg_at (s : ℕ) (hs : s < 6) : Scalar.select (IntOp.ori (IntOp.cmpi CmpIPredicate.eq (BitVec.ofNat 32 s) 0#32)
    (IntOp.cmpi CmpIPredicate.sge (BitVec.ofNat 32 s) 4#32)) (Ideal.ofBits .f32 0x3F000000#32) 1 = segScale ⟨s, hs⟩ := by
  have h : ∀ s : Fin 6, IntOp.ori (IntOp.cmpi CmpIPredicate.eq (BitVec.ofNat 32 s.val) 0#32)
      (IntOp.cmpi CmpIPredicate.sge (BitVec.ofNat 32 s.val) 4#32) = if s.val = 0 ∨ 4 ≤ s.val then 1#1 else 0#1 := by decide +kernel
  rw [h ⟨s, hs⟩, segScale]
  by_cases p : s = 0 ∨ 4 ≤ s
  · rw [if_pos p, if_pos p]; rfl
  · rw [if_neg p, if_neg p]; rfl

theorem wn_at (c : Dev nD) (k : Fin 1024) (q : Fin 6656) :
    (show FVec Ideal S1024x6656 .bf16 from V m c main_v18) (ix2 k q) =
      if h : q.val < 512 then w m c (ix2 k ⟨q.val, by omega⟩) * eighth
      else w m c (ix2 k ⟨2080 + (q.val - 512), by omega⟩) * segScale ⟨(q.val - 512) / 1024, by omega⟩ := by
  simp only [V, hostOps0, hostOps0_1, hostOps0_2, hostOps0_3, hostOps0_4, List.flatten_cons, List.flatten_nil, List.append_nil,
    List.cons_append, List.nil_append, StableHlo.TRef.unary, StableHlo.TRef.ternary, StableHlo.TRef.toBuf, StableHlo.TRef.ofBuf, cast_eq]
  after_results
  simp only [id_eq]
  pointwise []
  refine dite_congr rfl (fun _ => ?_) (fun _ => ?_)
  · exact Ideal.mul_congr rfl rfl
  · refine Ideal.mul_congr rfl ?_
    exact seg_at ((q.val - 512) / 1024) (by omega)

theorem bn_at (c : Dev nD) (q : Fin 6656) :
    (show FVec Ideal S1x6656 .f32 from V m c main_v48) (ix2 0 q) =
      if h : q.val < 512 then bias m c (ix1 ⟨q.val, by omega⟩) * eighth
      else bias m c (ix1 ⟨2080 + (q.val - 512), by omega⟩) * segScale ⟨(q.val - 512) / 1024, by omega⟩ := by
  simp only [V, hostOps0, hostOps0_1, hostOps0_2, hostOps0_3, hostOps0_4, List.flatten_cons, List.flatten_nil, List.append_nil,
    List.cons_append, List.nil_append, StableHlo.TRef.unary, StableHlo.TRef.ternary, StableHlo.TRef.toBuf, StableHlo.TRef.ofBuf, cast_eq]
  after_results
  simp only [id_eq]
  pointwise []
  refine dite_congr rfl (fun _ => ?_) (fun _ => ?_)
  · exact Ideal.mul_congr rfl rfl
  · refine Ideal.mul_congr rfl ?_
    exact seg_at ((q.val - 512) / 1024) (by omega)

theorem wt_of (W : Valuation τ sig (Elt Ideal)) (q : Fin 2048) (k : Fin 1024) :
    (show FVec Ideal S2048x1024 .bf16 from StableHlo.after ((hostOps0_2.drop 15 ++ hostOps0_3) ++ hostOps0_4) W (Proc.devRef .tc main_v28)) (ix2 q k) =
   if h : q.val < 1024 then (show FVec Ideal S1024x1024 .f32 from W (Proc.devRef .tc main_v19)) (ix2 k ⟨q.val, h⟩)
    else if h : q.val - 1024 < 512 then (show FVec Ideal S1024x512 .f32 from W (Proc.devRef .tc main_v20)) (ix2 k ⟨q.val - 1024, h⟩)
      else if h : q.val - 1024 - 512 < 32 then (show FVec Ideal S1024x32 .f32 from W (Proc.devRef .tc main_v24)) (ix2 k ⟨q.val - 1024 - 512, h⟩)
        else (show FVec Ideal S1024x480 .f32 from W (Proc.devRef .tc main_v25)) (ix2 k ⟨q.val - 1024 - 512 - 32, by omega⟩) := by
  simp only [hostOps0_2, hostOps0_3, hostOps0_4, List.drop_succ_cons, List.drop_zero, List.append_nil,
    List.cons_append, List.nil_append]
  after_results
  pointwise []

theorem bt_of (W : Valuation τ sig (Elt Ideal)) (k : Fin 2048) :
    (show FVec Ideal S2048x1 .f32 from StableHlo.after (hostOps0_4.drop 19) W (Proc.devRef .tc main_v57)) (ix2 k 0) =
   if h : k.val < 1024 then (show FVec Ideal S1024 .f32 from W (Proc.devRef .tc main_v49)) (ix1 ⟨k.val, h⟩)
    else if h : k.val - 1024 < 512 then (show FVec Ideal S512 .f32 from W (Proc.devRef .tc main_v50)) (ix1 ⟨k.val - 1024, h⟩)
      else if h : k.val - 1024 - 512 < 32 then (show FVec Ideal S32 .f32 from W (Proc.devRef .tc main_v54)) (ix1 ⟨k.val - 1024 - 512, h⟩)
        else (show FVec Ideal S480 .f32 from W (Proc.devRef .tc main_v55)) (ix1 ⟨k.val - 1024 - 512 - 32, by omega⟩) := by
  simp only [hostOps0_4, List.drop_succ_cons, List.drop_zero]
  after_results
  pointwise []

theorem wt_at (c : Dev nD) (q : Fin 2048) (k : Fin 1024) :
    (show FVec Ideal S2048x1024 .bf16 from V m c main_v28) (ix2 q k) = if h : q.val < 1024 then w m c (ix2 k ⟨512 + q.val, by omega⟩)
      else if h : q.val - 1024 < 512 then w m c (ix2 k ⟨1568 + (q.val - 1024), by omega⟩)
        else if h : q.val - 1024 - 512 < 32 then w m c (ix2 k ⟨1536 + gateCol ⟨q.val - 1024 - 512, h⟩, by have := gateCol_lt ⟨q.val - 1024 - 512, h⟩; omega⟩)
          else 0 := by
  have e : List.flatten [hostOps0, hostOps0_1, hostOps0_2, hostOps0_3, hostOps0_4] =
    ((hostOps0 ++ hostOps0_1) ++ hostOps0_2.take 15) ++ ((hostOps0_2.drop 15 ++ hostOps0_3) ++ hostOps0_4 : List (HloOp τ sig (Elt Ideal))) := rfl
  unfold V
  rw [e, StableHlo.after_append]
  refine (wt_of _ q k).trans ?_
  simp only [hostOps0, hostOps0_1, hostOps0_2, List.take_succ_cons, List.take_zero, List.append_nil, List.cons_append, List.nil_append]
  after_results
  pointwise []
  exact dite_congr rfl (fun _ => rfl) (fun _ => dite_congr rfl (fun _ => rfl) (fun _ => dite_congr rfl (fun _ => rfl) (fun _ => rfl)))

theorem bt_at (c : Dev nD) (k : Fin 2048) :
    (show FVec Ideal S2048x1 .f32 from V m c main_v57) (ix2 k 0) = if h : k.val < 1024 then bias m c (ix1 ⟨512 + k.val, by omega⟩)
      else if h : k.val - 1024 < 512 then bias m c (ix1 ⟨1568 + (k.val - 1024), by omega⟩)
        else if h : k.val - 1024 - 512 < 32 then bias m c (ix1 ⟨1536 + gateCol ⟨k.val - 1024 - 512, h⟩, by have := gateCol_lt ⟨k.val - 1024 - 512, h⟩; omega⟩)
          else 0 := by
  have e : List.flatten [hostOps0, hostOps0_1, hostOps0_2, hostOps0_3, hostOps0_4] =
    ((((hostOps0 ++ hostOps0_1) ++ hostOps0_2) ++ hostOps0_3) ++ hostOps0_4.take 19) ++ (hostOps0_4.drop 19 : List (HloOp τ sig (Elt Ideal))) := rfl
  unfold V
  rw [e, StableHlo.after_append]
  refine (bt_of _ k).trans ?_
  simp only [hostOps0, hostOps0_1, hostOps0_2, hostOps0_3, hostOps0_4, List.take_succ_cons, List.take_zero, List.append_nil, List.cons_append, List.nil_append]
  after_results
  pointwise []
  exact dite_congr rfl (fun _ => rfl) (fun _ => dite_congr rfl (fun _ => rfl) (fun _ => dite_congr rfl (fun _ => rfl) (fun _ => rfl)))

theorem cast_w (c : Dev nD) (k : Fin 1024) (q q' : Fin 8224) (h : q.val = q'.val) : w m c (ix2 k q) = w m c (ix2 k q') := by rw [Fin.ext h]
theorem cast_bias (c : Dev nD) (q q' : Fin 8224) (h : q.val = q'.val) : bias m c (ix1 q) = bias m c (ix1 q') := by rw [Fin.ext h]

variable (c : Dev nD) (k : Fin 1024)

/-- The first 512 packed columns: the keys' weights, scaled by one eighth. -/
theorem wn_k (q : Fin 6656) (hq : q.val < 512) : (show FVec Ideal S1024x6656 .bf16 from V m c main_v18) (ix2 k q) =
    w m c (ix2 k ⟨q.val, by omega⟩) * eighth := by
  exact (wn_at m c k q).trans (dif_pos hq)
theorem bn_k (q : Fin 6656) (hq : q.val < 512) : (show FVec Ideal S1x6656 .f32 from V m c main_v48) (ix2 0 q) =
    bias m c (ix1 ⟨q.val, by omega⟩) * eighth := by
  exact (bn_at m c q).trans (dif_pos hq)

/-- The other packed columns: segment `s`, scaled by its factor. -/
theorem wn_seg (s : Fin 6) (q : Fin 6656) (q' : Fin 8224) (hq : 512 ≤ q.val) (hs : (q.val - 512) / 1024 = s.val) (h : q'.val = q.val + 1568) :
    (show FVec Ideal S1024x6656 .bf16 from V m c main_v18) (ix2 k q) = w m c (ix2 k q') * segScale s := by
  refine (wn_at m c k q).trans ?_
  rw [dif_neg (by omega), cast_w m c k _ q' (by show 2080 + (q.val - 512) = _; omega)]
  exact congrArg (fun a => w m c (ix2 k q') * segScale a) (Fin.ext hs)
theorem bn_seg (s : Fin 6) (q : Fin 6656) (q' : Fin 8224) (hq : 512 ≤ q.val) (hs : (q.val - 512) / 1024 = s.val) (h : q'.val = q.val + 1568) :
    (show FVec Ideal S1x6656 .f32 from V m c main_v48) (ix2 0 q) = bias m c (ix1 q') * segScale s := by
  refine (bn_at m c q).trans ?_
  rw [dif_neg (by omega), cast_bias m c _ q' (by show 2080 + (q.val - 512) = _; omega)]
  exact congrArg (fun a => bias m c (ix1 q') * segScale a) (Fin.ext hs)

/-- The column of the projection that row `q` of the transposed weights holds. -/
def tCol (q : Fin 1568) : Fin 8224 :=
  if q.val < 1024 then ⟨512 + q.val, by omega⟩ else if q.val - 1024 < 512 then ⟨1568 + (q.val - 1024), by omega⟩
  else ⟨1536 + gateCol ⟨q.val - 1536, by omega⟩, by have := gateCol_lt ⟨q.val - 1536, by omega⟩; omega⟩

theorem wt_row (q : Fin 2048) (q' : Fin 1568) (h : q.val = q'.val) : (show FVec Ideal S2048x1024 .bf16 from V m c main_v28) (ix2 q k) = w m c (ix2 k (tCol q')) := by
  have hq := q'.isLt
  refine (wt_at m c q k).trans ?_
  rw [tCol]
  by_cases h1 : q'.val < 1024
  · rw [dif_pos (by omega), if_pos h1]
    exact cast_w m c k _ _ (by show 512 + q.val = 512 + q'.val; omega)
  · rw [dif_neg (by omega), if_neg h1]
    by_cases h2 : q'.val - 1024 < 512
    · rw [dif_pos (by omega), if_pos h2]
      exact cast_w m c k _ _ (by show 1568 + (q.val - 1024) = 1568 + (q'.val - 1024); omega)
    · rw [dif_neg (by omega), if_neg h2, dif_pos (by omega)]
      exact cast_w m c k _ _ (congrArg (fun g => 1536 + gateCol g) (Fin.ext (by show q.val - 1024 - 512 = q'.val - 1536; omega)))
theorem bt_row (q : Fin 2048) (q' : Fin 1568) (h : q.val = q'.val) : (show FVec Ideal S2048x1 .f32 from V m c main_v57) (ix2 q 0) = bias m c (ix1 (tCol q')) := by
  have hq := q'.isLt
  refine (bt_at m c q).trans ?_
  rw [tCol]
  by_cases h1 : q'.val < 1024
  · rw [dif_pos (by omega), if_pos h1]
    exact cast_bias m c _ _ (by show 512 + q.val = 512 + q'.val; omega)
  · rw [dif_neg (by omega), if_neg h1]
    by_cases h2 : q'.val - 1024 < 512
    · rw [dif_pos (by omega), if_pos h2]
      exact cast_bias m c _ _ (by show 1568 + (q.val - 1024) = 1568 + (q'.val - 1024); omega)
    · rw [dif_neg (by omega), if_neg h2, dif_pos (by omega)]
      exact cast_bias m c _ _ (congrArg (fun g => 1536 + gateCol g) (Fin.ext (by show q.val - 1024 - 512 = q'.val - 1536; omega)))

/-- The two norm weights, reshaped by the host. -/
theorem norm_at : (show FVec Ideal S1x1024 .f32 from V m c main_v58) (ix2 0 k) = (show FVec Ideal S1024 .f32 from m ((c : Thread nD τ).loc main_arg2)) (ix1 k) := by
  simp only [V, hostOps0, hostOps0_1, hostOps0_2, hostOps0_3, hostOps0_4, List.flatten_cons, List.flatten_nil, List.append_nil,
    List.cons_append, List.nil_append]
  after_results
  pointwise []
theorem mnorm_at : (show FVec Ideal S1x1024 .f32 from V m c main_v59) (ix2 0 k) = (show FVec Ideal S1024 .f32 from m ((c : Thread nD τ).loc main_arg3)) (ix1 k) := by
  simp only [V, hostOps0, hostOps0_1, hostOps0_2, hostOps0_3, hostOps0_4, List.flatten_cons, List.flatten_nil, List.append_nil,
    List.cons_append, List.nil_append]
  after_results
  pointwise []
/-- The output matrix of the convolution, cast by the host. -/
theorem wco_at (j : Fin 1024) : (show FVec Ideal S1024x1024 .bf16 from V m c main_v60) (ix2 k j) = (show FVec Ideal S1024x1024 .f32 from m ((c : Thread nD τ).loc main_arg7)) (ix2 k j) := by
  simp only [V, hostOps0, hostOps0_1, hostOps0_2, hostOps0_3, hostOps0_4, List.flatten_cons, List.flatten_nil, List.append_nil,
    List.cons_append, List.nil_append]
  after_results
  pointwise []

end Cert.InKIdeal.InPack
end
-- ==== Proof.InTile.lean ====
module

public import proofs.«01_k».proof.Proof.InKernel
public import proofs.«01_k».proof.Proof.InRef
public import proofs.«01_k».proof.Proof.InPack
public import proofs.«01_k».proof.Proof.Gen.InKIdeal.Value
public import Idealize.ShloMosaic.Lib.Pipeline.ValueKit

/- What the first-half kernel's tiles read: one token's projections against those of the reference. -/

@[expose] public section

set_option maxRecDepth 16384

noncomputable section
open Idealize.ShloMosaic Idealize.ShloMosaic.TcCoe Idealize.SL.Sem
open scoped BigOperators

namespace Cert.InKIdeal.InTile
open Cert.InKIdeal Cert.InKIdeal.Gen DitRows Cert.InKIdeal.InPack

variable (m : (ℓ : Loc nD τ sig) → Buf (Elt Ideal) ℓ)

/-- Every window's block at grid step `t`: batch row `t / 4`, token tile `t % 4`; the rest whole arrays. -/
theorem idx : ∀ t : Fin cfg0.N, win0_0.index t = ![t.val / 4, t.val % 4, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![t.val / 4, t.val % 4, 0]
    ∧ win0_11.index t = ![t.val / 4, t.val % 4, 0, 0]
    ∧ win0_12.index t = ![t.val / 4, t.val % 4, 0, 0]
    ∧ win0_13.index t = ![t.val / 4, t.val % 4, 0, 0]
    ∧ win0_14.index t = ![t.val / 4, t.val % 4, 0]
    ∧ win0_15.index t = ![t.val / 4, t.val % 4, 0]
    ∧ win0_16.index t = ![t.val / 4, t.val % 4, 0] :=
  (by decide +kernel : ∀ t : Fin grid0.N, _)

/-- The modulation row that grid step `t` loads. -/
theorem row : ∀ t : Fin cfg0.N, k0_off1 (grid0.coords t) 0 = t.val / 4 ∧ k0_off1 (grid0.coords t) 1 = 0 :=
  (by decide +kernel : ∀ t : Fin grid0.N, _)

/-- The batch row of a grid step. -/
def bat (t : Fin cfg0.N) : Fin 16 := ⟨t.val / 4, by have : t.val < 64 := t.isLt; omega⟩

/-- The token at row `r` of a grid step's tile. -/
def tok (t : Fin cfg0.N) (r : Fin 512) : Fin 2048 := ⟨t.val % 4 * 512 + r.val, by omega⟩

/-- The projections of the reference, of the arguments in memory `m`. -/
abbrev Z (c : Dev nD) : FVec Ideal Cert.InRIdeal.S16x2048x8224 .f32 :=
  Cert.InRIdeal.Read.val_main_v35 (F := Ideal) (m ((c : Thread nD τ).loc main_arg0)) (m ((c : Thread nD τ).loc main_arg1))
    (m ((c : Thread nD τ).loc main_arg2)) (m ((c : Thread nD τ).loc main_arg4)) (m ((c : Thread nD τ).loc main_arg5))

/-- The modulated norm of the reference. -/
def hv (c : Dev nD) (b : Fin 16) (s : Fin 2048) : Fin 1024 → EReal :=
  modulated (fun k => (show FVec Ideal S16x2048x1024 .f32 from m ((c : Thread nD τ).loc main_arg0)) (ix3 b s k))
    (fun k => (show FVec Ideal S1024 .f32 from m ((c : Thread nD τ).loc main_arg2)) (ix1 k))
    (modPart (Cert.InRIdeal.Rows.md (m ((c : Thread nD τ).loc main_arg1)) b) 1024 (by omega))
    (modPart (Cert.InRIdeal.Rows.md (m ((c : Thread nD τ).loc main_arg1)) b) 0 (by omega))

theorem Z_at (c : Dev nD) (b : Fin 16) (s : Fin 2048) (q : Fin 8224) :
    Z m c (ix3 b s q) = (∑ k, hv m c b s k * w m c (ix2 k q)) + bias m c (ix1 q) :=
  Cert.InRIdeal.Rows.z_at _ _ _ _ _ b s q

/-- A projection with scaled weights and bias is the reference's projection, scaled. -/
theorem scaled (c : Dev nD) (b : Fin 16) (s : Fin 2048) (q : Fin 8224) (h wl : Fin 1024 → EReal) (bl sc : EReal) (r : ℝ) (hr : 0 ≤ r) (hsc : sc = (r : EReal))
    (hh : ∀ k, h k = hv m c b s k) (hw : ∀ k, wl k = w m c (ix2 k q) * sc) (hb : bl = bias m c (ix1 q) * sc) :
    (∑ k, h k * wl k) + bl = Z m c (ix3 b s q) * sc := by
  subst hsc
  rw [Z_at, ← project_scale _ _ _ r hr, hb]
  exact congrArg (· + _) (Finset.sum_congr rfl fun k _ => by rw [hh, hw])

theorem segScale_real (s : Fin 6) : ∃ r : ℝ, 0 ≤ r ∧ segScale s = (r : EReal) := by
  unfold segScale
  by_cases h : s.val = 0 ∨ 4 ≤ s.val
  · exact ⟨1 / 2, by norm_num, by rw [if_pos h, half_eq]⟩
  · exact ⟨1, by norm_num, by rw [if_neg h]; norm_cast⟩

theorem blk0 (c : Dev nD) (t : Fin cfg0.N) (r : Fin 512) (k : Fin 1024) : (show FVec Ideal S1x512x1024 .f32 from iblk m c 0 t) (ix3 0 r k) =
    (show FVec Ideal S16x2048x1024 .f32 from m ((c : Thread nD τ).loc main_arg0)) (ix3 (bat t) (tok t r) k) := by
  have ht : t.val < 64 := t.isLt
  unfold bat tok
  blk_ext [iblk, V, idx t]
theorem blk1 (c : Dev nD) (t : Fin cfg0.N) (p : ∀ a, (k0_off1 (grid0.coords t)) a + S1x6144.size a ≤ S17x6144.size a) (q : Fin 6144) :
    View.ld (iblk m c 1 t) (Rect.unit (s := S17x6144) (k0_off1 (grid0.coords t)) S1x6144.size p) (ix2 0 q : S1x6144.Idx) =
      Cert.InRIdeal.Rows.md (m ((c : Thread nD τ).loc main_arg1)) (bat t) q := by
  have ht : t.val < 64 := t.isLt
  unfold Cert.InRIdeal.Rows.md bat
  pointwise []
  blk_ext [iblk, V, idx t, (row t).1, (row t).2]
theorem blk2 (c : Dev nD) (t : Fin cfg0.N) (k : Fin 1024) : (show FVec Ideal S1x1024 .f32 from iblk m c 2 t) (ix2 0 k) =
    (show FVec Ideal S1x1024 .f32 from V m c main_v58) (ix2 0 k) := by
  blk_ext [iblk, idx t]
theorem blk4 (c : Dev nD) (t : Fin cfg0.N) (k : Fin 1024) (q : Fin 6656) : (show FVec Ideal S1024x6656 .bf16 from iblk m c 4 t) (ix2 k q) =
    (show FVec Ideal S1024x6656 .bf16 from V m c main_v18) (ix2 k q) := by
  blk_ext [iblk, idx t]
theorem blk5 (c : Dev nD) (t : Fin cfg0.N) (q : Fin 6656) : (show FVec Ideal S1x6656 .f32 from iblk m c 5 t) (ix2 0 q) =
    (show FVec Ideal S1x6656 .f32 from V m c main_v48) (ix2 0 q) := by
  blk_ext [iblk, idx t]
theorem blk6 (c : Dev nD) (t : Fin cfg0.N) (q : Fin 2048) (k : Fin 1024) : (show FVec Ideal S2048x1024 .bf16 from iblk m c 6 t) (ix2 q k) =
    (show FVec Ideal S2048x1024 .bf16 from V m c main_v28) (ix2 q k) := by
  blk_ext [iblk, idx t]
theorem blk7 (c : Dev nD) (t : Fin cfg0.N) (q : Fin 2048) : (show FVec Ideal S2048x1 .f32 from iblk m c 7 t) (ix2 q 0) =
    (show FVec Ideal S2048x1 .f32 from V m c main_v57) (ix2 q 0) := by
  blk_ext [iblk, idx t]

/-- A block of columns loaded from the packed weights. -/
theorem ld4 (W : FVec Ideal S1024x6656 .bf16) (off : ℕ) (hoff : off + 1024 ≤ 6656) (p : ∀ a, (![0, off] : Fin 2 → Nat) a + S1024x1024.size a ≤ S1024x6656.size a) (k j : Fin 1024) :
    View.ld (show Vec Ideal _ .bf16 from W) (Rect.unit (s := S1024x6656) ![0, off] S1024x1024.size p) (ix2 k j : S1024x1024.Idx) = W (ix2 k ⟨off + j.val, by omega⟩) := by
  pointwise []
theorem ld5 (W : FVec Ideal S1x6656 .f32) (off : ℕ) (hoff : off + 1024 ≤ 6656) (p : ∀ a, (![0, off] : Fin 2 → Nat) a + S1x1024.size a ≤ S1x6656.size a) (j : Fin 1024) :
    View.ld (show Vec Ideal _ .f32 from W) (Rect.unit (s := S1x6656) ![0, off] S1x1024.size p) (ix2 0 j : S1x1024.Idx) = W (ix2 0 ⟨off + j.val, by omega⟩) := by
  pointwise []
theorem ld4k (W : FVec Ideal S1024x6656 .bf16) (p : ∀ a, (![0, 0] : Fin 2 → Nat) a + S1024x512.size a ≤ S1024x6656.size a) (k : Fin 1024) (j : Fin 512) :
    View.ld (show Vec Ideal _ .bf16 from W) (Rect.unit (s := S1024x6656) ![0, 0] S1024x512.size p) (ix2 k j : S1024x512.Idx) = W (ix2 k ⟨j.val, by omega⟩) := by
  pointwise []
theorem ld5k (W : FVec Ideal S1x6656 .f32) (p : ∀ a, (![0, 0] : Fin 2 → Nat) a + S1x512.size a ≤ S1x6656.size a) (j : Fin 512) :
    View.ld (show Vec Ideal _ .f32 from W) (Rect.unit (s := S1x6656) ![0, 0] S1x512.size p) (ix2 0 j : S1x512.Idx) = W (ix2 0 ⟨j.val, by omega⟩) := by
  pointwise []
theorem ld6 (W : FVec Ideal S2048x1024 .bf16) (p : ∀ a, (![0, 0] : Fin 2 → Nat) a + S1568x1024.size a ≤ S2048x1024.size a) (q : Fin 1568) (k : Fin 1024) :
    View.ld (show Vec Ideal _ .bf16 from W) (Rect.unit (s := S2048x1024) ![0, 0] S1568x1024.size p) (ix2 q k : S1568x1024.Idx) = W (ix2 ⟨q.val, by omega⟩ k) := by
  pointwise []
theorem ld7 (W : FVec Ideal S2048x1 .f32) (p : ∀ a, (![0, 0] : Fin 2 → Nat) a + S1568x1.size a ≤ S2048x1.size a) (q : Fin 1568) :
    View.ld (show Vec Ideal _ .f32 from W) (Rect.unit (s := S2048x1) ![0, 0] S1568x1.size p) (ix2 q 0 : S1568x1.Idx) = W (ix2 ⟨q.val, by omega⟩ 0) := by
  pointwise []

/-- The tile's modulated norm, row `r`. -/
abbrev H (c : Dev nD) (t : Fin cfg0.N) (p : ∀ a, (k0_off1 (grid0.coords t)) a + S1x6144.size a ≤ S17x6144.size a) : FVec Ideal S512x1024 .bf16 :=
  k0_pay1 (F := Ideal) (iblk m c 0 t) (View.ld (iblk m c 1 t) (Rect.unit (s := S17x6144) (k0_off1 (grid0.coords t)) S1x6144.size p)) (iblk m c 2 t)

theorem H_at (c : Dev nD) (t : Fin cfg0.N) (p : ∀ a, (k0_off1 (grid0.coords t)) a + S1x6144.size a ≤ S17x6144.size a) (r : Fin 512) (k : Fin 1024) : H m c t p (ix2 r k) = hv m c (bat t) (tok t r) k := by
  refine (Payload.h_at _ _ _ r k).trans ?_
  unfold hv
  have e : ∀ (x x' nw nw' sc sc' sh sh' : Fin 1024 → EReal), (∀ k, x k = x' k) → (∀ k, nw k = nw' k) → (∀ k, sc k = sc' k) → (∀ k, sh k = sh' k) →
      modulated x nw sc sh k = modulated x' nw' sc' sh' k := fun x x' nw nw' sc sc' sh sh' h1 h2 h3 h4 => by
    rw [funext h1, funext h2, funext h3, funext h4]
  have ht : t.val < 64 := t.isLt
  refine e _ _ _ _ _ _ _ _ (fun k => ?_) (fun k => ?_) (fun k => ?_) (fun k => ?_)
  · exact blk0 m c t r k
  · exact (blk2 m c t k).trans (norm_at m c k)
  · exact blk1 m c t p _
  · exact blk1 m c t p _

/-- The projection the kernel computes from segment `s` of the packed weights. -/
theorem seg_proj (c : Dev nD) (t : Fin cfg0.N) (p : ∀ a, (k0_off1 (grid0.coords t)) a + S1x6144.size a ≤ S17x6144.size a) (s : Fin 6) (off : ℕ) (hoff : off = 512 + s.val * 1024) (p1 : ∀ a, (![0, off] : Fin 2 → Nat) a + S1024x1024.size a ≤ S1024x6656.size a) (p2 : ∀ a, (![0, off] : Fin 2 → Nat) a + S1x1024.size a ≤ S1x6656.size a) (r : Fin 512) (j : Fin 1024) :
    (∑ k, H m c t p (ix2 r k) * View.ld (iblk m c 4 t) (Rect.unit (s := S1024x6656) ![0, off] S1024x1024.size p1) (ix2 k j : S1024x1024.Idx))
      + View.ld (iblk m c 5 t) (Rect.unit (s := S1x6656) ![0, off] S1x1024.size p2) (ix2 0 j : S1x1024.Idx)
      = Z m c (ix3 (bat t) (tok t r) ⟨2080 + s.val * 1024 + j.val, by omega⟩) * segScale s := by
  obtain ⟨x, hx, hs⟩ := segScale_real s
  refine scaled m c (bat t) (tok t r) _ _ _ _ _ x hx hs (fun k => H_at m c t p r k) (fun k => ?_) ?_
  · refine (ld4 _ off (by omega) p1 k j).trans ((blk4 m c t k _).trans (wn_seg m c k s _ _ ?_ ?_ ?_))
    · show 512 ≤ off + j.val; omega
    · show (off + j.val - 512) / 1024 = s.val; omega
    · show 2080 + s.val * 1024 + j.val = off + j.val + 1568; omega
  · refine (ld5 _ off (by omega) p2 j).trans ((blk5 m c t _).trans (bn_seg m c s _ _ ?_ ?_ ?_))
    · show 512 ≤ off + j.val; omega
    · show (off + j.val - 512) / 1024 = s.val; omega
    · show 2080 + s.val * 1024 + j.val = off + j.val + 1568; omega

/-- The keys' projection. -/
theorem key_proj (c : Dev nD) (t : Fin cfg0.N) (p : ∀ a, (k0_off1 (grid0.coords t)) a + S1x6144.size a ≤ S17x6144.size a) (p1 : ∀ a, (![0, 0] : Fin 2 → Nat) a + S1024x512.size a ≤ S1024x6656.size a) (p2 : ∀ a, (![0, 0] : Fin 2 → Nat) a + S1x512.size a ≤ S1x6656.size a) (r : Fin 512) (j : Fin 512) :
    (∑ k, H m c t p (ix2 r k) * View.ld (iblk m c 4 t) (Rect.unit (s := S1024x6656) ![0, 0] S1024x512.size p1) (ix2 k j : S1024x512.Idx))
      + View.ld (iblk m c 5 t) (Rect.unit (s := S1x6656) ![0, 0] S1x512.size p2) (ix2 0 j : S1x512.Idx)
      = Z m c (ix3 (bat t) (tok t r) (Fin.castLE (by omega) j)) * eighth := by
  refine scaled m c (bat t) (tok t r) _ _ _ _ _ (1 / 8) (by norm_num) eighth_eq (fun k => H_at m c t p r k) (fun k => ?_) ?_
  · exact (ld4k _ p1 k j).trans ((blk4 m c t k _).trans (wn_k m c k _ j.isLt))
  · exact (ld5k _ p2 j).trans ((blk5 m c t _).trans (bn_k m c _ j.isLt))

/-- The transposed projections: row `q` of the packed weights. -/
theorem t_proj (c : Dev nD) (t : Fin cfg0.N) (p : ∀ a, (k0_off1 (grid0.coords t)) a + S1x6144.size a ≤ S17x6144.size a) (p1 : ∀ a, (![0, 0] : Fin 2 → Nat) a + S1568x1024.size a ≤ S2048x1024.size a) (p2 : ∀ a, (![0, 0] : Fin 2 → Nat) a + S1568x1.size a ≤ S2048x1.size a) (r : Fin 512) (q : Fin 1568) :
    k0_pay4 (F := Ideal) (H m c t p) (View.ld (iblk m c 6 t) (Rect.unit (s := S2048x1024) ![0, 0] S1568x1024.size p1)) (View.ld (iblk m c 7 t) (Rect.unit (s := S2048x1) ![0, 0] S1568x1.size p2)) (ix2 q r)
      = Z m c (ix3 (bat t) (tok t r) (tCol q)) := by
  refine (Payload.t_at r _ _ _ q).trans ?_
  rw [Z_at]
  refine congrArg₂ (· + ·) (Finset.sum_congr rfl fun k _ => ?_) ?_
  · rw [mul_comm]
    exact Ideal.mul_congr (H_at m c t p r k) ((ld6 _ p1 q k).trans ((blk6 m c t _ k).trans (wt_row m c k _ q rfl)))
  · exact (ld7 _ p2 q).trans ((blk7 m c t _).trans (bt_row m c _ q rfl))

end Cert.InKIdeal.InTile
end
-- ==== Proof.InRows.lean ====
module

public import proofs.«01_k».proof.Proof.InTile

/- The first-half kernel's results by token rows (keys, both gates, the convolution mixer) are those of the reference. -/

@[expose] public section

set_option maxRecDepth 16384
set_option maxHeartbeats 1000000

noncomputable section
open Idealize.ShloMosaic Idealize.ShloMosaic.TcCoe Idealize.SL.Sem
open scoped BigOperators

namespace Cert.InKIdeal.InRows
open Cert.InKIdeal Cert.InKIdeal.Gen DitRows Cert.InKIdeal.InPack Cert.InKIdeal.InTile

variable (m : (ℓ : Loc nD τ sig) → Buf (Elt Ideal) ℓ)

/-- The keys. -/
theorem final10 (c : Dev nD) : (dats m 0 c).arrAt 10 (cfgs 0).N =
    Cert.InRIdeal.Read.val_main_v82 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  refine (dats m 0 c).arrAt_eq_of_covers 10 _ (by decide +kernel) fun t hf y => ?_
  blk_simp
  rw [after0_10]
  simp only [outsAt0]
  frame_out
  obtain ⟨r, j, rfl⟩ : ∃ (r : Fin 512) (j : Fin 512), y = (ix3 0 r j : S1x512x512.Idx) :=
    ⟨y 1, y 2, by
      refine (eq_ix3 y).trans ?_
      have h : y 0 = (0 : Fin 1) := Subsingleton.elim (α := Fin 1) _ _
      rw [h]⟩
  have ht : t.val < 64 := t.isLt
  refine (Payload.k_at _ _ _ r _ _ j).trans ((key_proj m c t _ _ _ r j).trans ?_)
  rw [show ((View.whole main_v61_0).slice (win0_10.rect t)).emb (ix3 0 r j : S1x512x512.Idx) =
    (ix3 (bat t) (tok t r) j : S16x2048x512.Idx) by unfold bat tok; blk_ext [idx t]]
  exact (Cert.InRIdeal.Rows.k_at _ _ _ _ _ _ _ _ rfl j).symm

theorem blk3 (c : Dev nD) (t : Fin cfg0.N) (k : Fin 1024) : (show FVec Ideal S1x1024 .f32 from iblk m c 3 t) (ix2 0 k) =
    (show FVec Ideal S1x1024 .f32 from V m c main_v59) (ix2 0 k) := by
  blk_ext [iblk, idx t]

/-- The output gates times the head norm's weights. -/
theorem final14 (c : Dev nD) : (dats m 0 c).arrAt 14 (cfgs 0).N =
    Cert.InRIdeal.Read.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 14 _ (by decide +kernel) fun t hf y => ?_
  blk_simp
  rw [after0_14]
  simp only [outsAt0]
  frame_out
  obtain ⟨r, j, rfl⟩ : ∃ (r : Fin 512) (j : Fin 1024), y = (ix3 0 r j : S1x512x1024.Idx) :=
    ⟨y 1, y 2, by
      refine (eq_ix3 y).trans ?_
      have h : y 0 = (0 : Fin 1) := Subsingleton.elim (α := Fin 1) _ _
      rw [h]⟩
  have ht : t.val < 64 := t.isLt
  refine (Payload.o_at r _ _ _ _ j).trans ?_
  rw [show ((View.whole main_v61_4).slice (win0_14.rect t)).emb (ix3 0 r j : S1x512x1024.Idx) =
    (ix3 (bat t) (tok t r) j : S16x2048x1024.Idx) by unfold bat tok; blk_ext [idx t]]
  refine Eq.trans ?_ (Cert.InRIdeal.Rows.o_at _ _ _ _ _ _ _ _ _ rfl j).symm
  refine Ideal.mul_congr ((congrArg (fun a => half * Ideal.tanh a + half) (seg_proj m c t _ 0 512 rfl _ _ r j)).trans (tanh_half _)) ?_
  exact (blk3 m c t j).trans (mnorm_at m c j)

theorem blk9 (c : Dev nD) (t : Fin cfg0.N) (k j : Fin 1024) : (show FVec Ideal S1024x1024 .bf16 from iblk m c 9 t) (ix2 k j) =
    (show FVec Ideal S1024x1024 .bf16 from V m c main_v60) (ix2 k j) := by
  blk_ext [iblk, idx t]

/-- Row `i` of the convolution's weights. -/
theorem blk8 (c : Dev nD) (t : Fin cfg0.N) (i : ℕ) (hi : i < 3) (p : ∀ a, (![i, 0] : Fin 2 → Nat) a + S1x1024.size a ≤ S3x1024.size a) (j : Fin 1024) :
    View.ld (iblk m c 8 t) (Rect.unit (s := S3x1024) ![i, 0] S1x1024.size p) (ix2 0 j : S1x1024.Idx) =
      (show FVec Ideal S3x1024 .f32 from m ((c : Thread nD τ).loc main_arg6)) (ix2 ⟨i, hi⟩ j) := by
  pointwise []
  blk_ext [iblk, V, idx t]

/-- The gated convolution of a tile. -/
theorem mixed (c : Dev nD) (t : Fin cfg0.N) (p : ∀ a, (k0_off1 (grid0.coords t)) a + S1x6144.size a ≤ S17x6144.size a)
    (x1 : ∀ a, (![0, 1536] : Fin 2 → Nat) a + S1024x1024.size a ≤ S1024x6656.size a) (x2 : ∀ a, (![0, 1536] : Fin 2 → Nat) a + S1x1024.size a ≤ S1x6656.size a)
    (c1 : ∀ a, (![0, 2560] : Fin 2 → Nat) a + S1024x1024.size a ≤ S1024x6656.size a) (c2 : ∀ a, (![0, 2560] : Fin 2 → Nat) a + S1x1024.size a ≤ S1x6656.size a)
    (b1 : ∀ a, (![0, 3584] : Fin 2 → Nat) a + S1024x1024.size a ≤ S1024x6656.size a) (b2 : ∀ a, (![0, 3584] : Fin 2 → Nat) a + S1x1024.size a ≤ S1x6656.size a)
    (w0 : ∀ a, (![0, 0] : Fin 2 → Nat) a + S1x1024.size a ≤ S3x1024.size a) (w1 : ∀ a, (![1, 0] : Fin 2 → Nat) a + S1x1024.size a ≤ S3x1024.size a) (w2 : ∀ a, (![2, 0] : Fin 2 → Nat) a + S1x1024.size a ≤ S3x1024.size a)
    (r : Fin 512) (j : Fin 1024) :
    k0_pay20 (F := Ideal) (H m c t p)
      (k0_pay18 (F := Ideal) (H m c t p) (View.ld (iblk m c 4 t) (Rect.unit (s := S1024x6656) ![0, 1536] S1024x1024.size x1)) (View.ld (iblk m c 5 t) (Rect.unit (s := S1x6656) ![0, 1536] S1x1024.size x2)))
      (k0_pay19 (F := Ideal) (H m c t p) (View.ld (iblk m c 4 t) (Rect.unit (s := S1024x6656) ![0, 2560] S1024x1024.size c1)))
      (View.ld (iblk m c 5 t) (Rect.unit (s := S1x6656) ![0, 2560] S1x1024.size c2))
      (View.ld (iblk m c 8 t) (Rect.unit (s := S3x1024) ![0, 0] S1x1024.size w0))
      (View.ld (iblk m c 8 t) (Rect.unit (s := S3x1024) ![1, 0] S1x1024.size w1))
      (View.ld (iblk m c 8 t) (Rect.unit (s := S3x1024) ![2, 0] S1x1024.size w2))
      (View.ld (iblk m c 4 t) (Rect.unit (s := S1024x6656) ![0, 3584] S1024x1024.size b1))
      (View.ld (iblk m c 5 t) (Rect.unit (s := S1x6656) ![0, 3584] S1x1024.size b2)) (ix2 r j) =
    Z m c (ix3 (bat t) (tok t r) ⟨5152 + j.val, by omega⟩) *
      conv (fun i => (show FVec Ideal S3x1024 .f32 from m ((c : Thread nD τ).loc main_arg6)) (ix2 i j))
        (fun s => Z m c (ix3 (bat t) s ⟨4128 + j.val, by omega⟩) * Z m c (ix3 (bat t) s ⟨3104 + j.val, by omega⟩)) (tok t r) := by
  refine (Payload.conv_at r _ _ _ _ _ _ _ _ _ j
    (fun s => Z m c (ix3 (bat t) s ⟨4128 + j.val, by omega⟩) * Z m c (ix3 (bat t) s ⟨3104 + j.val, by omega⟩))
    ⟨t.val % 4, by omega⟩ (fun i => ?_)
    (fun i => (show FVec Ideal S3x1024 .f32 from m ((c : Thread nD τ).loc main_arg6)) (ix2 i j))
    (blk8 m c t 0 (by omega) w0 j) (blk8 m c t 1 (by omega) w1 j) (blk8 m c t 2 (by omega) w2 j)).trans ?_
  · refine (mul_comm _ _).trans (Ideal.mul_congr ?_ ?_)
    · refine (congrArg (· + _) (Payload.c_at i _ _ j)).trans ?_
      exact (seg_proj m c t p 2 2560 rfl c1 c2 i j).trans (mul_one _)
    · refine (Payload.x_at i _ _ _ j).trans ?_
      exact (seg_proj m c t p 1 1536 rfl x1 x2 i j).trans (mul_one _)
  · exact Ideal.mul_congr ((seg_proj m c t p 3 3584 rfl b1 b2 r j).trans (mul_one _)) rfl

/-- The convolution mixer's output. -/
theorem final15 (c : Dev nD) : (dats m 0 c).arrAt 15 (cfgs 0).N =
    Cert.InRIdeal.Read.val_main_v108 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  refine (dats m 0 c).arrAt_eq_of_covers 15 _ (by decide +kernel) fun t hf y => ?_
  blk_simp
  rw [after0_15]
  simp only [outsAt0]
  frame_out
  obtain ⟨r, j, rfl⟩ : ∃ (r : Fin 512) (j : Fin 1024), y = (ix3 0 r j : S1x512x1024.Idx) :=
    ⟨y 1, y 2, by
      refine (eq_ix3 y).trans ?_
      have h : y 0 = (0 : Fin 1) := Subsingleton.elim (α := Fin 1) _ _
      rw [h]⟩
  have ht : t.val < 64 := t.isLt
  rw [show ((View.whole main_v61_5).slice (win0_15.rect t)).emb (ix3 0 r j : S1x512x1024.Idx) =
    (ix3 (bat t) (tok t r) j : S16x2048x1024.Idx) by unfold bat tok; blk_ext [idx t]]
  refine (Payload.ya_at r _ _ _ _ _ j).trans ?_
  refine Eq.trans ?_ (Cert.InRIdeal.Rows.ya_at _ _ _ _ _ _ _ _ _ _ rfl _ rfl j).symm
  refine Ideal.mul_congr ((congrArg (fun a => half * Ideal.tanh a + half) (seg_proj m c t _ 4 4608 rfl _ _ r j)).trans (tanh_half _)) ?_
  refine Finset.sum_congr rfl fun k _ => Ideal.mul_congr ?_ ((blk9 m c t k j).trans (wco_at m c k j))
  refine (mixed m c t _ _ _ _ _ _ _ _ _ _ r k).trans ?_
  exact (Cert.InRIdeal.Rows.conv_at _ _ _ _ _ _ _ _ _ rfl k).symm

/-- The logistic gate of the second mixer. -/
theorem final16 (c : Dev nD) : (dats m 0 c).arrAt 16 (cfgs 0).N =
    Cert.InRIdeal.Read.val_main_v115 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  refine (dats m 0 c).arrAt_eq_of_covers 16 _ (by decide +kernel) fun t hf y => ?_
  blk_simp
  rw [after0_16]
  simp only [outsAt0]
  frame_out
  obtain ⟨r, j, rfl⟩ : ∃ (r : Fin 512) (j : Fin 1024), y = (ix3 0 r j : S1x512x1024.Idx) :=
    ⟨y 1, y 2, by
      refine (eq_ix3 y).trans ?_
      have h : y 0 = (0 : Fin 1) := Subsingleton.elim (α := Fin 1) _ _
      rw [h]⟩
  have ht : t.val < 64 := t.isLt
  refine (Payload.gb_at r _ _ _ j).trans ?_
  rw [show ((View.whole main_v61_6).slice (win0_16.rect t)).emb (ix3 0 r j : S1x512x1024.Idx) =
    (ix3 (bat t) (tok t r) j : S16x2048x1024.Idx) by unfold bat tok; blk_ext [idx t]]
  refine Eq.trans ?_ (Cert.InRIdeal.Rows.mb_at _ _ _ _ _ _ _ _ rfl j).symm
  exact (congrArg (fun a => half * Ideal.tanh a + half) (seg_proj m c t _ 5 5632 rfl _ _ r j)).trans (tanh_half _)

end Cert.InKIdeal.InRows
end
-- ==== Proof.InChunks.lean ====
module

public import proofs.«01_k».proof.Proof.InTile

/- The first-half kernel's transposed results (queries, values, gates by chunks) are those of the reference. -/

@[expose] public section

set_option maxRecDepth 16384
set_option maxHeartbeats 1000000

noncomputable section
open Idealize.ShloMosaic Idealize.ShloMosaic.TcCoe Idealize.SL.Sem
open scoped BigOperators

namespace Cert.InKIdeal.InChunks
open Cert.InKIdeal Cert.InKIdeal.Gen DitRows Cert.InKIdeal.InPack Cert.InKIdeal.InTile

variable (m : (ℓ : Loc nD τ sig) → Buf (Elt Ideal) ℓ)

/-! ### The pieces that the kernel cuts out of the transposed product -/

theorem at_ix2 (i : S1568x512.Idx) (a : Fin 1568) (b : Fin 512) (h0 : (i 0 : ℕ) = a.val) (h1 : (i 1 : ℕ) = b.val) : i = ix2 a b := by
  have e0 : i 0 = a := Fin.ext h0
  have e1 : i 1 = b := Fin.ext h1
  rw [← e0, ← e1]
  exact eq_ix2 i

theorem Z_congr (c : Dev nD) (b : Fin 16) (s s' : Fin 2048) (q q' : Fin 8224) (hs : s.val = s'.val) (hq : q.val = q'.val) :
    Z m c (ix3 b s q) = Z m c (ix3 b s' q') := by
  obtain rfl := Fin.ext hs
  obtain rfl := Fin.ext hq
  rfl

theorem pick8 (v : FVec Ideal S1568x512 .f32) (x : S1x1x32x128.Idx) (i : S1568x512.Idx)
    (h0 : (i 0 : ℕ) = 1536 + (x 2 : ℕ)) (h1 : (i 1 : ℕ) = 0 + (x 3 : ℕ)) :
    k0_pay8 (F := Ideal) v x = v i := by
  have x0_lt : (x 0 : ℕ) < 1 := (x 0).isLt
  have x1_lt : (x 1 : ℕ) < 1 := (x 1).isLt
  pointwise [k0_pay8]
  blk_ext

theorem pick11 (v : FVec Ideal S1568x512 .f32) (x : S1x1x32x128.Idx) (i : S1568x512.Idx)
    (h0 : (i 0 : ℕ) = 1536 + (x 2 : ℕ)) (h1 : (i 1 : ℕ) = 128 + (x 3 : ℕ)) :
    k0_pay11 (F := Ideal) v x = v i := by
  have x0_lt : (x 0 : ℕ) < 1 := (x 0).isLt
  have x1_lt : (x 1 : ℕ) < 1 := (x 1).isLt
  pointwise [k0_pay11]
  blk_ext

theorem pick14 (v : FVec Ideal S1568x512 .f32) (x : S1x1x32x128.Idx) (i : S1568x512.Idx)
    (h0 : (i 0 : ℕ) = 1536 + (x 2 : ℕ)) (h1 : (i 1 : ℕ) = 256 + (x 3 : ℕ)) :
    k0_pay14 (F := Ideal) v x = v i := by
  have x0_lt : (x 0 : ℕ) < 1 := (x 0).isLt
  have x1_lt : (x 1 : ℕ) < 1 := (x 1).isLt
  pointwise [k0_pay14]
  blk_ext

theorem pick17 (v : FVec Ideal S1568x512 .f32) (x : S1x1x32x128.Idx) (i : S1568x512.Idx)
    (h0 : (i 0 : ℕ) = 1536 + (x 2 : ℕ)) (h1 : (i 1 : ℕ) = 384 + (x 3 : ℕ)) :
    k0_pay17 (F := Ideal) v x = v i := by
  have x0_lt : (x 0 : ℕ) < 1 := (x 0).isLt
  have x1_lt : (x 1 : ℕ) < 1 := (x 1).isLt
  pointwise [k0_pay17]
  blk_ext

theorem pick9 (v : FVec Ideal S1568x512 .f32) (x : S1x1x1024x128.Idx) (i : S1568x512.Idx)
    (h0 : (i 0 : ℕ) = 0 + (x 2 : ℕ)) (h1 : (i 1 : ℕ) = 128 + (x 3 : ℕ)) :
    k0_pay9 (F := Ideal) v x = v i := by
  have x0_lt : (x 0 : ℕ) < 1 := (x 0).isLt
  have x1_lt : (x 1 : ℕ) < 1 := (x 1).isLt
  pointwise [k0_pay9]
  blk_ext

theorem pick12 (v : FVec Ideal S1568x512 .f32) (x : S1x1x1024x128.Idx) (i : S1568x512.Idx)
    (h0 : (i 0 : ℕ) = 0 + (x 2 : ℕ)) (h1 : (i 1 : ℕ) = 256 + (x 3 : ℕ)) :
    k0_pay12 (F := Ideal) v x = v i := by
  have x0_lt : (x 0 : ℕ) < 1 := (x 0).isLt
  have x1_lt : (x 1 : ℕ) < 1 := (x 1).isLt
  pointwise [k0_pay12]
  blk_ext

theorem pick15 (v : FVec Ideal S1568x512 .f32) (x : S1x1x1024x128.Idx) (i : S1568x512.Idx)
    (h0 : (i 0 : ℕ) = 0 + (x 2 : ℕ)) (h1 : (i 1 : ℕ) = 384 + (x 3 : ℕ)) :
    k0_pay15 (F := Ideal) v x = v i := by
  have x0_lt : (x 0 : ℕ) < 1 := (x 0).isLt
  have x1_lt : (x 1 : ℕ) < 1 := (x 1).isLt
  pointwise [k0_pay15]
  blk_ext

theorem pick10 (v : FVec Ideal S1568x512 .f32) (x : S1x1x512x128.Idx) (i : S1568x512.Idx)
    (h0 : (i 0 : ℕ) = 1024 + (x 2 : ℕ)) (h1 : (i 1 : ℕ) = 128 + (x 3 : ℕ)) :
    k0_pay10 (F := Ideal) v x = v i := by
  have x0_lt : (x 0 : ℕ) < 1 := (x 0).isLt
  have x1_lt : (x 1 : ℕ) < 1 := (x 1).isLt
  pointwise [k0_pay10]
  blk_ext

theorem pick13 (v : FVec Ideal S1568x512 .f32) (x : S1x1x512x128.Idx) (i : S1568x512.Idx)
    (h0 : (i 0 : ℕ) = 1024 + (x 2 : ℕ)) (h1 : (i 1 : ℕ) = 256 + (x 3 : ℕ)) :
    k0_pay13 (F := Ideal) v x = v i := by
  have x0_lt : (x 0 : ℕ) < 1 := (x 0).isLt
  have x1_lt : (x 1 : ℕ) < 1 := (x 1).isLt
  pointwise [k0_pay13]
  blk_ext

theorem pick16 (v : FVec Ideal S1568x512 .f32) (x : S1x1x512x128.Idx) (i : S1568x512.Idx)
    (h0 : (i 0 : ℕ) = 1024 + (x 2 : ℕ)) (h1 : (i 1 : ℕ) = 384 + (x 3 : ℕ)) :
    k0_pay16 (F := Ideal) v x = v i := by
  have x0_lt : (x 0 : ℕ) < 1 := (x 0).isLt
  have x1_lt : (x 1 : ℕ) < 1 := (x 1).isLt
  pointwise [k0_pay16]
  blk_ext

theorem pick5 (a : FVec Ideal S512x1024 .bf16) (b : Vec Ideal S1568x1024 .bf16) (d : Vec Ideal S1568x1 .f32)
    (x : S1x1x1024x128.Idx) (i : S1568x512.Idx)
    (h0 : (i 0 : ℕ) = 0 + (x 2 : ℕ)) (h1 : (i 1 : ℕ) = 0 + (x 3 : ℕ)) :
    k0_pay5 (F := Ideal) a b d x = k0_pay4 (F := Ideal) a b d i := by
  have x0_lt : (x 0 : ℕ) < 1 := (x 0).isLt
  have x1_lt : (x 1 : ℕ) < 1 := (x 1).isLt
  unfold k0_pay5
  generalize k0_pay4 (F := Ideal) a b d = v
  pointwise []
  blk_ext

theorem pick7 (a : FVec Ideal S512x1024 .bf16) (b : Vec Ideal S1568x1024 .bf16) (d : Vec Ideal S1568x1 .f32)
    (x : S1x1x512x128.Idx) (i : S1568x512.Idx)
    (h0 : (i 0 : ℕ) = 1024 + (x 2 : ℕ)) (h1 : (i 1 : ℕ) = 0 + (x 3 : ℕ)) :
    k0_pay7 (F := Ideal) (k0_pay6 (F := Ideal) a b d) x = k0_pay4 (F := Ideal) a b d i := by
  have x0_lt : (x 0 : ℕ) < 1 := (x 0).isLt
  have x1_lt : (x 1 : ℕ) < 1 := (x 1).isLt
  unfold k0_pay7 k0_pay6
  generalize k0_pay4 (F := Ideal) a b d = v
  pointwise []
  blk_ext

/-- The queries, transposed, chunk by chunk. -/
theorem final11 (c : Dev nD) : (dats m 0 c).arrAt 11 (cfgs 0).N =
    Cert.InRIdeal.Read.val_main_v85 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  refine (dats m 0 c).arrAt_eq_of_covers 11 _ (by decide +kernel) fun t hf y => ?_
  blk_simp
  rw [after0_11]
  simp only [outsAt0]
  frame_out
  obtain_idx i : S1568x512 := [1024 + (y 2 : ℕ), (y 1 : ℕ) * 128 + (y 3 : ℕ)] with hi
  refine Eq.trans (b := k0_pay4 (F := Ideal) (H m c t (k0_off1_inb (grid0.coords t))) (View.ld (iblk m c 6 t) (Rect.unit (s := S2048x1024) ![0, 0] S1568x1024.size inb_S2048x1024_S1568x1024_0_0)) (View.ld (iblk m c 7 t) (Rect.unit (s := S2048x1) ![0, 0] S1568x1.size inb_S2048x1_S1568x1_0_0)) i) ?_ ?_
  · canon_tiles x h
    case piece0 => exact pick16 _ _ _ (by omega) (by omega)
    case piece1 => exact pick13 _ _ _ (by omega) (by omega)
    case piece2 => exact pick10 _ _ _ (by omega) (by omega)
    case piece3 => exact pick7 _ _ _ _ _ (by omega) (by omega)
  · obtain ⟨n, g, l, rfl⟩ : ∃ (n : Fin 4) (g : Fin 512) (l : Fin 128), y = (ix4 0 n g l : S1x4x512x128.Idx) :=
      ⟨y 1, y 2, y 3, by
        refine (eq_ix4 y).trans ?_
        have h : y 0 = (0 : Fin 1) := Subsingleton.elim (α := Fin 1) _ _
        rw [h]⟩
    have ht : t.val < 64 := t.isLt
    have e0 : (i 0 : ℕ) = 1024 + g.val := hi0
    have e1 : (i 1 : ℕ) = n.val * 128 + l.val := hi1
    have hr : n.val * 128 + l.val < 512 := by omega
    have ei : i = (ix2 ⟨1024 + g.val, by omega⟩ ⟨n.val * 128 + l.val, hr⟩ : S1568x512.Idx) := by
      exact at_ix2 i _ _ e0 e1
    rw [ei]
    refine (t_proj m c t _ _ _ ⟨n.val * 128 + l.val, hr⟩ ⟨1024 + g.val, by omega⟩).trans ?_
    have E : ((View.whole main_v61_1).slice (win0_11.rect t)).emb (ix4 0 n g l : S1x4x512x128.Idx) =
        (ix4 (bat t) ⟨t.val % 4 * 4 + n.val, by omega⟩ g l : S16x16x512x128.Idx) := by
      unfold bat
      blk_ext [idx t]
    refine Eq.trans ?_ (congrArg (Cert.InRIdeal.Read.val_main_v85 (F := Ideal) (m ((c : Thread nD τ).loc main_arg0)) (m ((c : Thread nD τ).loc main_arg1)) (m ((c : Thread nD τ).loc main_arg2)) (m ((c : Thread nD τ).loc main_arg4)) (m ((c : Thread nD τ).loc main_arg5))) E.symm)
    refine Eq.trans ?_ (Cert.InRIdeal.Rows.q_at _ _ _ _ _ _ (Z m c) rfl _ _ _).symm
    refine Z_congr m c _ _ _ _ _ ?_ ?_
    · show t.val % 4 * 512 + (n.val * 128 + l.val) = (t.val % 4 * 4 + n.val) * 128 + l.val
      omega
    · unfold tCol
      rw [if_neg (by show ¬ (1024 + g.val < 1024); omega), if_pos (by show 1024 + g.val - 1024 < 512; omega)]
      show 1568 + (1024 + g.val - 1024) = 1568 + g.val
      omega

/-- The values, transposed, chunk by chunk. -/
theorem final12 (c : Dev nD) : (dats m 0 c).arrAt 12 (cfgs 0).N =
    Cert.InRIdeal.Read.val_main_v88 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  refine (dats m 0 c).arrAt_eq_of_covers 12 _ (by decide +kernel) fun t hf y => ?_
  blk_simp
  rw [after0_12]
  simp only [outsAt0]
  frame_out
  obtain_idx i : S1568x512 := [0 + (y 2 : ℕ), (y 1 : ℕ) * 128 + (y 3 : ℕ)] with hi
  refine Eq.trans (b := k0_pay4 (F := Ideal) (H m c t (k0_off1_inb (grid0.coords t))) (View.ld (iblk m c 6 t) (Rect.unit (s := S2048x1024) ![0, 0] S1568x1024.size inb_S2048x1024_S1568x1024_0_0)) (View.ld (iblk m c 7 t) (Rect.unit (s := S2048x1) ![0, 0] S1568x1.size inb_S2048x1_S1568x1_0_0)) i) ?_ ?_
  · canon_tiles x h
    case piece0 => exact pick15 _ _ _ (by omega) (by omega)
    case piece1 => exact pick12 _ _ _ (by omega) (by omega)
    case piece2 => exact pick9 _ _ _ (by omega) (by omega)
    case piece3 => exact pick5 _ _ _ _ _ (by omega) (by omega)
  · obtain ⟨n, g, l, rfl⟩ : ∃ (n : Fin 4) (g : Fin 1024) (l : Fin 128), y = (ix4 0 n g l : S1x4x1024x128.Idx) :=
      ⟨y 1, y 2, y 3, by
        refine (eq_ix4 y).trans ?_
        have h : y 0 = (0 : Fin 1) := Subsingleton.elim (α := Fin 1) _ _
        rw [h]⟩
    have ht : t.val < 64 := t.isLt
    have e0 : (i 0 : ℕ) = 0 + g.val := hi0
    have e1 : (i 1 : ℕ) = n.val * 128 + l.val := hi1
    have hr : n.val * 128 + l.val < 512 := by omega
    have ei : i = (ix2 ⟨0 + g.val, by omega⟩ ⟨n.val * 128 + l.val, hr⟩ : S1568x512.Idx) := by
      exact at_ix2 i _ _ e0 e1
    rw [ei]
    refine (t_proj m c t _ _ _ ⟨n.val * 128 + l.val, hr⟩ ⟨0 + g.val, by omega⟩).trans ?_
    have E : ((View.whole main_v61_2).slice (win0_12.rect t)).emb (ix4 0 n g l : S1x4x1024x128.Idx) =
        (ix4 (bat t) ⟨t.val % 4 * 4 + n.val, by omega⟩ g l : S16x16x1024x128.Idx) := by
      unfold bat
      blk_ext [idx t]
    refine Eq.trans ?_ (congrArg (Cert.InRIdeal.Read.val_main_v88 (F := Ideal) (m ((c : Thread nD τ).loc main_arg0)) (m ((c : Thread nD τ).loc main_arg1)) (m ((c : Thread nD τ).loc main_arg2)) (m ((c : Thread nD τ).loc main_arg4)) (m ((c : Thread nD τ).loc main_arg5))) E.symm)
    refine Eq.trans ?_ (Cert.InRIdeal.Rows.v_at _ _ _ _ _ _ (Z m c) rfl _ _ _).symm
    refine Z_congr m c _ _ _ _ _ ?_ ?_
    · show t.val % 4 * 512 + (n.val * 128 + l.val) = (t.val % 4 * 4 + n.val) * 128 + l.val
      omega
    · unfold tCol
      rw [if_pos (by show 0 + g.val < 1024; omega)]
      show 512 + (0 + g.val) = 512 + g.val
      omega

/-- The gates, transposed, chunk by chunk. -/
theorem final13 (c : Dev nD) : (dats m 0 c).arrAt 13 (cfgs 0).N =
    Cert.InRIdeal.Read.val_main_v90 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  refine (dats m 0 c).arrAt_eq_of_covers 13 _ (by decide +kernel) fun t hf y => ?_
  blk_simp
  rw [after0_13]
  simp only [outsAt0]
  frame_out
  obtain_idx i : S1568x512 := [1536 + (y 2 : ℕ), (y 1 : ℕ) * 128 + (y 3 : ℕ)] with hi
  refine Eq.trans (b := k0_pay4 (F := Ideal) (H m c t (k0_off1_inb (grid0.coords t))) (View.ld (iblk m c 6 t) (Rect.unit (s := S2048x1024) ![0, 0] S1568x1024.size inb_S2048x1024_S1568x1024_0_0)) (View.ld (iblk m c 7 t) (Rect.unit (s := S2048x1) ![0, 0] S1568x1.size inb_S2048x1_S1568x1_0_0)) i) ?_ ?_
  · canon_tiles x h
    case piece0 => exact pick17 _ _ _ (by omega) (by omega)
    case piece1 => exact pick14 _ _ _ (by omega) (by omega)
    case piece2 => exact pick11 _ _ _ (by omega) (by omega)
    case piece3 => exact pick8 _ _ _ (by omega) (by omega)
  · obtain ⟨n, g, l, rfl⟩ : ∃ (n : Fin 4) (g : Fin 32) (l : Fin 128), y = (ix4 0 n g l : S1x4x32x128.Idx) :=
      ⟨y 1, y 2, y 3, by
        refine (eq_ix4 y).trans ?_
        have h : y 0 = (0 : Fin 1) := Subsingleton.elim (α := Fin 1) _ _
        rw [h]⟩
    have ht : t.val < 64 := t.isLt
    have e0 : (i 0 : ℕ) = 1536 + g.val := hi0
    have e1 : (i 1 : ℕ) = n.val * 128 + l.val := hi1
    have hr : n.val * 128 + l.val < 512 := by omega
    have ei : i = (ix2 ⟨1536 + g.val, by omega⟩ ⟨n.val * 128 + l.val, hr⟩ : S1568x512.Idx) := by
      exact at_ix2 i _ _ e0 e1
    rw [ei]
    refine (t_proj m c t _ _ _ ⟨n.val * 128 + l.val, hr⟩ ⟨1536 + g.val, by omega⟩).trans ?_
    have E : ((View.whole main_v61_3).slice (win0_13.rect t)).emb (ix4 0 n g l : S1x4x32x128.Idx) =
        (ix4 (bat t) ⟨t.val % 4 * 4 + n.val, by omega⟩ g l : S16x16x32x128.Idx) := by
      unfold bat
      blk_ext [idx t]
    refine Eq.trans ?_ (congrArg (Cert.InRIdeal.Read.val_main_v90 (F := Ideal) (m ((c : Thread nD τ).loc main_arg0)) (m ((c : Thread nD τ).loc main_arg1)) (m ((c : Thread nD τ).loc main_arg2)) (m ((c : Thread nD τ).loc main_arg4)) (m ((c : Thread nD τ).loc main_arg5))) E.symm)
    refine Eq.trans ?_ (Cert.InRIdeal.Rows.gates_at _ _ _ _ _ _ (Z m c) rfl _ _ _).symm
    refine Z_congr m c _ _ _ _ _ ?_ ?_
    · show t.val % 4 * 512 + (n.val * 128 + l.val) = (t.val % 4 * 4 + n.val) * 128 + l.val
      omega
    · unfold tCol
      rw [if_neg (by show ¬ (1536 + g.val < 1024); omega), if_neg (by show ¬ (1536 + g.val - 1024 < 512); omega)]
      exact congrArg (fun z => 1536 + gateCol z) (Fin.ext (by show 1536 + g.val - 1536 = g.val; omega))

end Cert.InKIdeal.InChunks
end
-- ==== Proof.PackNormal.lean ====
module

public import proofs.«01_k».proof.Proof.InMath
public import proofs.«01_k».proof.Proof.Gen.WnKIdeal
public import proofs.«01_k».proof.Proof.Gen.WnKIdeal.Value
public import proofs.«01_k».proof.Proof.Gen.WnRIdeal.Read
public import Idealize.ShloMosaic.Lib.Pipeline.ValueKit
public import Idealize.ShloMosaic.Lib.StableHlo.Run
public import Idealize.ShloMosaic.Lib.Claim

/- The columns of the input projection that are used row-major, packed and scaled by the kernel: the same as by the reference. -/

@[expose] public section

set_option maxRecDepth 16384

noncomputable section
open Idealize.ShloMosaic Idealize.ShloMosaic.TcCoe Idealize.SL.Sem

namespace Cert.WnKIdeal.PackNormal
open Cert.WnKIdeal Cert.WnKIdeal.Gen DitRows

/-- One, as the float constant the kernel holds. -/
theorem one_eq : Ideal.ofBits .f32 0x3F800000#32 = 1 := by
  simp only [Ideal.ofBits, Ideal.ieee]
  simp [-EReal.coe_mul]
  norm_num

/-- The factor of packed column block `t`: one eighth for the keys, one half where a logistic function follows, else one. -/
def factor (t : ℕ) : EReal := if t = 0 then eighth else if (1 ≤ t ∧ t < 3) ∨ 9 ≤ t then half else 1

/-- The argument's column that packed column block `t` begins with. -/
def start (t : ℕ) : ℕ := if t = 0 then 0 else 2080 + (t - 1) * 512

theorem start_le (t : Fin 13) : start t.val + 512 ≤ 8224 := by
  have := t.isLt
  unfold start
  split <;> omega

/-- The factor as the kernel selects it from the grid step. -/
theorem factor_at : ∀ t : Fin 13, Scalar.select (Scalar.cmpi .eq (BitVec.ofNat 32 t.val) 0#32) eighth
    (Scalar.select (Scalar.ori (Scalar.andi (Scalar.cmpi .sge (BitVec.ofNat 32 t.val) 1#32) (Scalar.cmpi .slt (BitVec.ofNat 32 t.val) 3#32))
      (Scalar.cmpi .sge (BitVec.ofNat 32 t.val) 9#32)) half 1) = factor t.val := by
  intro t
  have h : ∀ t : Fin 13, Scalar.cmpi .eq (BitVec.ofNat 32 t.val) 0#32 = if t.val = 0 then 1#1 else 0#1 := by decide +kernel
  have h' : ∀ t : Fin 13, Scalar.ori (Scalar.andi (Scalar.cmpi .sge (BitVec.ofNat 32 t.val) 1#32) (Scalar.cmpi .slt (BitVec.ofNat 32 t.val) 3#32))
      (Scalar.cmpi .sge (BitVec.ofNat 32 t.val) 9#32) = if (1 ≤ t.val ∧ t.val < 3) ∨ 9 ≤ t.val then 1#1 else 0#1 := by decide +kernel
  rw [h, h', factor]
  split
  · rfl
  · split <;> rfl

/-- The block that a grid step computes: the loaded rows, transposed and scaled. -/
theorem pay_at (i : grid0.Coords) (v : Vec Ideal S512x1024 .f32) (k : Fin 1024) (r : Fin 512) :
    k0_pay1 (F := Ideal) i v (ix2 k r) = (show FVec Ideal S512x1024 .f32 from v) (ix2 r k) * factor (i 0).val := by
  have e := factor_at (i 0)
  rw [← e, ← one_eq]
  pointwise [k0_pay1, eighth, half]

/-- The reference's packed weights at one element. -/
theorem ref_at (w : FVec Ideal Cert.WnRIdeal.S1024x8224 .f32) (k : Fin 1024) (t : Fin 13) (r : Fin 512) :
    Cert.WnRIdeal.Read.val_main_v12 (F := Ideal) w (ix2 k ⟨t.val * 512 + r.val, by omega⟩) =
      w (ix2 k ⟨start t.val + r.val, by have := start_le t; omega⟩) * factor t.val := by
  unfold Cert.WnRIdeal.Read.val_main_v12 Cert.WnRIdeal.Read.val_main_v11 Cert.WnRIdeal.Read.val_main_v10 Cert.WnRIdeal.Read.val_main_v9 Cert.WnRIdeal.Read.val_main_cst_1
    Cert.WnRIdeal.Read.val_main_v8 Cert.WnRIdeal.Read.val_main_v7 Cert.WnRIdeal.Read.val_main_cst_0 Cert.WnRIdeal.Read.val_main_v6 Cert.WnRIdeal.Read.val_main_v5 Cert.WnRIdeal.Read.val_main_cst
    Cert.WnRIdeal.Read.val_main_v4 Cert.WnRIdeal.Read.val_main_v3 Cert.WnRIdeal.Read.val_main_v2 Cert.WnRIdeal.Read.val_main_v1 Cert.WnRIdeal.Read.val_main_v0
  refine Eq.trans (b := if h : t.val * 512 + r.val < 512 then w (ix2 k ⟨t.val * 512 + r.val, by omega⟩) * eighth
    else if h : t.val * 512 + r.val - 512 < 1024 then w (ix2 k ⟨2080 + (t.val * 512 + r.val - 512), by omega⟩) * half
    else if h : t.val * 512 + r.val - 512 - 1024 < 3072 then w (ix2 k ⟨2080 + (1024 + (t.val * 512 + r.val - 512 - 1024)), by omega⟩)
    else w (ix2 k ⟨2080 + (4096 + (t.val * 512 + r.val - 512 - 1024 - 3072)), by omega⟩) * half) (by pointwise [eighth, half]) ?_
  have c : ∀ q q' : Fin 8224, q.val = q'.val → w (ix2 k q) = w (ix2 k q') := fun q q' h => by rw [Fin.ext h]
  have hr := r.isLt
  have ht := t.isLt
  by_cases h0 : t.val = 0
  · rw [dif_pos (by omega), factor, if_pos h0]
    exact Ideal.mul_congr (c _ _ (by show t.val * 512 + r.val = start t.val + r.val; rw [start, if_pos h0]; omega)) rfl
  · have hs : start t.val = 2080 + (t.val - 1) * 512 := by rw [start, if_neg h0]
    rw [dif_neg (by omega), factor, if_neg h0]
    by_cases h1 : t.val < 3
    · rw [dif_pos (by omega), if_pos (by omega)]
      exact Ideal.mul_congr (c _ _ (by show 2080 + (t.val * 512 + r.val - 512) = start t.val + r.val; omega)) rfl
    · rw [dif_neg (by omega)]
      by_cases h2 : t.val < 9
      · rw [dif_pos (by omega), if_neg (by omega), mul_one]
        exact c _ _ (by show 2080 + (1024 + (t.val * 512 + r.val - 512 - 1024)) = start t.val + r.val; omega)
      · rw [dif_neg (by omega), if_pos (by omega)]
        exact Ideal.mul_congr (c _ _ (by show 2080 + (4096 + (t.val * 512 + r.val - 512 - 1024 - 3072)) = start t.val + r.val; omega)) rfl

variable (m : (ℓ : Loc nD τ sig) → Buf (Elt Ideal) ℓ)

theorem idx : ∀ t : Fin cfg0.N, win0_1.index t = ![0, t.val] ∧ cc0_transform_0 (grid0.coords t) 0 = start t.val ∧ cc0_transform_0 (grid0.coords t) 1 = 0
    ∧ (grid0.coords t 0).val = t.val :=
  (by decide +kernel : ∀ t : Fin grid0.N, _)

theorem blk (c : Dev nD) (t : Fin cfg0.N) (r : Fin 512) (k : Fin 1024) : (show FVec Ideal S512x1024 .f32 from iblk m c 0 t) (ix2 r k) =
    (show FVec Ideal S1024x8224 .f32 from m ((c : Thread nD τ).loc main_arg0)) (ix2 k ⟨start t.val + r.val, by have := start_le t; omega⟩) := by
  have e : V m c main_v0 = transpose S8224x1024 [1, 0] (show FVec Ideal S1024x8224 .f32 from m ((c : Thread nD τ).loc main_arg0)) transposes_S1024x8224_S8224x1024_1_0 := by
    simp only [V, hostOps0]
    after_results
  show V m c main_v0 ((win0_0.blk t).view.emb (ix2 r k : S512x1024.Idx)) = _
  rw [e, show ((win0_0.blk t).view.emb (ix2 r k : S512x1024.Idx)) =
    (ix2 ⟨start t.val + r.val, by have := start_le t; omega⟩ k : S8224x1024.Idx) by
      refine funext fun a => Fin.ext ?_
      refine (win0_0.rect_emb_val_off t (ix2 r k : S512x1024.Idx) a).trans ?_
      have h := idx t
      fin_cases a
      · show cc0_transform_0 (grid0.coords t) 0 + r.val = _
        rw [h.2.1]
        rfl
      · show cc0_transform_0 (grid0.coords t) 1 + k.val = _
        rw [h.2.2.1, Nat.zero_add]
        rfl]
  pointwise []

/-- The packed weights that the kernel leaves are the reference's. -/
theorem final (c : Dev nD) : (dats m 0 c).arrAt 1 (cfgs 0).N =
    Cert.WnRIdeal.Read.val_main_v12 (F := Ideal) (m ((c : Thread nD τ).loc main_arg0)) := by
  refine (dats m 0 c).arrAt_eq_of_covers 1 _ (by decide +kernel) fun t hf y => ?_
  blk_simp
  rw [after0_1]
  frame_out
  obtain ⟨k, r, rfl⟩ : ∃ (k : Fin 1024) (r : Fin 512), y = (ix2 k r : S1024x512.Idx) := ⟨y 0, y 1, eq_ix2 y⟩
  rw [show ((View.whole main_v1).slice (win0_1.rect t)).emb (ix2 k r : S1024x512.Idx) =
    (ix2 k ⟨t.val * 512 + r.val, by have : t.val < 13 := t.isLt; omega⟩ : S1024x6656.Idx) by blk_ext [idx t]]
  refine (pay_at _ _ k r).trans ?_
  refine Eq.trans ?_ (ref_at _ k t r).symm
  rw [(idx t).2.2.2]
  exact congrArg (· * factor t.val) (blk m c t r k)

end Cert.WnKIdeal.PackNormal
end
-- ==== Proof.PackTransposed.lean ====
module

public import proofs.«01_k».proof.Proof.Gen.WtK.Frame
public import proofs.«01_k».proof.Proof.Gen.WtKIdeal
public import proofs.«01_k».proof.Proof.Gen.WtKIdeal.Frame
public import proofs.«01_k».proof.Proof.Gen.WtRIdeal.Read
public import Idealize.ShloMosaic.Lib.Pipeline.ValueKit
public import Idealize.ShloMosaic.Lib.StableHlo.Run
public import Idealize.ShloMosaic.Lib.Claim

/- The columns of the input projection that are used column-major, packed by the kernel: the same as by the reference.
   The kernel reads the rows its blocks begin at from a table, and reorders the gates by a product with a permutation. -/

@[expose] public section

set_option maxRecDepth 16384

noncomputable section
open Idealize.ShloMosaic Idealize.ShloMosaic.TcCoe Idealize.SL.Sem
open scoped BigOperators

namespace Cert.WtK.PackTransposed
open Cert.WtK Cert.WtK.Gen

set_option backward.proofsInPublic true in
/-- The table's words: eighths of the rows that the four blocks begin at. -/
def words : pre0.Contents (Elt Bits) :=
  fun | ⟨0, _⟩ => fun x => lit0 (S4.rowMajor x) | ⟨_ + 1, h⟩ => absurd h (by simp)

theorem table (m : (ℓ : Loc nD τ sig) → Buf (Elt Bits) ℓ) : tbl m = words := by
  funext j x
  match j with
  | ⟨0, _⟩ =>
    have e : V m 0 main_c = fun i => lit0 (S4.rowMajor i) := by
      simp only [V, hostOps0]
      after_results
      rfl
    exact congrFun e x

/-- Every block that the table names lies inside the array. -/
theorem ok (m : (ℓ : Loc nD τ sig) → Buf (Elt Bits) ℓ) : Ok m := by
  unfold Ok
  rw [table]
  decide +kernel

end Cert.WtK.PackTransposed

namespace Cert.WtKIdeal.PackTransposed
open Cert.WtKIdeal Cert.WtKIdeal.Gen

set_option backward.proofsInPublic true in
/-- The table's words: eighths of the rows that the four blocks begin at. -/
def words : pre0.Contents (Elt Ideal) :=
  fun | ⟨0, _⟩ => fun x => lit0 (S4.rowMajor x) | ⟨_ + 1, h⟩ => absurd h (by simp)

variable (m : (ℓ : Loc nD τ sig) → Buf (Elt Ideal) ℓ)

theorem table : tbl m = words := by
  funext j x
  match j with
  | ⟨0, _⟩ =>
    have e : V m 0 main_c = fun i => lit0 (S4.rowMajor i) := by
      simp only [V, hostOps0]
      after_results
      rfl
    exact congrFun e x

/-- Every block that the table names lies inside the array. -/
theorem ok : Ok m := by
  unfold Ok
  rw [table]
  decide +kernel

/-- The row that block `t` begins at. -/
def start (t : ℕ) : ℕ := if t = 0 then 512 else if t = 1 then 1024 else if t = 2 then 1568 else 1536

theorem start_le (t : Fin 4) : start t.val + 512 ≤ 8224 := by
  have := t.isLt
  unfold start
  split_ifs <;> omega

theorem words_at : ∀ t : Fin grid0.N, cc0_transform_0 k0_off1_inb numel1_S1 words (grid0.coords t) 0 = start t.val ∧
    cc0_transform_0 k0_off1_inb numel1_S1 words (grid0.coords t) 1 = 0 := by
  decide +kernel

theorem idx : ∀ t : Fin grid0.N, cc0_transform_0 k0_off1_inb numel1_S1 (tbl m) (grid0.coords t) 0 = start t.val ∧
    cc0_transform_0 k0_off1_inb numel1_S1 (tbl m) (grid0.coords t) 1 = 0 := by
  rw [table]
  exact words_at

/-- The gate that the kernel puts at place `p`: the gates grouped by head, kind, direction and half. -/
def gate (p : Fin 32) : Fin 32 := ⟨p.val / 4 % 2 * 16 + p.val / 2 % 2 * 8 + p.val / 8 * 2 + p.val % 2, by omega⟩

/-- The row numbers by which the kernel reorders the unit matrix. -/
def order : IVec S32x1 32 :=
  let g : IVec S32 32 := shapeCast S32 (transpose S4x2x2x2 [2, 0, 1, 3] (shapeCast S2x2x4x2 (iotaInDim S32 32 0) shapeCasts_S32_S2x2x4x2)
    transposes_S2x2x4x2_S4x2x2x2_2_0_1_3) shapeCasts_S4x2x2x2_S32
  broadcastInDim S32x1 ![0] bcast_S32_S32x1_0 (select (cmpi .slt g (broadcastInDim S32 ![] bcast_S_S32 (constantI S_ 32 0#32)))
    (addi g (broadcastInDim S32 ![] bcast_S_S32 (constantI S_ 32 32#32))) g)

theorem order_at : ∀ p k : Fin 32, gather_S32x32_S32x1_S32x32_1_0_n_n_0_1_132.operandIdx (ix2 p k : S32x32.Idx) order = (ix2 (gate p) k : S32x32.Idx) := by
  decide +kernel

/-- The unit matrix as the kernel makes it. -/
def unit : FVec Ideal S32x32 .bf16 :=
  uitofp .bf16 (cmpi .eq (addi (iotaInDim S32x32 32 0) (broadcastInDim S32x32 ![] bcast_S_S32x32 (constantI S_ 32 0#32))) (iotaInDim S32x32 32 1))

theorem unit_at (p k : Fin 32) : unit (ix2 p k) = if k = p then (1 : EReal) else 0 := by
  have h : ∀ p k : Fin 32, (cmpi .eq (addi (iotaInDim S32x32 32 0) (broadcastInDim S32x32 ![] bcast_S_S32x32 (constantI S_ 32 0#32))) (iotaInDim S32x32 32 1)) (ix2 p k : S32x32.Idx)
      = if k = p then 1#1 else 0#1 := by decide +kernel
  show FloatOps.uitofp (F := Ideal) .bf16 _ = _
  rw [h]
  split
  · show ((1 : ℕ) : EReal) = 1
    norm_num
  · show ((0 : ℕ) : EReal) = 0
    norm_num

/-- The permutation that the kernel multiplies by. -/
theorem perm_at (c : Dev nD) (p k : Fin 32) : (show FVec Ideal S32x32 .bf16 from V m c main_v17) (ix2 p k) = if k = gate p then (1 : EReal) else 0 := by
  have e : V m c main_v17 = Host.gather gather_S32x32_S32x1_S32x32_1_0_n_n_0_1_132 unit order := by
    simp only [V, hostOps0]
    after_results
    rfl
  rw [e]
  show unit (gather_S32x32_S32x1_S32x32_1_0_n_n_0_1_132.operandIdx (ix2 p k : S32x32.Idx) order) = _
  rw [order_at, unit_at]

/-- A stored block that is not the last: the loaded rows. -/
theorem pay1_at (v : Vec Ideal S512x1024 .f32) (r : Fin 512) (k : Fin 1024) :
    k0_pay1 (F := Ideal) v (ix2 r k) = (show FVec Ideal S512x1024 .f32 from v) (ix2 r k) := by
  pointwise [k0_pay1]

/-- The reordered gates. -/
theorem pay2_at (v : Vec Ideal S32x1024 .f32) (w : Vec Ideal S32x32 .bf16)
    (hw : ∀ p k : Fin 32, (show FVec Ideal S32x32 .bf16 from w) (ix2 p k) = if k = gate p then (1 : EReal) else 0) (p : Fin 32) (j : Fin 1024) :
    k0_pay2 (F := Ideal) v w (ix2 p j) = (show FVec Ideal S32x1024 .f32 from v) (ix2 (gate p) j) := by
  have e : k0_pay2 (F := Ideal) v w (ix2 p j) = ∑ k, (show FVec Ideal S32x32 .bf16 from w) (ix2 p k) * (show FVec Ideal S32x1024 .f32 from v) (ix2 k j) := by
    pointwise [k0_pay2]
  rw [e, Finset.sum_eq_single (gate p)]
  · rw [hw, if_pos rfl, one_mul]
  · intro k _ hk
    rw [hw, if_neg hk, zero_mul]
  · intro h
    exact absurd (Finset.mem_univ _) h

/-- The argument's column that the reference packs at row `p`. -/
def column (p : Fin 2048) : ℕ :=
  if p.val < 1536 then (if p.val < 1024 then 512 + p.val else 544 + p.val) else
    if h : p.val - 1536 < 32 then 1536 + (gate ⟨p.val - 1536, h⟩).val else p.val

theorem column_lt (p : Fin 2048) : column p < 8224 := by
  have := p.isLt
  unfold column
  split_ifs
  · omega
  · omega
  · have := (gate ⟨p.val - 1536, by assumption⟩).isLt
    omega
  · omega

open Cert.WtRIdeal.Read in
/-- The reference's gates at one element. -/
theorem ref_gates (w : FVec Ideal Cert.WtRIdeal.S1024x8224 .f32) (k : Fin 1024) (p : Fin 32) :
    val_main_v10 (F := Ideal) w (ix2 k p) = w (ix2 k ⟨1536 + (gate p).val, by have := (gate p).isLt; omega⟩) := by
  unfold val_main_v10 val_main_v9 val_main_v8 val_main_v7 val_main_v6 val_main_v5 val_main_v4 val_main_v2 val_main_v1
  refine Eq.trans (b := if h : p.val / 4 % 2 < 1 then w (ix2 k ⟨1536 + (p.val / 2 % 2 * 8 + p.val / 8 * 2 + p.val % 2), by omega⟩)
    else w (ix2 k ⟨1552 + (p.val / 2 % 2 * 8 + p.val / 8 * 2 + p.val % 2), by omega⟩)) (by pointwise []) ?_
  have c : ∀ q q' : Fin 8224, q.val = q'.val → w (ix2 k q) = w (ix2 k q') := fun q q' h => by rw [Fin.ext h]
  split
  · refine c _ _ ?_
    simp only [gate]
    omega
  · refine c _ _ ?_
    simp only [gate]
    omega

open Cert.WtRIdeal.Read in
/-- The reference's packed weights at one element. -/
theorem ref_at (w : FVec Ideal Cert.WtRIdeal.S1024x8224 .f32) (p : Fin 2048) (k : Fin 1024) :
    val_main_v14 (F := Ideal) w (ix2 p k) = w (ix2 k ⟨column p, column_lt p⟩) := by
  have hg := ref_gates w k
  unfold val_main_v14 val_main_v13 val_main_v12 val_main_v11 val_main_v3 val_main_v0
  generalize val_main_v10 (F := Ideal) w = G at hg ⊢
  refine Eq.trans (b := if h : p.val < 1024 then w (ix2 k ⟨512 + p.val, by omega⟩)
    else if h : p.val - 1024 < 512 then w (ix2 k ⟨1568 + (p.val - 1024), by omega⟩)
    else if h : p.val - 1024 - 512 < 32 then G (ix2 k ⟨p.val - 1024 - 512, by omega⟩)
    else w (ix2 k ⟨1568 + (p.val - 1024 - 512 - 32), by omega⟩)) (by pointwise []) ?_
  have c : ∀ q q' : Fin 8224, q.val = q'.val → w (ix2 k q) = w (ix2 k q') := fun q q' h => by rw [Fin.ext h]
  by_cases h0 : p.val < 1024
  · rw [dif_pos h0]
    exact c _ _ (by simp only [column]; rw [if_pos (by omega), if_pos h0])
  · rw [dif_neg h0]
    by_cases h1 : p.val - 1024 < 512
    · rw [dif_pos h1]
      exact c _ _ (by simp only [column]; rw [if_pos (by omega), if_neg h0]; omega)
    · rw [dif_neg h1]
      by_cases h2 : p.val - 1024 - 512 < 32
      · rw [dif_pos h2, hg]
        refine c _ _ ?_
        simp only [column]
        rw [if_neg (by omega), dif_pos (by omega)]
        simp only [gate]
        omega
      · rw [dif_neg h2]
        exact c _ _ (by simp only [column]; rw [if_neg (by omega), dif_neg (by omega)]; omega)

theorem blk (c : Dev nD) (t : Fin (cfgM m (ok m)).N) (r : Fin 512) (k : Fin 1024) : (show FVec Ideal S512x1024 .f32 from iblk m (ok m) c 0 t) (ix2 r k) =
    (show FVec Ideal S1024x8224 .f32 from m ((c : Thread nD τ).loc main_arg0)) (ix2 k ⟨start t.val + r.val, by have := start_le t; omega⟩) := by
  have e : V m c main_v0 = transpose S8224x1024 [1, 0] (show FVec Ideal S1024x8224 .f32 from m ((c : Thread nD τ).loc main_arg0)) transposes_S1024x8224_S8224x1024_1_0 := by
    simp only [V, hostOps0]
    after_results
  show V m c main_v0 ((((cfgM m (ok m)).win 0).blk t).view.emb (ix2 r k : S512x1024.Idx)) = _
  rw [e, show ((((cfgM m (ok m)).win 0).blk t).view.emb (ix2 r k : S512x1024.Idx)) =
    (ix2 ⟨start t.val + r.val, by have := start_le t; omega⟩ k : S8224x1024.Idx) by
      refine funext fun a => Fin.ext ?_
      refine (((cfgM m (ok m)).win 0).rect_emb_val_off t (ix2 r k : S512x1024.Idx) a).trans ?_
      have h := idx m t
      fin_cases a
      · show cc0_transform_0 k0_off1_inb numel1_S1 (tbl m) (grid0.coords t) 0 + r.val = _
        rw [h.1]
        rfl
      · show cc0_transform_0 k0_off1_inb numel1_S1 (tbl m) (grid0.coords t) 1 + k.val = _
        rw [h.2, Nat.zero_add]
        rfl]
  pointwise []

theorem perm (c : Dev nD) (t : Fin (cfgM m (ok m)).N) (p k : Fin 32) : (show FVec Ideal S32x32 .bf16 from iblk m (ok m) c 1 t) (ix2 p k) =
    if k = gate p then (1 : EReal) else 0 := by
  refine Eq.trans ?_ (perm_at m c p k)
  show V m c main_v17 ((((cfgM m (ok m)).win 1).blk t).view.emb (ix2 p k : S32x32.Idx)) = _
  rw [show ((((cfgM m (ok m)).win 1).blk t).view.emb (ix2 p k : S32x32.Idx)) = (ix2 p k : S32x32.Idx) by
    refine funext fun a => Fin.ext ?_
    refine (((cfgM m (ok m)).win 1).rect_emb_val_off t (ix2 p k : S32x32.Idx) a).trans ?_
    fin_cases a
    · show 0 * 32 + p.val = p.val
      omega
    · show 0 * 32 + k.val = k.val
      omega]

/-- The rows of the packed weights that block `t` covers. -/
theorem rows : ∀ t : Fin grid0.N, cc0_transform_2 (grid0.coords t) 0 = t.val ∧ cc0_transform_2 (grid0.coords t) 1 = 0 := by
  decide +kernel

/-- The table's words, with what the pipeline asks of them. -/
def known : (pcfg0 (F := Ideal)).Adm := ⟨words, by
  show ok0 words
  decide +kernel⟩

/-- The blocks written back cover the packed weights. -/
theorem covers : ((cfgM m (ok m)).win 2).Covers := by
  have h : ((cfg0 known).win 2).Covers := by decide +kernel
  have g : ∀ a : (pcfg0 (F := Ideal)).Adm, a = known → ((cfg0 a).win 2).Covers := by
    rintro _ rfl
    exact h
  exact g _ (Subtype.ext (table m))

section Block
variable (c : Dev nD) (i : grid0.Coords) (a2 : Memref sig .tc .vmem S512x1024 .f32) (h2 : a2.IsWhole) (a3 : Memref sig .tc .vmem S32x32 .bf16)
    (h3 : a3.IsWhole) (a4 : Memref sig .tc .vmem S512x1024 .bf16) (h4 : a4.IsWhole) (x0 : Vec Ideal S512x1024 .f32) (x1 : Vec Ideal S32x32 .bf16)
    (xt : TbBuf0 (F := Ideal) c tbM0_0) (r : Fin 512) (k : Fin 1024)

/-- What a step that is not the last leaves: the loaded rows. -/
theorem rest_at (hc : ¬cond0_0 i) : out0_A_2 c i a2 h2 a3 h3 a4 h4 hc x0 x1 xt (ix2 r k) = (show FVec Ideal S512x1024 .f32 from x0) (ix2 r k) := by
  frame_out
  exact pay1_at x0 r k

/-- What the last step leaves: the gates reordered, then the loaded rows. -/
theorem last_at (hc : cond0_0 i) (hw : ∀ p k : Fin 32, (show FVec Ideal S32x32 .bf16 from x1) (ix2 p k) = if k = gate p then (1 : EReal) else 0) :
    out0_B_2 c i a2 h2 a3 h3 a4 h4 hc x0 x1 xt (ix2 r k) =
      (show FVec Ideal S512x1024 .f32 from x0) (ix2 (if h : r.val < 32 then ⟨(gate ⟨r.val, h⟩).val, by have := (gate ⟨r.val, h⟩).isLt; omega⟩ else r) k) := by
  frame_out
  by_cases hr : r.val < 32
  · rw [dif_pos hr, show (ix2 r k : S512x1024.Idx) = (Rect.unit (s := S512x1024) ![0, 0] S32x1024.size inb_S512x1024_S32x1024_0_0).emb (ix2 ⟨r.val, hr⟩ k : S32x1024.Idx) by blk_ext]
    refine (View.canon_cons_emb _ _ _ _).trans ((pay2_at _ _ hw ⟨r.val, hr⟩ k).trans ?_)
    show x0 ((Rect.unit (s := S512x1024) ![0, 0] S32x1024.size inb_S512x1024_S32x1024_0_0).emb (ix2 (gate ⟨r.val, hr⟩) k : S32x1024.Idx)) = x0 _
    congr 1
    blk_ext
  · have out : (ix2 r k : S512x1024.Idx) ∉ (Rect.unit (s := S512x1024) ![0, 0] S32x1024.size inb_S512x1024_S32x1024_0_0).set := by
      intro hm
      have h0 := Rect.mem_set_unit.mp hm 0
      have : r.val < 0 + 32 := h0.2
      omega
    refine (View.canon_cons_of_not_mem _ _ out).trans ?_
    rw [dif_neg hr, View.canon_cons_unit_lit _ _ _ (by decide)]
    exact pay1_at x0 r k

end Block

/-- The packed weights that the kernel leaves are the reference's. -/
theorem final (c : Dev nD) : (dats m (ok m) 0 c).arrAt 2 (cfgM m (ok m)).N =
    Cert.WtRIdeal.Read.val_main_v14 (F := Ideal) (m ((c : Thread nD τ).loc main_arg0)) := by
  refine (dats m (ok m) 0 c).arrAt_eq_of_covers 2 _ (covers m) fun t hf y => ?_
  blk_simp
  rw [after0_2]
  have ht : t.val < 4 := t.isLt
  obtain ⟨r, k, rfl⟩ : ∃ (r : Fin 512) (k : Fin 1024), y = (ix2 r k : S512x1024.Idx) :=
    ⟨(show S512x1024.Idx from y) 0, (show S512x1024.Idx from y) 1, eq_ix2 (show S512x1024.Idx from y)⟩
  have hr := r.isLt
  have hemb : (((cfgM m (ok m)).win 2).blk t).view.emb (ix2 r k : S512x1024.Idx) =
      (ix2 ⟨t.val * 512 + r.val, by omega⟩ k : S2048x1024.Idx) := by
    refine funext fun a => Fin.ext ?_
    refine (((cfgM m (ok m)).win 2).rect_emb_val_off t (ix2 r k : S512x1024.Idx) a).trans ?_
    have h := rows t
    fin_cases a
    · show cc0_transform_2 (grid0.coords t) 0 * 512 + r.val = _
      rw [h.1]
      rfl
    · show cc0_transform_2 (grid0.coords t) 1 * 1024 + k.val = _
      rw [h.2, Nat.zero_mul, Nat.zero_add]
      rfl
  refine Eq.trans ?_ ((congrArg (Cert.WtRIdeal.Read.val_main_v14 (F := Ideal) (m ((c : Thread nD τ).loc main_arg0))) hemb).trans (ref_at _ _ _)).symm
  have cw : ∀ q q' : Fin 8224, q.val = q'.val → (show FVec Ideal S1024x8224 .f32 from m ((c : Thread nD τ).loc main_arg0)) (ix2 k q) =
    (show FVec Ideal S1024x8224 .f32 from m ((c : Thread nD τ).loc main_arg0)) (ix2 k q') := fun q q' h => by rw [Fin.ext h]
  by_cases h3 : t.val % 4 = 3
  · rw [outsAt0_B m (ok m) c t h3]
    refine (last_at c _ _ _ _ _ _ _ _ _ _ r k _ (perm m c t)).trans ((blk m c t _ k).trans (cw _ _ ?_))
    show start t.val + (if h : r.val < 32 then (⟨(gate ⟨r.val, h⟩).val, _⟩ : Fin 512) else r).val = column ⟨t.val * 512 + r.val, _⟩
    have ht3 : t.val = 3 := by omega
    simp only [start, column, ht3]
    by_cases hr' : r.val < 32
    · rw [if_neg (by omega), if_neg (by omega), if_neg (by omega), if_neg (by omega), dif_pos hr', dif_pos (by omega)]
      simp only [gate]
      omega
    · rw [if_neg (by omega), if_neg (by omega), if_neg (by omega), if_neg (by omega), dif_neg hr', dif_neg (by omega)]
  · rw [outsAt0_A m (ok m) c t h3]
    refine (rest_at c _ _ _ _ _ _ _ _ _ _ r k _).trans ((blk m c t r k).trans (cw _ _ ?_))
    show start t.val + r.val = column ⟨t.val * 512 + r.val, _⟩
    unfold start column
    dsimp only
    split_ifs <;> omega

end Cert.WtKIdeal.PackTransposed
end
-- ==== Proof.Modulation.lean ====
module

public import proofs.«01_k».proof.Proof.InMath
public import proofs.«01_k».proof.Proof.Gen.AdKIdeal
public import proofs.«01_k».proof.Proof.Gen.AdKIdeal.Frame
public import proofs.«01_k».proof.Proof.Gen.AdRIdeal.Read
public import Idealize.ShloMosaic.Lib.Pipeline.ValueKit
public import Idealize.ShloMosaic.Lib.StableHlo.Run
public import Idealize.ShloMosaic.Lib.Claim
public import Idealize.ShloMosaic.Lib.ValueLayout
public import proofs.«01_k».proof.Pre_finite_vectors_and_weights

/- The modulation vectors: each of 17 conditioning vectors times its logistic function, times the weights, plus the bias.
   A step of the kernel takes 1024 columns of the weights, which it has copied into one of three slots while earlier steps
   computed. It multiplies casts and remainders of casts; the remainders vanish where the arguments are finite. -/

@[expose] public section

set_option maxRecDepth 16384

noncomputable section
open Idealize.ShloMosaic Idealize.ShloMosaic.TcCoe Idealize.SL.Sem
open scoped BigOperators

namespace Cert.AdKIdeal.Modulation
open Cert.AdKIdeal Cert.AdKIdeal.Gen DitRows

/-- What a grid step loads of the weights: the slot into which their block was copied. -/
def slotRead (c : Dev nD) (t : Fin cfg0.N) (w : HbBuf0 (F := Ideal) c hbM0_0) : Vec Ideal S1x1024x1024 .f32 :=
  View.readAt (Elt Ideal) (View.whole cc0_scratch0) (Rect.unit (s := S3x1024x1024) (k0_off9 (grid0.coords t)) S1x1024x1024.size (k0_off9_inb (grid0.coords t))).toLoadRect
    ((rslot0_0 (Fin.ofNat 3 t.val)).view.writes (Elt Ideal) (rslot0_0 (Fin.ofNat 3 t.val)).view.junk
      [⟨Rect.whole S1024x1024, ReadAs.same.apply ((srcB0_0 (Ring.bk 6 t.val)).view.read (Elt Ideal) w)⟩])

/-- The slot that a step loads and the block of weights that was copied there. -/
theorem slots : ∀ t : Fin grid0.N, k0_off9 (grid0.coords t) 0 = t.val % 3 ∧ k0_off9 (grid0.coords t) 1 = 0 ∧ k0_off9 (grid0.coords t) 2 = 0 ∧
    (Fin.ofNat 3 t.val).val = t.val % 3 ∧ (Ring.bk 6 t.val).val = t.val := by decide +kernel

/-- An entry of a slot, as the load sees it and as the copy does. -/
theorem slot_index (t : Fin cfg0.N) (k j : Fin 1024) : ((View.whole cc0_scratch0).slice (Rect.unit (s := S3x1024x1024) (k0_off9 (grid0.coords t)) S1x1024x1024.size (k0_off9_inb (grid0.coords t)))).emb (ix3 0 k j : S1x1024x1024.Idx)
    = (rslot0_0 (Fin.ofNat 3 t.val)).view.emb (ix2 k j : S1024x1024.Idx) := by
  have hs := slots t
  have hx : (Rect.unit (s := S3x1024x1024) (k0_off9 (grid0.coords t)) S1x1024x1024.size (k0_off9_inb (grid0.coords t))).emb (ix3 0 k j : S1x1024x1024.Idx) =
      (Rect.unit (s := S3x1024x1024) ![(Fin.ofNat 3 t.val).val, 0, 0] S1x1024x1024.size (inb_slot0_0 (Fin.ofNat 3 t.val))).emb (ix3 0 k j : S1x1024x1024.Idx) := by
    ext a
    rw [Rect.emb_apply, Rect.emb_apply]
    fin_cases a
    · exact congrArg (· + 1 * _) (hs.1.trans hs.2.2.2.1.symm)
    · exact congrArg (· + 1 * _) hs.2.1
    · exact congrArg (· + 1 * _) hs.2.2.1
  refine (congrArg (View.whole cc0_scratch0).emb hx).trans ?_
  exact (congrArg ((View.whole cc0_scratch0).slice (Rect.unit (s := S3x1024x1024) ![(Fin.ofNat 3 t.val).val, 0, 0] S1x1024x1024.size (inb_slot0_0 (Fin.ofNat 3 t.val)))).emb
    (ValueIdx.reshapeEquiv_ix2_1ab (a := 1024) (b := 1024) squeezes_S1x1024x1024_S1024x1024.numel_eq k j)).symm

/-- A load of a slot is a read of it. -/
theorem slot_load (c : Dev nD) (t : Fin cfg0.N) (g : HbBuf0 (F := Ideal) c (rslot0_0 (Fin.ofNat 3 t.val))) (k j : Fin 1024) :
    View.readAt (Elt Ideal) (View.whole cc0_scratch0)
      (Rect.unit (s := S3x1024x1024) (k0_off9 (grid0.coords t)) S1x1024x1024.size (k0_off9_inb (grid0.coords t))).toLoadRect g (ix3 0 k j : S1x1024x1024.Idx) =
      (rslot0_0 (Fin.ofNat 3 t.val)).view.read (Elt Ideal) g (ix2 k j : S1024x1024.Idx) :=
  congrArg g (slot_index t k j)

/-- What a step loads at row `k`, column `j` of its slot: the weights at row `k`, column `1024 t + j`. -/
theorem slot_at (c : Dev nD) (t : Fin cfg0.N) (w : HbBuf0 (F := Ideal) c hbM0_0) (k j : Fin 1024) : slotRead c t w (ix3 0 k j) =
    (show FVec Ideal S1024x6144 .f32 from w) (ix2 k ⟨t.val * 1024 + j.val, by have : t.val < 6 := t.isLt; omega⟩) := by
  have hs := slots t
  refine (slot_load c t _ k j).trans ((congrFun (View.read_writes_whole (rslot0_0 (Fin.ofNat 3 t.val)).view _ _) (ix2 k j)).trans ?_)
  refine congrArg (show FVec Ideal S1024x6144 .f32 from w) (funext fun a => Fin.ext ?_)
  refine (Rect.emb_apply (Rect.unit (s := S1024x6144) ![0, 1024 * (Ring.bk 6 t.val).val] S1024x1024.size (inb_src0_0 (Ring.bk 6 t.val))) (ix2 k j : S1024x1024.Idx) a).trans ?_
  fin_cases a
  · show 0 + 1 * k.val = k.val
    omega
  · show 1024 * (Ring.bk 6 t.val).val + 1 * j.val = t.val * 1024 + j.val
    rw [hs.2.2.2.2]
    omega

section Block
variable (c : Dev nD) (t : Fin cfg0.N) (arg1 : Memref sig .tc .vmem S17x1024 .f32) (harg1 : arg1.IsWhole) (arg3 : Memref sig .tc .vmem S1x1024 .f32)
    (harg3 : arg3.IsWhole) (arg4 : Memref sig .tc .vmem S17x1024 .f32) (harg4 : arg4.IsWhole)
    (x : Vec Ideal S17x1024 .f32) (b : Vec Ideal S1x1024 .f32) (w : HbBuf0 (F := Ideal) c hbM0_0)

/-- What a step stores, from the vectors, the weights it loaded and the bias. -/
def stored (v : Vec Ideal S1x1024x1024 .f32) : FVec Ideal S17x1024 .f32 :=
  k0_pay1 (F := Ideal) (k0_pay4 x) (k0_pay5 v) (k0_pay6 x) (k0_pay7 v) (constant S17x1024 .f32 0x00000000#32) b

/-- The first step, which begins the copies. -/
theorem first_out (h0 : cond0_0 (grid0.coords t)) (h1 : cond0_1 (grid0.coords t)) :
    out0_A_2 c t arg1 harg1 arg3 harg3 arg4 harg4 h0 h1 x b w = stored x b (slotRead c t w) := by
  frame_out
  rfl

/-- A step that begins the copy for a later one. -/
theorem middle_out (h0 : ¬cond0_0 (grid0.coords t)) (h1 : cond0_1 (grid0.coords t)) :
    out0_B_2 c t arg1 harg1 arg3 harg3 arg4 harg4 h0 h1 x b w = stored x b (slotRead c t w) := by
  frame_out
  rfl

/-- A step that begins no copy. -/
theorem last_out (h0 : ¬cond0_0 (grid0.coords t)) (h1 : ¬cond0_1 (grid0.coords t)) :
    out0_C_2 c t arg1 harg1 arg3 harg3 arg4 harg4 h0 h1 x b w = stored x b (slotRead c t w) := by
  frame_out
  rfl

end Block

section Payload
variable (v7 : FVec Ideal S17x1024 .f32) (w : FVec Ideal S1x1024x1024 .f32) (b : FVec Ideal S1x1024 .f32) (r : Fin 17) (j : Fin 1024)

/-- A conditioning vector times its logistic function. -/
theorem silu_at (k : Fin 1024) : k0_pay2 (F := Ideal) v7 (ix2 r k) = v7 (ix2 r k) * sigm (v7 (ix2 r k)) := by
  rw [← tanh_half]
  pointwise [k0_pay2, half, mul_comm]

/-- The logistic function of a real is a real. -/
theorem sigm_real (x : ℝ) : ∃ y : ℝ, sigm (x : EReal) = (y : EReal) := by
  have hpos : (0 : ℝ) < 1 + Real.exp (-x) := by positivity
  refine ⟨1 * (1 + Real.exp (-x))⁻¹, ?_⟩
  rw [sigm, ← EReal.coe_neg, Ideal.exp_coe, show (1 : EReal) = ((1 : ℝ) : EReal) by norm_cast, ← EReal.coe_add, Ideal.div_coe hpos.ne', ← EReal.coe_mul]
  simp

/-- A real less itself is zero. -/
theorem real_sub_self (x : ℝ) : (x : EReal) - (x : EReal) = 0 := by
  rw [← EReal.coe_sub, sub_self, EReal.coe_zero]

/-- What a step stores. The products with the remainders vanish, since the vectors and the weights are finite. -/
theorem pay_at (hs : ∀ k, ∃ x : ℝ, v7 (ix2 r k) = x) (hw : ∀ k, ∃ x : ℝ, w (ix3 0 k j) = x) :
    stored v7 b w (ix2 r j) = (∑ k, v7 (ix2 r k) * sigm (v7 (ix2 r k)) * w (ix3 0 k j)) + b (ix2 0 j) := by
  have e := silu_at v7 r
  unfold stored k0_pay1 k0_pay4 k0_pay5 k0_pay6 k0_pay7 k0_pay3 k0_pay4 k0_pay5
  generalize k0_pay2 (F := Ideal) v7 = X at e ⊢
  refine Eq.trans (b := (∑ k, X (ix2 r k) * w (ix3 0 k j)) + (∑ k, X (ix2 r k) * (w (ix3 0 k j) - w (ix3 0 k j))) +
    (∑ k, (X (ix2 r k) - X (ix2 r k)) * w (ix3 0 k j)) + b (ix2 0 j)) (by pointwise [k0_pay3]) ?_
  have hX : ∀ k, X (ix2 r k) - X (ix2 r k) = 0 := fun k => by
    obtain ⟨x, hx⟩ := hs k
    obtain ⟨y, hy⟩ := sigm_real x
    rw [e k, hx, hy, ← EReal.coe_mul, real_sub_self]
  have hW : ∀ k, w (ix3 0 k j) - w (ix3 0 k j) = 0 := fun k => by
    obtain ⟨x, hx⟩ := hw k
    rw [hx, real_sub_self]
  simp only [hX, hW, mul_zero, zero_mul, Finset.sum_const_zero, add_zero]
  simp only [e]
end Payload

/-- The conditioning vectors, one under the other, as the reference forms them. -/
abbrev vectors (a0 : FVec Ideal S16x1024 .f32) (a1 : FVec Ideal S1024 .f32) : FVec Ideal S17x1024 .f32 := Cert.AdRIdeal.Read.val_main_v1 (F := Ideal) a0 a1

/-- The reference's modulation vectors. -/
theorem ref_at (a0 : FVec Ideal S16x1024 .f32) (a1 : FVec Ideal S1024 .f32) (a2 : FVec Ideal S1024x6144 .f32) (a3 : FVec Ideal S6144 .f32) (r : Fin 17) (q : Fin 6144) :
    Cert.AdRIdeal.Read.val_main_v6 (F := Ideal) a0 a1 a2 a3 (ix2 r q) =
      (∑ k, vectors a0 a1 (ix2 r k) * sigm (vectors a0 a1 (ix2 r k)) * a2 (ix2 k q)) + a3 (ix1 q) := by
  unfold Cert.AdRIdeal.Read.val_main_v6 Cert.AdRIdeal.Read.val_main_v5 Cert.AdRIdeal.Read.val_main_v4 Cert.AdRIdeal.Read.val_main_v3 Cert.AdRIdeal.Read.val_main_v2
    Cert.AdRIdeal.Read.val_main_call0_v5 Cert.AdRIdeal.Read.val_main_call0_v4 Cert.AdRIdeal.Read.val_main_call0_cst_0 Cert.AdRIdeal.Read.val_main_call0_v3
    Cert.AdRIdeal.Read.val_main_call0_v2 Cert.AdRIdeal.Read.val_main_call0_cst Cert.AdRIdeal.Read.val_main_call0_v1 Cert.AdRIdeal.Read.val_main_call0_v0 vectors
  generalize Cert.AdRIdeal.Read.val_main_v1 (F := Ideal) a0 a1 = C
  pointwise [sigm]

/-- The side conditions of the precondition's operations. -/
instance preFacts : Cert.Pre_finite_vectors_and_weights.Facts where
  bcast_S1024_S1x1024_1 := by decide
  transposes_S1024x6144_S6144x1024_1_0 := by decide
  concatenates_S16x1024_S1x1024_S6144x1024_S6161x1024_d0 := by decide
  bcast_S_S6161x1024 := by decide

/-- The float infinity. -/
theorem infinity_eq : Ideal.ofBits .f32 0x7F800000#32 = ⊤ := by
  simp [Ideal.ofBits, Ideal.ieee]

/-- What is less than infinity in absolute value is real. -/
theorem real_of_lt {x : EReal} (h : Ideal.cmp .olt (max x (-x)) (Ideal.ofBits .f32 0x7F800000#32) = 1#1) : ∃ y : ℝ, x = y := by
  rw [infinity_eq] at h
  induction x using EReal.rec with
  | bot => simp [Ideal.cmp] at h
  | top => simp [Ideal.cmp] at h
  | coe y => exact ⟨y, rfl⟩

section Finite
variable (a0 : FVec Ideal S16x1024 .f32) (a1 : FVec Ideal S1024 .f32) (a2 : FVec Ideal S1024x6144 .f32) (a3 : FVec Ideal S6144 .f32)
    (h : Cert.Pre_finite_vectors_and_weights.fn (F := Ideal) a0 a1 a2 a3 = fun _ => 1#1)
include h

/-- The conditioning vectors are real under the precondition. -/
theorem vectors_real (r : Fin 17) (k : Fin 1024) : ∃ y : ℝ, vectors a0 a1 (ix2 r k) = y := by
  refine real_of_lt (Eq.trans ?_ (congrFun h (ix2 ⟨r.val, by omega⟩ k)))
  unfold Cert.Pre_finite_vectors_and_weights.fn vectors Cert.AdRIdeal.Read.val_main_v1 Cert.AdRIdeal.Read.val_main_v0
  pointwise []
  split_ifs <;> first | rfl | omega

/-- So are the weights. -/
theorem weights_real (q : Fin 6144) (k : Fin 1024) : ∃ y : ℝ, a2 (ix2 k q) = y := by
  refine real_of_lt (Eq.trans ?_ (congrFun h (ix2 ⟨17 + q.val, by omega⟩ k)))
  unfold Cert.Pre_finite_vectors_and_weights.fn
  pointwise []
  rw [dif_neg (show ¬17 + q.val < 16 by omega), dif_neg (show ¬17 + q.val - 16 < 1 by omega)]
  rw [show (⟨17 + q.val - 16 - 1, by omega⟩ : Fin 6144) = q from Fin.ext (by show 17 + q.val - 16 - 1 = q.val; omega)]
  rfl
end Finite

variable (m : (ℓ : Loc nD τ sig) → Buf (Elt Ideal) ℓ)

/-- The blocks of the windows. -/
theorem idx : ∀ t : Fin cfg0.N, win0_0.index t = ![0, 0] ∧ win0_1.index t = ![0, t.val] ∧ win0_2.index t = ![0, t.val] :=
  (by decide +kernel : ∀ t : Fin grid0.N, _)

/-- The vectors that a step reads. -/
theorem iblk0 (c : Dev nD) (t : Fin cfg0.N) (r : Fin 17) (k : Fin 1024) : (show FVec Ideal S17x1024 .f32 from iblk m c 0 t) (ix2 r k) =
    vectors (m ((c : Thread nD τ).loc main_arg0)) (m ((c : Thread nD τ).loc main_arg1)) (ix2 r k) := by
  blk_ext [iblk, V, idx t, vectors, Cert.AdRIdeal.Read.val_main_v1, Cert.AdRIdeal.Read.val_main_v0]

/-- The part of the bias that a step reads. -/
theorem iblk1 (c : Dev nD) (t : Fin cfg0.N) (j : Fin 1024) : (show FVec Ideal S1x1024 .f32 from iblk m c 1 t) (ix2 0 j) =
    (show FVec Ideal S6144 .f32 from m ((c : Thread nD τ).loc main_arg3)) (ix1 ⟨t.val * 1024 + j.val, by have : t.val < 6 := t.isLt; omega⟩) := by
  blk_point [iblk, V, idx t]

/-- A step stores the reference's block. -/
theorem step_at (c : Dev nD) (hpre : Cert.Pre_finite_vectors_and_weights.fn (F := Ideal) (m ((c : Thread nD τ).loc main_arg0)) (m ((c : Thread nD τ).loc main_arg1))
      (m ((c : Thread nD τ).loc main_arg2)) (m ((c : Thread nD τ).loc main_arg3)) = fun _ => 1#1) (t : Fin cfg0.N) (r : Fin 17) (j : Fin 1024) :
    stored (iblk m c 0 t) (iblk m c 1 t) (slotRead c t (V m c main_arg2)) (ix2 r j) =
      Cert.AdRIdeal.Read.val_main_v6 (F := Ideal) (m ((c : Thread nD τ).loc main_arg0)) (m ((c : Thread nD τ).loc main_arg1)) (m ((c : Thread nD τ).loc main_arg2))
        (m ((c : Thread nD τ).loc main_arg3)) (ix2 r ⟨t.val * 1024 + j.val, by have : t.val < 6 := t.isLt; omega⟩) := by
  have hw : ∀ k, slotRead c t (V m c main_arg2) (ix3 0 k j) = (show FVec Ideal S1024x6144 .f32 from m ((c : Thread nD τ).loc main_arg2))
      (ix2 k ⟨t.val * 1024 + j.val, by have : t.val < 6 := t.isLt; omega⟩) := fun k => by
    rw [slot_at, V_main_arg2]
  refine (pay_at _ _ _ r j (fun k => ?_) (fun k => ?_)).trans ?_
  · obtain ⟨y, hy⟩ := vectors_real _ _ _ _ hpre r k
    exact ⟨y, (iblk0 m c t r k).trans hy⟩
  · rw [hw k]
    exact weights_real _ _ _ _ hpre _ k
  · rw [ref_at]
    refine congrArg₂ (fun a b : EReal => a + b) (Finset.sum_congr rfl fun k _ => ?_) (iblk1 m c t j)
    exact congrArg₂ (fun a b : EReal => a * b) (congrArg (fun a : EReal => a * sigm a) (iblk0 m c t r k)) (hw k)

/-- The call leaves the reference's modulation vectors in its result. -/
theorem final (c : Dev nD) (hpre : Cert.Pre_finite_vectors_and_weights.fn (F := Ideal) (m ((c : Thread nD τ).loc main_arg0)) (m ((c : Thread nD τ).loc main_arg1))
      (m ((c : Thread nD τ).loc main_arg2)) (m ((c : Thread nD τ).loc main_arg3)) = fun _ => 1#1) :
    (dats m 0 c).arrAt 2 cfg0.N = Cert.AdRIdeal.Read.val_main_v6 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 2 _ (by decide +kernel) fun t hf y => ?_
  blk_simp
  rw [after0_2]
  have ht : t.val < 6 := t.isLt
  obtain ⟨r, j, rfl⟩ : ∃ (r : Fin 17) (j : Fin 1024), y = (ix2 r j : S17x1024.Idx) :=
    ⟨(show S17x1024.Idx from y) 0, (show S17x1024.Idx from y) 1, eq_ix2 (show S17x1024.Idx from y)⟩
  rw [show ((View.whole main_v3).slice (win0_2.rect t)).emb (ix2 r j : S17x1024.Idx) = (ix2 r ⟨t.val * 1024 + j.val, by omega⟩ : S17x6144.Idx) by blk_ext [idx t]]
  refine Eq.trans ?_ (step_at m c hpre t r j)
  by_cases h1 : t.val < 4
  · by_cases h0 : t.val % 6 = 0
    · rw [outsAt0_A m c t h0 h1]
      exact congrFun (first_out c t _ _ _ _ _ _ _ _ _ _ _) (ix2 r j)
    · rw [outsAt0_B m c t h0 h1]
      exact congrFun (middle_out c t _ _ _ _ _ _ _ _ _ _ _) (ix2 r j)
  · rw [outsAt0_C m c t (by omega) h1]
    exact congrFun (last_out c t _ _ _ _ _ _ _ _ _ _ _) (ix2 r j)
end Cert.AdKIdeal.Modulation
end
-- ==== Proof.StateMath.lean ====
module

public import proofs.«01_k».proof.Proof.InMath

/- The mathematics of the mLSTM's starting states: the logarithm of the logistic function, sums over later and earlier tokens. -/

@[expose] public section

noncomputable section
open Idealize.ShloMosaic
open scoped BigOperators

namespace DitRows

/-- The logarithm of the logistic function. -/
def logSigm (z : EReal) : EReal := -Ideal.log (1 + Ideal.exp (-z))

/-- At a real it is a real, and the form with the smaller of the argument and zero is the same. -/
theorem logSigm_real (x : ℝ) : (∃ y : ℝ, logSigm (x : EReal) = y) ∧
    min (x : EReal) 0 - Ideal.log (1 + Ideal.exp (0 - max (x : EReal) (-(x : EReal)))) = logSigm (x : EReal) := by
  have hpos : ∀ z : ℝ, (0 : ℝ) < 1 + Real.exp z := fun z => by positivity
  have one : (1 : EReal) = ((1 : ℝ) : EReal) := by norm_cast
  have hl : ∀ z : ℝ, Ideal.log (1 + Ideal.exp (z : EReal)) = ((Real.log (1 + Real.exp z) : ℝ) : EReal) := fun z => by
    rw [Ideal.exp_coe, one, ← EReal.coe_add, Ideal.log_coe, if_neg (not_le.2 (hpos z))]
  have e1 : logSigm (x : EReal) = ((-Real.log (1 + Real.exp (-x)) : ℝ) : EReal) := by
    rw [logSigm, ← EReal.coe_neg, hl, ← EReal.coe_neg]
  refine ⟨⟨_, e1⟩, ?_⟩
  have zero : (0 : EReal) = ((0 : ℝ) : EReal) := by norm_cast
  rw [e1, ← EReal.coe_neg]
  rcases le_total 0 x with h | h
  · rw [min_eq_right (by exact_mod_cast h), max_eq_left (by exact_mod_cast (by linarith : -x ≤ x)), zero, ← EReal.coe_sub, hl, ← EReal.coe_sub, zero_sub, zero_sub]
  · rw [min_eq_left (by exact_mod_cast h), max_eq_right (by exact_mod_cast (by linarith : x ≤ -x)), zero, ← EReal.coe_sub, hl, ← EReal.coe_sub, EReal.coe_eq_coe_iff]
    have : 1 + Real.exp (-x) = Real.exp (-x) * (1 + Real.exp (0 - -x)) := by
      rw [mul_add, mul_one, ← Real.exp_add]
      simp [add_comm]
    rw [this, Real.log_mul (Real.exp_pos _).ne' (hpos _).ne', Real.log_exp]
    ring

/-- So it is at plus infinity, where it is zero. -/
theorem logSigm_above {z : EReal} (h : z ≠ ⊥) : (∃ y : ℝ, logSigm z = y) ∧
    min z 0 - Ideal.log (1 + Ideal.exp (0 - max z (-z))) = logSigm z := by
  induction z using EReal.rec with
  | bot => exact absurd rfl h
  | coe x => exact logSigm_real x
  | top =>
    have one : (1 : EReal) = ((1 : ℝ) : EReal) := by norm_cast
    have e : Ideal.log (1 + Ideal.exp (⊥ : EReal)) = 0 := by
      rw [Ideal.exp_bot, add_zero, one, Ideal.log_coe, if_neg (by norm_num), Real.log_one, EReal.coe_zero]
    refine ⟨⟨0, by rw [logSigm, EReal.neg_top, e, neg_zero, EReal.coe_zero]⟩, ?_⟩
    rw [logSigm, EReal.neg_top, max_eq_left bot_le, min_eq_right le_top, zero_sub, zero_sub, EReal.neg_top]

/-- A sum of reals is a real. -/
theorem coe_sum {ι : Type} (s : Finset ι) (f : ι → ℝ) : ∑ k ∈ s, (f k : EReal) = ((∑ k ∈ s, f k : ℝ) : EReal) := by
  classical
  induction s using Finset.induction_on with
  | empty => simp
  | insert a t ha ih => rw [Finset.sum_insert ha, Finset.sum_insert ha, ih, EReal.coe_add]

/-- The sum of the entries that satisfy `p`. -/
def sumOver (l : Fin 256 → EReal) (p : Fin 256 → Prop) [DecidablePred p] : EReal := ∑ s, l s * (if p s then 1 else 0)

theorem sumOver_real (l : Fin 256 → ℝ) (p : Fin 256 → Prop) [DecidablePred p] :
    sumOver (fun s => (l s : EReal)) p = ((∑ s, l s * (if p s then 1 else 0) : ℝ) : EReal) := by
  rw [sumOver, ← coe_sum]
  refine Finset.sum_congr rfl fun s _ => ?_
  split_ifs <;> simp

/-- The whole sum less a running sum is the sum over what comes later. -/
theorem later (l : Fin 256 → ℝ) (t : Fin 256) :
    sumOver (fun s => (l s : EReal)) (fun s => s.val ≤ 255) - sumOver (fun s => (l s : EReal)) (fun s => s.val ≤ t.val) =
      sumOver (fun s => (l s : EReal)) (fun s => t.val < s.val) := by
  rw [sumOver_real, sumOver_real, sumOver_real, ← EReal.coe_sub, EReal.coe_eq_coe_iff, ← Finset.sum_sub_distrib]
  refine Finset.sum_congr rfl fun s _ => ?_
  have := s.isLt
  rw [if_pos (by omega)]
  by_cases h : s.val ≤ t.val
  · rw [if_pos h, if_neg (by omega)]; ring
  · rw [if_neg h, if_pos (by omega)]; ring

/-- A running sum less its last entry is the sum over what comes earlier. -/
theorem earlier (l : Fin 256 → ℝ) (t : Fin 256) :
    sumOver (fun s => (l s : EReal)) (fun s => s.val ≤ t.val) - (l t : EReal) = sumOver (fun s => (l s : EReal)) (fun s => s.val < t.val) := by
  rw [sumOver_real, sumOver_real, ← EReal.coe_sub, EReal.coe_eq_coe_iff, sub_eq_iff_eq_add]
  have : l t = ∑ s, l s * (if s = t then 1 else 0) := by simp
  rw [this, ← Finset.sum_add_distrib]
  refine Finset.sum_congr rfl fun s _ => ?_
  have hs : s = t ↔ s.val = t.val := Fin.ext_iff
  rcases lt_trichotomy s.val t.val with h | h | h
  · rw [if_pos (by omega), if_pos h, if_neg (by omega)]; ring
  · rw [if_pos (by omega), if_neg (by omega), if_pos (by omega)]; ring
  · rw [if_neg (by omega), if_neg (by omega), if_neg (by omega)]; ring

/-- The sum of all entries. -/
theorem whole (l : Fin 256 → EReal) : sumOver l (fun s => s.val ≤ 255) = ∑ s, l s := by
  refine Finset.sum_congr rfl fun s _ => ?_
  have := s.isLt
  rw [if_pos (by omega), mul_one]

/-- The greatest of a row's entries. -/
def greatest (f : Fin 256 → EReal) : EReal := Finset.univ.fold max (Ideal.ofBits .f32 0xFF800000#32) f

/-- How a token reaches the state: its input gate, plus the forget gates between. -/
def reach (i : Fin 256 → EReal) (l : Fin 256 → EReal) (forward : Prop) [Decidable forward] (t : Fin 256) : EReal :=
  i t + (if forward then sumOver l (fun s => t.val < s.val) else sumOver l (fun s => s.val < t.val))

/-- The state's logarithmic scale. -/
def scale (i l : Fin 256 → EReal) (forward : Prop) [Decidable forward] : EReal := max (∑ s, l s) (greatest (reach i l forward))

/-- A token's weight in the state. -/
def weight (i l : Fin 256 → EReal) (forward : Prop) [Decidable forward] (t : Fin 256) : EReal := Ideal.exp (reach i l forward t - scale i l forward)

/-- A column of the augmented values: one, fifteen zeros, a head's values. -/
def column (v : Fin 128 → EReal) (r : Fin 144) : EReal := if r.val = 0 then 1 else if h : r.val < 16 then 0 else v ⟨r.val - 16, by omega⟩
end DitRows
end
-- ==== Proof.ContextState.lean ====
module

public import proofs.«01_k».proof.Proof.StateMath
public import proofs.«01_k».proof.Proof.Gen.CxKIdeal
public import proofs.«01_k».proof.Proof.Gen.CxKIdeal.Frame
public import proofs.«01_k».proof.Proof.Gen.CxKIdeal.Value
public import Idealize.ShloMosaic.Lib.Pipeline.ValueKit
public import Idealize.ShloMosaic.Lib.StableHlo.Run
public import Idealize.ShloMosaic.Lib.Claim
public import Idealize.ShloMosaic.Lib.ValueLayout
public import Idealize.ShloMosaic.Lib.WordCmp
public import proofs.«01_k».proof.Pre_gates_above_minus_infinity

/- One step of the mLSTM's starting-state kernel, read at one element: the gates' running sums, the scales, the weights, the states. -/

@[expose] public section

set_option maxRecDepth 16384

noncomputable section
open Idealize.ShloMosaic Idealize.ShloMosaic.TcCoe Idealize.SL.Sem
open scoped BigOperators
open Idealize.ShloMosaic.WordCmp

namespace Cert.CxKIdeal.State
open Cert.CxKIdeal Cert.CxKIdeal.Gen DitRows

/-- A token's row in the block of four batch rows. -/
def tok (b : Fin 4) (t : Fin 256) : Fin 1024 := ⟨b.val * 256 + t.val, by omega⟩

section Rows
variable (x : FVec Ideal S4x256x1024 .f32) (n sh sc : FVec Ideal S1x1024 .f32)

theorem norm_at (b : Fin 4) (t : Fin 256) (d : Fin 1024) : k0_pay2 (F := Ideal) x n sh sc (ix2 (tok b t) d) =
    modulated (fun k => x (ix3 b t k)) (fun k => n (ix2 0 k)) (fun k => sc (ix2 0 k)) (fun k => sh (ix2 0 k)) d := by
  have h1 : (tok b t).val / 256 = b.val := by unfold tok; dsimp only; omega
  have h2 : (tok b t).val % 256 = t.val := by unfold tok; dsimp only; omega
  pointwise [k0_pay2, modulated, invRms, eps, width, mul_assoc, h1, h2]

theorem key_at (w : FVec Ideal S1024x512 .bf16) (bias : FVec Ideal S1x512 .f32) (p : Fin 1024) (q : Fin 512) :
    k0_pay3 (F := Ideal) x n sh sc w bias (ix2 p q) = (∑ d, k0_pay2 (F := Ideal) x n sh sc (ix2 p d) * w (ix2 d q)) + bias (ix2 0 q) := by
  unfold k0_pay3
  generalize k0_pay2 (F := Ideal) x n sh sc = H
  pointwise []

theorem value_at (w : FVec Ideal S1024x1024 .bf16) (bias : FVec Ideal S1024x1 .f32) (q p : Fin 1024) :
    k0_pay4 (F := Ideal) x n sh sc w bias (ix2 q p) = (∑ d, w (ix2 q d) * k0_pay2 (F := Ideal) x n sh sc (ix2 p d)) + bias (ix2 q 0) := by
  unfold k0_pay4
  generalize k0_pay2 (F := Ideal) x n sh sc = H
  pointwise []

theorem gate_at (h : FVec Ideal S1024x1024 .bf16) (w : FVec Ideal S32x1024 .bf16) (bias : FVec Ideal S32x1 .f32) (q : Fin 32) (p : Fin 1024) :
    k0_pay5 (F := Ideal) h w bias (ix2 q p) = (∑ d, w (ix2 q d) * h (ix2 p d)) + bias (ix2 q 0) := by
  pointwise [k0_pay5]
end Rows

/-- The mask of a running sum. -/
theorem mask_at (s t : Fin 256) : k0_pay12 (F := Ideal) (ix2 s t) = if s.val ≤ t.val then 1 else 0 := by
  pointwise [k0_pay12]
  rw [cmpi_sle_ofNat (by omega) (by omega), select_decide]

theorem forward_at (r : Fin 32) : k0_pay6 (ix2 r 0) = if r.val % 8 < 6 then 1#1 else 0#1 := by
  revert r
  decide +kernel

theorem ones_at (r : Fin 16) (t : Fin 256) : k0_pay7 (F := Ideal) (ix2 r t) = if r.val = 0 then 1 else 0 := by
  pointwise [k0_pay7]
  rw [show (0#32) = BitVec.ofNat 32 0 from rfl, cmpi_eq_ofNat (by omega) (by omega), select_decide]

section Gates
variable (g : FVec Ideal S32x256 .f32)

/-- The logarithms of the logistic function, as the kernel forms them. -/
def lfOf : FVec Ideal S32x256 .f32 :=
  subf (minimumf g (broadcast S32x256 (Scalar.ofBits .f32 0x00000000#32)))
    (log (addf (broadcast S32x256 (Scalar.ofBits .f32 0x3F800000#32)) (exp (subf (broadcast S32x256 (Scalar.ofBits .f32 0x00000000#32)) (absf g)))))

/-- The cast of an array, the cast of the remainder, and the cast of the remainder of that. -/
def part0 (l : FVec Ideal S32x256 .f32) : FVec Ideal S32x256 .bf16 := truncf .bf16 l bitsLt_bf16_f32
def rest0 (l : FVec Ideal S32x256 .f32) : FVec Ideal S32x256 .f32 := subf l (extf .f32 (part0 l) bitsLt_bf16_f32)
def part1 (l : FVec Ideal S32x256 .f32) : FVec Ideal S32x256 .bf16 := truncf .bf16 (rest0 l) bitsLt_bf16_f32
def part2 (l : FVec Ideal S32x256 .f32) : FVec Ideal S32x256 .bf16 := truncf .bf16 (subf (rest0 l) (extf .f32 (part1 l) bitsLt_bf16_f32)) bitsLt_bf16_f32

def zero : FVec Ideal S32x256 .f32 := constant S32x256 .f32 0x00000000#32
def cumOf : FVec Ideal S32x256 .f32 := k0_pay17 k0_pay12 (part0 (lfOf g)) (part1 (lfOf g)) (part2 (lfOf g)) zero
def reachOf : FVec Ideal S32x256 .f32 := k0_pay19 k0_pay6 g (lfOf g) k0_pay12 (part0 (lfOf g)) (part1 (lfOf g)) (part2 (lfOf g)) zero
def maxOf : FVec Ideal S32x1 .f32 := k0_pay20 k0_pay6 g (lfOf g) k0_pay12 (part0 (lfOf g)) (part1 (lfOf g)) (part2 (lfOf g)) zero
def weightOf : FVec Ideal S32x256 .f32 := k0_pay22 k0_pay6 g (lfOf g) k0_pay12 (part0 (lfOf g)) (part1 (lfOf g)) (part2 (lfOf g)) zero

theorem lf_at (r : Fin 32) (t : Fin 256) : lfOf g (ix2 r t) = min (g (ix2 r t)) 0 - Ideal.log (1 + Ideal.exp (0 - max (g (ix2 r t)) (-g (ix2 r t)))) := by
  pointwise [lfOf]
  rfl

theorem cum_at (r : Fin 32) (t : Fin 256) : cumOf g (ix2 r t) = (∑ s, lfOf g (ix2 r s) * (if s.val ≤ t.val then 1 else 0)) +
    (∑ s, (lfOf g (ix2 r s) - lfOf g (ix2 r s)) * (if s.val ≤ t.val then 1 else 0)) +
    (∑ s, ((lfOf g (ix2 r s) - lfOf g (ix2 r s)) - (lfOf g (ix2 r s) - lfOf g (ix2 r s))) * (if s.val ≤ t.val then 1 else 0)) := by
  unfold cumOf part2 part1 rest0 part0
  have e := mask_at
  generalize lfOf g = L
  generalize k0_pay12 (F := Ideal) = M at e ⊢
  simp only [← e]
  pointwise [k0_pay17, zero]

theorem reach_at (r : Fin 32) (t : Fin 256) : reachOf g (ix2 r t) = g (ix2 ⟨(r.val + 32 - 4) % 32, by omega⟩ t) +
    (if r.val % 8 < 6 then cumOf g (ix2 r 255) - cumOf g (ix2 r t) else cumOf g (ix2 r t) - lfOf g (ix2 r t)) := by
  have e := forward_at r
  unfold reachOf k0_pay19 k0_pay18
  show _ = g _ + (if r.val % 8 < 6 then cumOf g (ix2 r 255) - cumOf g (ix2 r t) else cumOf g (ix2 r t) - lfOf g (ix2 r t))
  rw [show k0_pay17 (F := Ideal) k0_pay12 (part0 (lfOf g)) (part1 (lfOf g)) (part2 (lfOf g)) zero = cumOf g from rfl]
  generalize cumOf g = C
  generalize lfOf g = L
  generalize k0_pay6 = M at e ⊢
  pointwise [e]
  split_ifs <;> rfl

theorem max_at (r : Fin 32) : maxOf g (ix2 r 0) = max (cumOf g (ix2 r 255)) (greatest fun t => reachOf g (ix2 r t)) := by
  unfold maxOf k0_pay20 k0_pay18
  rw [show k0_pay17 (F := Ideal) k0_pay12 (part0 (lfOf g)) (part1 (lfOf g)) (part2 (lfOf g)) zero = cumOf g from rfl,
    show k0_pay19 (F := Ideal) k0_pay6 g (lfOf g) k0_pay12 (part0 (lfOf g)) (part1 (lfOf g)) (part2 (lfOf g)) zero = reachOf g from rfl]
  generalize cumOf g = C
  generalize reachOf g = R
  pointwise [multiReduction_maximumf_eq_fold, greatest]

theorem weight_at (r : Fin 32) (t : Fin 256) : weightOf g (ix2 r t) = Ideal.exp (reachOf g (ix2 r t) - maxOf g (ix2 r 0)) := by
  unfold weightOf k0_pay22
  rw [show k0_pay20 (F := Ideal) k0_pay6 g (lfOf g) k0_pay12 (part0 (lfOf g)) (part1 (lfOf g)) (part2 (lfOf g)) zero = maxOf g from rfl,
    show k0_pay19 (F := Ideal) k0_pay6 g (lfOf g) k0_pay12 (part0 (lfOf g)) (part1 (lfOf g)) (part2 (lfOf g)) zero = reachOf g from rfl]
  generalize maxOf g = M
  generalize reachOf g = R
  pointwise []

/-- A row of gates above minus infinity: the running sum is one sum. -/
theorem cum_above (r : Fin 32) (hr : ∀ t, g (ix2 r t) ≠ ⊥) : ∃ l : Fin 256 → ℝ, (∀ t, lfOf g (ix2 r t) = l t) ∧ (∀ t, logSigm (g (ix2 r t)) = l t) ∧
    ∀ t : Fin 256, cumOf g (ix2 r t) = sumOver (fun s => (l s : EReal)) (fun s => s.val ≤ t.val) := by
  choose l hl using fun t => (logSigm_above (hr t)).1
  have h1 : ∀ t, lfOf g (ix2 r t) = l t := fun t => by rw [lf_at, (logSigm_above (hr t)).2, hl]
  refine ⟨l, h1, hl, fun t => ?_⟩
  have hz : ∀ s, (l s : EReal) - (l s : EReal) = 0 := fun s => by rw [← EReal.coe_sub, sub_self, EReal.coe_zero]
  rw [cum_at]
  simp only [h1, hz, sub_zero, zero_mul, Finset.sum_const_zero, add_zero]
  rfl

theorem rows_above (r : Fin 32) (hr : ∀ t, g (ix2 r t) ≠ ⊥) :
    maxOf g (ix2 r 0) = scale (fun t => g (ix2 ⟨(r.val + 32 - 4) % 32, by omega⟩ t)) (fun t => logSigm (g (ix2 r t))) (r.val % 8 < 6) ∧
    ∀ t, weightOf g (ix2 r t) = weight (fun t => g (ix2 ⟨(r.val + 32 - 4) % 32, by omega⟩ t)) (fun t => logSigm (g (ix2 r t))) (r.val % 8 < 6) t := by
  obtain ⟨l, h1, h2, h3⟩ := cum_above g r hr
  have h4 : ∀ t, reachOf g (ix2 r t) = reach (fun t => g (ix2 ⟨(r.val + 32 - 4) % 32, by omega⟩ t)) (fun t => (l t : EReal)) (r.val % 8 < 6) t := by
    intro t
    rw [reach_at, reach, h3, h3, h1, ← later, ← earlier]
    rfl
  have h5 : maxOf g (ix2 r 0) = scale (fun t => g (ix2 ⟨(r.val + 32 - 4) % 32, by omega⟩ t)) (fun t => (l t : EReal)) (r.val % 8 < 6) := by
    rw [max_at, h3, scale, ← whole]
    simp only [h4]
    rfl
  simp only [h2]
  exact ⟨h5, fun t => by rw [weight_at, h5, h4, weight]⟩
end Gates

section Pieces
theorem gate_cols (b : Fin 4) : S32x1024.Slices ![0, 256 * b.val] S32x256 := by revert b; decide
theorem value_cols (b : Fin 4) : S1024x1024.Slices ![0, 256 * b.val] S1024x256 := by revert b; decide
theorem key_rows (b : Fin 4) : S1024x512.Slices ![256 * b.val, 0] S256x512 := by revert b; decide
theorem weight_row (d : Fin 2) (q : Fin 4) (j : Fin 2) : S32x256.Slices ![8 * q.val + 4 + 2 * d.val + j.val, 0] S1x256 := by revert d q j; decide
theorem value_rows (q : Fin 4) (j : Fin 2) : S1024x256.Slices ![128 * (2 * q.val + j.val), 0] S128x256 := by revert q j; decide
theorem key_lanes (q : Fin 4) : S256x512.Slices ![0, 128 * q.val] S256x128 := by revert q; decide

def gatesOf (G : FVec Ideal S32x1024 .f32) (b : Fin 4) : FVec Ideal S32x256 .f32 := extractStridedSlice S32x256 ![0, 256 * b.val] G (gate_cols b)
def valuesOf (V : FVec Ideal S1024x1024 .bf16) (b : Fin 4) : FVec Ideal S1024x256 .bf16 := extractStridedSlice S1024x256 ![0, 256 * b.val] V (value_cols b)
def keysOf (K : FVec Ideal S1024x512 .bf16) (b : Fin 4) : FVec Ideal S256x512 .bf16 := extractStridedSlice S256x512 ![256 * b.val, 0] K (key_rows b)

/-- A head's values under a row of ones. -/
def augmented (V : FVec Ideal S1024x256 .bf16) (q : Fin 4) (j : Fin 2) : FVec Ideal S144x256 .f32 :=
  concatenate S144x256 0 [⟨S16x256, k0_pay7⟩, ⟨S128x256, extf .f32 (extractStridedSlice S128x256 ![128 * (2 * q.val + j.val), 0] V (value_rows q j)) bitsLt_bf16_f32⟩] concatenates_S16x256_S128x256_S144x256_d0

/-- The same, each token times its weight. -/
def weighted (W : FVec Ideal S32x256 .f32) (A : FVec Ideal S144x256 .f32) (d : Fin 2) (q : Fin 4) (j : Fin 2) : FVec Ideal S144x256 .bf16 :=
  truncf .bf16 (mulf A (broadcastTo S144x256 (extractStridedSlice S1x256 ![8 * q.val + 4 + 2 * d.val + j.val, 0] W (weight_row d q j)) broadcasts_S1x256_S144x256)) bitsLt_bf16_f32

/-- A pair of heads' keys, one under the other, each in its own lanes. -/
def diagonal (K : FVec Ideal S256x512 .bf16) (q : Fin 4) : FVec Ideal S512x128 .bf16 :=
  concatenate S512x128 0
    [⟨S256x128, select (cmpi .slt (iota .tc S256x128 32 [1] iota_S256x128_d1_w32) (broadcast S256x128 64#32))
      (extractStridedSlice S256x128 ![0, 128 * q.val] K (key_lanes q)) (broadcast S256x128 (Scalar.ofBits .bf16 0x0000#16))⟩,
     ⟨S256x128, select (cmpi .sge (iota .tc S256x128 32 [1] iota_S256x128_d1_w32) (broadcast S256x128 64#32))
      (extractStridedSlice S256x128 ![0, 128 * q.val] K (key_lanes q)) (broadcast S256x128 (Scalar.ofBits .bf16 0x0000#16))⟩]
    concatenates_S256x128_S256x128_S512x128_d0

/-- A pair of heads' state. -/
def stateOf (W : FVec Ideal S32x256 .f32) (V : FVec Ideal S1024x256 .bf16) (K : FVec Ideal S256x512 .bf16) (d : Fin 2) (q : Fin 4) : FVec Ideal S144x128 .f32 :=
  matmul dot_S144x512_S512x128_S144x128_1_0_0_1_n_n none
    (concatenate S144x512 1 [⟨S144x256, weighted W (augmented V q 0) d q 0⟩, ⟨S144x256, weighted W (augmented V q 1) d q 1⟩] concatenates_S144x256_S144x256_S144x512_d1)
    (diagonal K q) (constant S144x128 .f32 0x00000000#32)

variable (W : FVec Ideal S32x256 .f32) (V : FVec Ideal S1024x256 .bf16) (K : FVec Ideal S256x512 .bf16) (d : Fin 2) (q : Fin 4)

theorem augmented_at (j : Fin 2) (r : Fin 144) (t : Fin 256) :
    augmented V q j (ix2 r t) = column (fun e => V (ix2 ⟨128 * (2 * q.val + j.val) + e.val, by omega⟩ t)) r := by
  have e := ones_at
  unfold augmented column
  generalize k0_pay7 (F := Ideal) = O at e ⊢
  pointwise [e]
  by_cases h0 : r.val = 0
  · rw [if_pos h0, dif_pos (by omega), if_pos h0]
  · simp only [if_neg h0]

theorem weighted_at (A : FVec Ideal S144x256 .f32) (j : Fin 2) (r : Fin 144) (t : Fin 256) :
    weighted W A d q j (ix2 r t) = A (ix2 r t) * W (ix2 ⟨8 * q.val + 4 + 2 * d.val + j.val, by omega⟩ t) := by
  pointwise [weighted]

theorem diagonal_low (t : Fin 256) (c : Fin 128) :
    diagonal K q (ix2 (Fin.castAdd 256 t) c) = if c.val < 64 then K (ix2 t ⟨128 * q.val + c.val, by omega⟩) else 0 := by
  pointwise [diagonal]
  refine (dif_pos (show (Fin.castAdd 256 t).val < 256 from t.isLt)).trans ?_
  rw [show (64#32) = BitVec.ofNat 32 64 from rfl, cmpi_slt_ofNat (by omega) (by omega), select_decide]
  rfl

theorem diagonal_high (t : Fin 256) (c : Fin 128) :
    diagonal K q (ix2 (Fin.natAdd 256 t) c) = if 64 ≤ c.val then K (ix2 t ⟨128 * q.val + c.val, by omega⟩) else 0 := by
  pointwise [diagonal]
  have h : (Fin.natAdd 256 t).val - 256 = t.val := by simp
  rw [dif_neg (by simp), show (64#32) = BitVec.ofNat 32 64 from rfl, cmpi_sge_ofNat (by omega) (by omega), select_decide]
  simp only [h]

theorem pair_low (A B : FVec Ideal S144x256 .bf16) (r : Fin 144) (t : Fin 256) :
    concatenate S144x512 1 [⟨S144x256, A⟩, ⟨S144x256, B⟩] concatenates_S144x256_S144x256_S144x512_d1 (ix2 r (Fin.castAdd 256 t)) = A (ix2 r t) := by
  pointwise []
  exact dif_pos t.isLt

theorem pair_high (A B : FVec Ideal S144x256 .bf16) (r : Fin 144) (t : Fin 256) :
    concatenate S144x512 1 [⟨S144x256, A⟩, ⟨S144x256, B⟩] concatenates_S144x256_S144x256_S144x512_d1 (ix2 r (Fin.natAdd 256 t)) = B (ix2 r t) := by
  pointwise []
  have h : (Fin.natAdd 256 t).val - 256 = t.val := by simp
  rw [dif_neg (by simp)]
  simp only [h]

theorem state_at (r : Fin 144) (c : Fin 128) : stateOf W V K d q (ix2 r c) =
    ∑ t, column (fun e => V (ix2 ⟨128 * (2 * q.val + c.val / 64) + e.val, by omega⟩ t)) r *
      W (ix2 ⟨8 * q.val + 4 + 2 * d.val + c.val / 64, by omega⟩ t) * K (ix2 t ⟨128 * q.val + c.val, by omega⟩) := by
  have h : ∀ (A : FVec Ideal S144x512 .bf16) (B : FVec Ideal S512x128 .bf16),
      matmul dot_S144x512_S512x128_S144x128_1_0_0_1_n_n none A B (constant (F := Ideal) S144x128 .f32 0x00000000#32) (ix2 r c) = ∑ k : Fin (256 + 256), A (ix2 r k) * B (ix2 k c) := by
    intro A B
    pointwise []
  rw [stateOf, h, Fin.sum_univ_add]
  simp only [pair_low, pair_high, diagonal_low, diagonal_high, weighted_at, augmented_at]
  by_cases hc : c.val < 64
  · simp only [if_pos hc, if_neg (not_le.2 hc), mul_zero, Finset.sum_const_zero, add_zero, Nat.div_eq_of_lt hc]
    rfl
  · have h1 : c.val / 64 = 1 := by omega
    simp only [if_neg hc, if_pos (not_lt.1 hc), mul_zero, Finset.sum_const_zero, zero_add, h1]
    rfl
end Pieces

section Block
variable (G : FVec Ideal S32x1024 .f32) (V : FVec Ideal S1024x1024 .bf16) (K : FVec Ideal S1024x512 .bf16)

/-- The states of four batch rows. -/
def stateBlock (y : S4x2x4x144x128.Idx) : EReal :=
  stateOf (weightOf (gatesOf G (y 0))) (valuesOf V (y 0)) (keysOf K (y 0)) (y 1) (y 2) (ix2 (y 3) (y 4))

/-- The scales of four batch rows. -/
def maxBlock (y : S4x32x1.Idx) : EReal := maxOf (gatesOf G (y 0)) (ix2 (y 1) 0)

theorem stateBlock_eq (b : Fin 4) (d : Fin 2) (q : Fin 4) (r : Fin 144) (c : Fin 128) (y : S4x2x4x144x128.Idx)
    (h0 : y 0 = b) (h1 : y 1 = d) (h2 : y 2 = q) (h3 : y 3 = r) (h4 : y 4 = c) :
    stateBlock G V K y = stateOf (weightOf (gatesOf G b)) (valuesOf V b) (keysOf K b) d q (ix2 r c) := by
  subst h0 h1 h2 h3 h4
  rfl

theorem maxBlock_eq (b : Fin 4) (r : Fin 32) (y : S4x32x1.Idx) (h0 : y 0 = b) (h1 : y 1 = r) : maxBlock G y = maxOf (gatesOf G b) (ix2 r 0) := by
  subst h0 h1
  rfl

theorem state_piece (b : Fin 4) (d : Fin 2) (q : Fin 4) (p : FVec Ideal S1x1x1x144x128 .f32)
    (hp : p = shapeCast S1x1x1x144x128 (stateOf (weightOf (gatesOf G b)) (valuesOf V b) (keysOf K b) d q) shapeCasts_S144x128_S1x1x1x144x128)
    (h : ∀ a : Fin S4x2x4x144x128.rank, (![b.val, d.val, q.val, 0, 0] : Fin 5 → Nat) a + S1x1x1x144x128.size a ≤ S4x2x4x144x128.size a)
    (x : S1x1x1x144x128.Idx) :
    p x = stateBlock G V K ((Rect.unit (s := S4x2x4x144x128) ![b.val, d.val, q.val, 0, 0] S1x1x1x144x128.size h).emb x) := by
  have hx : x = ix5 (0 : Fin 1) (0 : Fin 1) (0 : Fin 1) (x 3) (x 4) := by blk_ext
  have h0 : (x 0).val = 0 := by have : (x 0).val < 1 := (x 0).isLt; omega
  have h1 : (x 1).val = 0 := by have : (x 1).val < 1 := (x 1).isLt; omega
  have h2 : (x 2).val = 0 := by have : (x 2).val < 1 := (x 2).isLt; omega
  rw [stateBlock_eq G V K b d q (x 3) (x 4) _ (Fin.ext (by show b.val + 1 * (x 0).val = _; omega)) (Fin.ext (by show d.val + 1 * (x 1).val = _; omega))
    (Fin.ext (by show q.val + 1 * (x 2).val = _; omega)) (Fin.ext (by show 0 + 1 * (x 3).val = _; omega)) (Fin.ext (by show 0 + 1 * (x 4).val = _; omega)), hp]
  generalize stateOf _ _ _ d q = M
  rw [hx]
  pointwise []

theorem max_piece (b : Fin 4) (p : FVec Ideal S1x32x1 .f32) (hp : p = shapeCast S1x32x1 (maxOf (gatesOf G b)) shapeCasts_S32x1_S1x32x1)
    (h : ∀ a : Fin S4x32x1.rank, (![b.val, 0, 0] : Fin 3 → Nat) a + S1x32x1.size a ≤ S4x32x1.size a) (x : S1x32x1.Idx) :
    p x = maxBlock G ((Rect.unit (s := S4x32x1) ![b.val, 0, 0] S1x32x1.size h).emb x) := by
  have hx : x = ix3 (0 : Fin 1) (x 1) (0 : Fin 1) := by blk_ext
  have h0 : (x 0).val = 0 := by have : (x 0).val < 1 := (x 0).isLt; omega
  rw [maxBlock_eq G b (x 1) _ (Fin.ext (by show b.val + 1 * (x 0).val = _; omega)) (Fin.ext (by show 0 + 1 * (x 1).val = _; omega)), hp]
  generalize maxOf (gatesOf G b) = M
  rw [hx]
  pointwise []
end Block

end Cert.CxKIdeal.State
end
-- ==== Proof.ContextOut.lean ====
module

public import proofs.«01_k».proof.Proof.ContextState
public import proofs.«01_k».proof.Proof.Gen.CxKIdeal
public import proofs.«01_k».proof.Proof.Gen.CxKIdeal.Frame
public import proofs.«01_k».proof.Proof.Gen.CxKIdeal.Value
public import Idealize.ShloMosaic.Lib.Pipeline.ValueKit
public import Idealize.ShloMosaic.Lib.StableHlo.Run
public import Idealize.ShloMosaic.Lib.Claim
public import Idealize.ShloMosaic.Lib.ValueLayout
public import Idealize.ShloMosaic.Lib.WordCmp
public import proofs.«01_k».proof.Pre_gates_above_minus_infinity

/- What a step of the starting-state kernel stores: the states piece by piece, and the scales. -/

@[expose] public section

set_option maxRecDepth 16384

noncomputable section
open Idealize.ShloMosaic Idealize.ShloMosaic.TcCoe Idealize.SL.Sem
open scoped BigOperators
open Idealize.ShloMosaic.WordCmp

namespace Cert.CxKIdeal.State
open Cert.CxKIdeal Cert.CxKIdeal.Gen DitRows

section Out
variable (x0 : FVec Ideal S4x256x1024 .f32) (x1 : FVec Ideal S17x6144 .f32) (x2 : FVec Ideal S1x1024 .f32) (x3 : FVec Ideal S1024x512 .bf16) (x4 : FVec Ideal S1x512 .f32)
  (x5 : FVec Ideal S1024x1024 .bf16) (x6 : FVec Ideal S1024x1 .f32) (x7 : FVec Ideal S32x1024 .bf16) (x8 : FVec Ideal S32x1 .f32)

theorem out10 (y : S4x32x1.Idx) : out0_10 (F := Ideal) x0 x1 x2 x3 x4 x5 x6 x7 x8 y = maxBlock (k0_pay162 (F := Ideal) x0 x1 x2 x3 x4 x5 x6 x7 x8) y := by
  unfold out0_10
  refine View.canon_apply_of_pieces (Val := Elt Ideal) _ _ ?_ y (cover0_10 _ _ _ _ y)
  simp only [List.forall_mem_cons]
  exact ⟨max_piece _ 3 _ rfl _, max_piece _ 2 _ rfl _, max_piece _ 1 _ rfl _, max_piece _ 0 _ rfl _, by simp⟩

theorem state_piece_of (W : FVec Ideal S32x256 .f32) (V : FVec Ideal S1024x256 .bf16) (K : FVec Ideal S256x512 .bf16) (b : Fin 4)
    (hW : W = weightOf (gatesOf (k0_pay162 (F := Ideal) x0 x1 x2 x3 x4 x5 x6 x7 x8) b)) (hV : V = valuesOf (k0_pay159 (F := Ideal) x0 x1 x2 x3 x4 x5 x6 x7 x8) b)
    (hK : K = keysOf (k0_pay158 (F := Ideal) x0 x1 x2 x3 x4 x5 x6 x7 x8) b) (d : Fin 2) (q : Fin 4) (p : FVec Ideal S1x1x1x144x128 .f32)
    (hp : p = shapeCast S1x1x1x144x128 (stateOf W V K d q) shapeCasts_S144x128_S1x1x1x144x128)
    (h : ∀ a : Fin S4x2x4x144x128.rank, (![b.val, d.val, q.val, 0, 0] : Fin 5 → Nat) a + S1x1x1x144x128.size a ≤ S4x2x4x144x128.size a)
    (x : S1x1x1x144x128.Idx) :
    p x = stateBlock (k0_pay162 (F := Ideal) x0 x1 x2 x3 x4 x5 x6 x7 x8) (k0_pay159 (F := Ideal) x0 x1 x2 x3 x4 x5 x6 x7 x8) (k0_pay158 (F := Ideal) x0 x1 x2 x3 x4 x5 x6 x7 x8)
      ((Rect.unit (s := S4x2x4x144x128) ![b.val, d.val, q.val, 0, 0] S1x1x1x144x128.size h).emb x) :=
  state_piece _ _ _ b d q p (by rw [hp, hW, hV, hK]) h x

set_option maxHeartbeats 2000000 in
theorem out9 (y : S4x2x4x144x128.Idx) : out0_9 (F := Ideal) x0 x1 x2 x3 x4 x5 x6 x7 x8 y =
    stateBlock (k0_pay162 (F := Ideal) x0 x1 x2 x3 x4 x5 x6 x7 x8) (k0_pay159 (F := Ideal) x0 x1 x2 x3 x4 x5 x6 x7 x8) (k0_pay158 (F := Ideal) x0 x1 x2 x3 x4 x5 x6 x7 x8) y := by
  have h3 := state_piece_of x0 x1 x2 x3 x4 x5 x6 x7 x8 (k0_pay195 (F := Ideal) x0 x1 x2 x3 x4 x5 x6 x7 x8) (k0_pay188 (F := Ideal) x0 x1 x2 x3 x4 x5 x6 x7 x8) (k0_pay189 (F := Ideal) x0 x1 x2 x3 x4 x5 x6 x7 x8) 3 rfl rfl rfl
  have h2 := state_piece_of x0 x1 x2 x3 x4 x5 x6 x7 x8 (k0_pay187 (F := Ideal) x0 x1 x2 x3 x4 x5 x6 x7 x8) (k0_pay183 (F := Ideal) x0 x1 x2 x3 x4 x5 x6 x7 x8) (k0_pay184 (F := Ideal) x0 x1 x2 x3 x4 x5 x6 x7 x8) 2 rfl rfl rfl
  have h1 := state_piece_of x0 x1 x2 x3 x4 x5 x6 x7 x8 (k0_pay181 (F := Ideal) x0 x1 x2 x3 x4 x5 x6 x7 x8) (k0_pay175 (F := Ideal) x0 x1 x2 x3 x4 x5 x6 x7 x8) (k0_pay176 (F := Ideal) x0 x1 x2 x3 x4 x5 x6 x7 x8) 1 rfl rfl rfl
  have h0 := state_piece_of x0 x1 x2 x3 x4 x5 x6 x7 x8 (k0_pay173 (F := Ideal) x0 x1 x2 x3 x4 x5 x6 x7 x8) (k0_pay166 (F := Ideal) x0 x1 x2 x3 x4 x5 x6 x7 x8) (k0_pay167 (F := Ideal) x0 x1 x2 x3 x4 x5 x6 x7 x8) 0 rfl rfl rfl
  unfold out0_9
  refine View.canon_apply_of_pieces (Val := Elt Ideal) _ _ ?_ y (cover0_9 _ _ _ _ _ _ _ _ _ _ _ _ _ _ _ _ _ _ _ _ _ _ _ _ _ _ _ _ _ _ _ _ y)
  simp only [List.forall_mem_cons]
  exact ⟨h3 1 3 _ rfl _, h3 0 3 _ rfl _, h3 1 2 _ rfl _, h3 0 2 _ rfl _, h3 1 1 _ rfl _, h3 0 1 _ rfl _, h3 1 0 _ rfl _, h3 0 0 _ rfl _,
    h2 1 3 _ rfl _, h2 0 3 _ rfl _, h2 1 2 _ rfl _, h2 0 2 _ rfl _, h2 1 1 _ rfl _, h2 0 1 _ rfl _, h2 1 0 _ rfl _, h2 0 0 _ rfl _,
    h1 1 3 _ rfl _, h1 0 3 _ rfl _, h1 1 2 _ rfl _, h1 0 2 _ rfl _, h1 1 1 _ rfl _, h1 0 1 _ rfl _, h1 1 0 _ rfl _, h1 0 0 _ rfl _,
    h0 1 3 _ rfl _, h0 0 3 _ rfl _, h0 1 2 _ rfl _, h0 0 2 _ rfl _, h0 1 1 _ rfl _, h0 0 1 _ rfl _, h0 1 0 _ rfl _, h0 0 0 _ rfl _, by simp⟩
end Out
end Cert.CxKIdeal.State
end
-- ==== Proof.ContextRef.lean ====
module

public import proofs.«01_k».proof.Proof.StateMath
public import proofs.«01_k».proof.Proof.Gen.CxRIdeal.Read
public import Idealize.ShloMosaic.Lib.WordCmp

/- The reference of the mLSTM's starting states, read at one element of each of its two results. -/

@[expose] public section

set_option maxRecDepth 16384

noncomputable section
open Idealize.ShloMosaic Idealize.ShloMosaic.TcCoe Idealize.SL.Sem
open scoped BigOperators
open Idealize.ShloMosaic.WordCmp

namespace Cert.CxRIdeal.Rows
open Cert.CxRIdeal Cert.CxRIdeal.Gen Cert.CxRIdeal.Read DitRows

variable (x0 : FVec Ideal S16x256x1024 .f32) (x1 : FVec Ideal S17x6144 .f32) (x2 : FVec Ideal S1024 .f32) (x3 : FVec Ideal S1024x6656 .bf16)
  (x4 : FVec Ideal S1x6656 .f32) (x5 : FVec Ideal S2048x1024 .bf16) (x6 : FVec Ideal S2048x1 .f32) (b : Fin 16)

/-- The modulated norm of a context token. -/
def normed (t : Fin 256) : Fin 1024 → EReal :=
  modulated (fun k => x0 (ix3 b t k)) (fun k => x2 (ix1 k)) (fun k => x1 (ix2 16 ⟨1024 + k.val, by omega⟩)) (fun k => x1 (ix2 16 ⟨k.val, by omega⟩))

/-- A gate of a context token. -/
def gate (r : Fin 32) (t : Fin 256) : EReal := (∑ k, normed x0 x1 x2 b t k * x5 (ix2 ⟨1536 + r.val, by omega⟩ k)) + x6 (ix2 ⟨1536 + r.val, by omega⟩ 0)

def key (t : Fin 256) (q : Fin 512) : EReal := (∑ k, normed x0 x1 x2 b t k * x3 (ix2 k ⟨q.val, by omega⟩)) + x4 (ix2 0 ⟨q.val, by omega⟩)

def value (q : Fin 1024) (t : Fin 256) : EReal := (∑ k, normed x0 x1 x2 b t k * x5 (ix2 ⟨q.val, by omega⟩ k)) + x6 (ix2 ⟨q.val, by omega⟩ 0)

theorem norm_at (t : Fin 256) (j : Fin 1024) : val_main_v24 (F := Ideal) x0 x1 x2 (ix3 b t j) = normed x0 x1 x2 b t j := by
  pointwise [val_main_v24, val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5, val_main_v4, val_main_v3,
    val_main_v2, val_main_v1, val_main_v0, val_main_cst, val_main_cst_0, val_main_cst_1, val_main_cst_2, normed, modulated, invRms, width, eps]

theorem gate_at (t : Fin 256) (r : Fin 32) : val_main_v50 (F := Ideal) x0 x1 x2 x5 x6 (ix3 b t r) = gate x0 x1 x2 x5 x6 b r t := by
  have h := norm_at x0 x1 x2 b
  unfold val_main_v50 val_main_v45
  generalize val_main_v24 (F := Ideal) x0 x1 x2 = H at h ⊢
  pointwise [val_main_v49, val_main_v48, val_main_v47, val_main_v46, val_main_v44, val_main_v43, val_main_v42, h, gate]

theorem key_at (t : Fin 256) (q : Fin 512) : val_main_v32 (F := Ideal) x0 x1 x2 x3 x4 (ix3 b t q) = key x0 x1 x2 x3 x4 b t q := by
  have h := norm_at x0 x1 x2 b
  unfold val_main_v32 val_main_v27
  generalize val_main_v24 (F := Ideal) x0 x1 x2 = H at h ⊢
  pointwise [val_main_v31, val_main_v30, val_main_v29, val_main_v28, val_main_v26, val_main_v25, h, key]

theorem value_at (t : Fin 256) (q : Fin 1024) : val_main_v41 (F := Ideal) x0 x1 x2 x5 x6 (ix3 b t q) = value x0 x1 x2 x5 x6 b q t := by
  have h := norm_at x0 x1 x2 b
  unfold val_main_v41 val_main_v36
  generalize val_main_v24 (F := Ideal) x0 x1 x2 = H at h ⊢
  pointwise [val_main_v40, val_main_v39, val_main_v38, val_main_v37, val_main_v35, val_main_v34, val_main_v33, h, value]

theorem lf_at (t : Fin 256) (r : Fin 32) : val_main_v56 (F := Ideal) x0 x1 x2 x5 x6 (ix3 b t r) = logSigm (gate x0 x1 x2 x5 x6 b r t) := by
  have h := gate_at x0 x1 x2 x5 x6 b
  unfold val_main_v56 val_main_v55 val_main_v54 val_main_v52 val_main_v51
  generalize val_main_v50 (F := Ideal) x0 x1 x2 x5 x6 = H at h ⊢
  pointwise [val_main_v53, val_main_cst_3, h, logSigm]

theorem mask_after (s t : Fin 256) : val_main_v65 (F := Ideal) (ix2 s t) = if t.val < s.val then 1 else 0 := by
  pointwise [val_main_v65, val_main_v64, val_main_v63, val_main_v62, val_main_v60, val_main_v59, val_main_v58, val_main_v57, val_main_call0_v0, val_main_call0_v1, val_main_cst_4, val_main_cst_5]
  rw [cmpi_sgt_ofNat (by omega) (by omega), select_decide]

theorem mask_before (s t : Fin 256) : val_main_v71 (F := Ideal) (ix2 s t) = if s.val < t.val then 1 else 0 := by
  pointwise [val_main_v71, val_main_v70, val_main_v69, val_main_v68, val_main_v60, val_main_v59, val_main_v58, val_main_v57, val_main_call1_v0, val_main_call1_v1, val_main_cst_6, val_main_cst_7]
  rw [cmpi_slt_ofNat (by omega) (by omega), select_decide]

theorem after_at (r : Fin 32) (t : Fin 256) : val_main_v66 (F := Ideal) x0 x1 x2 x5 x6 (ix3 b r t) =
    sumOver (fun s => logSigm (gate x0 x1 x2 x5 x6 b r s)) (fun s => t.val < s.val) := by
  have h := lf_at x0 x1 x2 x5 x6 b
  have e := mask_after
  unfold val_main_v66 val_main_v61
  generalize val_main_v56 (F := Ideal) x0 x1 x2 x5 x6 = H at h ⊢
  generalize val_main_v65 (F := Ideal) = M at e ⊢
  pointwise [h, e, sumOver]

theorem before_at (r : Fin 32) (t : Fin 256) : val_main_v72 (F := Ideal) x0 x1 x2 x5 x6 (ix3 b r t) =
    sumOver (fun s => logSigm (gate x0 x1 x2 x5 x6 b r s)) (fun s => s.val < t.val) := by
  have h := lf_at x0 x1 x2 x5 x6 b
  have e := mask_before
  unfold val_main_v72 val_main_v67
  generalize val_main_v56 (F := Ideal) x0 x1 x2 x5 x6 = H at h ⊢
  generalize val_main_v71 (F := Ideal) = M at e ⊢
  pointwise [h, e, sumOver]

theorem forward_at (r : Fin 32) : val_main_v79 (F := Ideal) (ix2 r 0) = if r.val % 8 < 6 then 1#1 else 0#1 := by
  pointwise [val_main_v79, val_main_v78, val_main_v77, val_main_v76, val_main_v75, val_main_v74, val_main_v73, val_main_c]
  revert r
  decide +kernel

theorem reach_at (r : Fin 32) (t : Fin 256) : val_main_v83 (F := Ideal) x0 x1 x2 x5 x6 (ix3 b r t) =
    reach (fun t => gate x0 x1 x2 x5 x6 b ⟨(r.val + 32 - 4) % 32, by omega⟩ t) (fun s => logSigm (gate x0 x1 x2 x5 x6 b r s)) (r.val % 8 < 6) t := by
  have h := gate_at x0 x1 x2 x5 x6 b
  have h1 := after_at x0 x1 x2 x5 x6 b
  have h2 := before_at x0 x1 x2 x5 x6 b
  have e := forward_at r
  unfold val_main_v83 val_main_v82 val_main_v81 val_main_v80 val_main_call2_v0 val_main_call2_v1 val_main_call3_v0
  generalize val_main_v50 (F := Ideal) x0 x1 x2 x5 x6 = H at h ⊢
  generalize val_main_v66 (F := Ideal) x0 x1 x2 x5 x6 = A at h1 ⊢
  generalize val_main_v72 (F := Ideal) x0 x1 x2 x5 x6 = B at h2 ⊢
  generalize val_main_v79 (F := Ideal) = M at e ⊢
  pointwise [h, h1, h2, e, reach]
  have hr := r.isLt
  have hi : (if h : r.val < 4 then gate x0 x1 x2 x5 x6 b ⟨28 + r.val, by omega⟩ t else gate x0 x1 x2 x5 x6 b ⟨r.val - 4, by omega⟩ t) =
      gate x0 x1 x2 x5 x6 b ⟨(r.val + 32 - 4) % 32, by omega⟩ t := by
    split_ifs with h4
    · exact congrArg (fun k => gate x0 x1 x2 x5 x6 b k t) (Fin.ext (by dsimp only; omega))
    · exact congrArg (fun k => gate x0 x1 x2 x5 x6 b k t) (Fin.ext (by dsimp only; omega))
  rw [hi]
  split_ifs <;> rfl

theorem max_at (r : Fin 32) : val_main_v87 (F := Ideal) x0 x1 x2 x5 x6 (ix3 b r 0) =
    scale (fun t => gate x0 x1 x2 x5 x6 b ⟨(r.val + 32 - 4) % 32, by omega⟩ t) (fun s => logSigm (gate x0 x1 x2 x5 x6 b r s)) (r.val % 8 < 6) := by
  have h := lf_at x0 x1 x2 x5 x6 b
  have h1 := reach_at x0 x1 x2 x5 x6 b
  unfold val_main_v87 val_main_v86 val_main_v85 val_main_v84
  generalize val_main_v56 (F := Ideal) x0 x1 x2 x5 x6 = H at h ⊢
  generalize val_main_v83 (F := Ideal) x0 x1 x2 x5 x6 = A at h1 ⊢
  pointwise [h, h1, Host.reduce_eq_fold, val_main_cst_8, val_main_cst_9, scale, greatest]

theorem weight_at (r : Fin 32) (t : Fin 256) : val_main_v90 (F := Ideal) x0 x1 x2 x5 x6 (ix3 b r t) =
    weight (fun t => gate x0 x1 x2 x5 x6 b ⟨(r.val + 32 - 4) % 32, by omega⟩ t) (fun s => logSigm (gate x0 x1 x2 x5 x6 b r s)) (r.val % 8 < 6) t := by
  have h := max_at x0 x1 x2 x5 x6 b
  have h1 := reach_at x0 x1 x2 x5 x6 b
  unfold val_main_v90 val_main_v89 val_main_v88
  generalize val_main_v87 (F := Ideal) x0 x1 x2 x5 x6 = H at h ⊢
  generalize val_main_v83 (F := Ideal) x0 x1 x2 x5 x6 = A at h1 ⊢
  pointwise [h, h1, weight]

section Heads
variable (d : Fin 2) (q : Fin 4) (j : Fin 2)

/-- A row's weights. -/
def weights (r : Fin 32) : Fin 256 → EReal :=
  weight (fun t => gate x0 x1 x2 x5 x6 b ⟨(r.val + 32 - 4) % 32, by omega⟩ t) (fun s => logSigm (gate x0 x1 x2 x5 x6 b r s)) (r.val % 8 < 6)

theorem head_weight (t : Fin 256) : val_main_v94 (F := Ideal) x0 x1 x2 x5 x6 (ix5 b d q j t) =
    weights x0 x1 x2 x5 x6 b ⟨8 * q.val + 4 + 2 * d.val + j.val, by omega⟩ t := by
  have h : ∀ r t, val_main_v90 (F := Ideal) x0 x1 x2 x5 x6 (ix3 b r t) = weights x0 x1 x2 x5 x6 b r t := weight_at x0 x1 x2 x5 x6 b
  unfold val_main_v94 val_main_v93 val_main_v92 val_main_v91
  generalize val_main_v90 (F := Ideal) x0 x1 x2 x5 x6 = H at h ⊢
  pointwise [h]
  exact congrArg (fun k => weights x0 x1 x2 x5 x6 b k t) (Fin.ext (by dsimp only; omega))

theorem head_value (e : Fin 128) (t : Fin 256) : val_main_v97 (F := Ideal) x0 x1 x2 x5 x6 (ix6 b 0 q j e t) =
    value x0 x1 x2 x5 x6 b ⟨128 * (2 * q.val + j.val) + e.val, by omega⟩ t := by
  have h := value_at x0 x1 x2 x5 x6 b
  unfold val_main_v97 val_main_v96 val_main_v95
  generalize val_main_v41 (F := Ideal) x0 x1 x2 x5 x6 = H at h ⊢
  pointwise [h]
  exact congrArg (fun k => value x0 x1 x2 x5 x6 b k t) (Fin.ext (by dsimp only; omega))

theorem head_key (t : Fin 256) (f : Fin 64) : val_main_v101 (F := Ideal) x0 x1 x2 x3 x4 (ix6 b d q j t f) =
    key x0 x1 x2 x3 x4 b t ⟨128 * q.val + (64 * j.val + f.val), by omega⟩ := by
  have h := key_at x0 x1 x2 x3 x4 b
  unfold val_main_v101 val_main_v100 val_main_v99 val_main_v98
  generalize val_main_v32 (F := Ideal) x0 x1 x2 x3 x4 = H at h ⊢
  pointwise [h]
  exact congrArg (key x0 x1 x2 x3 x4 b t) (Fin.ext (by dsimp only; omega))

theorem head_state (e : Fin 128) (f : Fin 64) : val_main_v106 (F := Ideal) x0 x1 x2 x3 x4 x5 x6 (ix6 b d q j e f) =
    ∑ t, value x0 x1 x2 x5 x6 b ⟨128 * (2 * q.val + j.val) + e.val, by omega⟩ t * weights x0 x1 x2 x5 x6 b ⟨8 * q.val + 4 + 2 * d.val + j.val, by omega⟩ t *
      key x0 x1 x2 x3 x4 b t ⟨128 * q.val + (64 * j.val + f.val), by omega⟩ := by
  have h := head_weight x0 x1 x2 x5 x6 b d q j
  have h1 := head_value x0 x1 x2 x5 x6 b q j
  have h2 := head_key x0 x1 x2 x3 x4 b d q j
  unfold val_main_v106 val_main_v105 val_main_v104 val_main_v103 val_main_v102
  generalize val_main_v94 (F := Ideal) x0 x1 x2 x5 x6 = A at h ⊢
  generalize val_main_v97 (F := Ideal) x0 x1 x2 x5 x6 = B at h1 ⊢
  generalize val_main_v101 (F := Ideal) x0 x1 x2 x3 x4 = C at h2 ⊢
  pointwise [h, h1, h2]

theorem head_norm (f : Fin 64) : val_main_v108 (F := Ideal) x0 x1 x2 x3 x4 x5 x6 (ix6 b d q j 0 f) =
    ∑ t, weights x0 x1 x2 x5 x6 b ⟨8 * q.val + 4 + 2 * d.val + j.val, by omega⟩ t *
      key x0 x1 x2 x3 x4 b t ⟨128 * q.val + (64 * j.val + f.val), by omega⟩ := by
  have h := head_weight x0 x1 x2 x5 x6 b d q j
  have h2 := head_key x0 x1 x2 x3 x4 b d q j
  unfold val_main_v108 val_main_v107
  generalize val_main_v94 (F := Ideal) x0 x1 x2 x5 x6 = A at h ⊢
  generalize val_main_v101 (F := Ideal) x0 x1 x2 x3 x4 = C at h2 ⊢
  pointwise [h, h2]

theorem state_at (r : Fin 144) (c : Fin 128) : val_main_v112 (F := Ideal) x0 x1 x2 x3 x4 x5 x6 (ix5 b d q r c) =
    ∑ t, column (fun e => value x0 x1 x2 x5 x6 b ⟨128 * (2 * q.val + c.val / 64) + e.val, by omega⟩ t) r *
      weights x0 x1 x2 x5 x6 b ⟨8 * q.val + 4 + 2 * d.val + c.val / 64, by omega⟩ t * key x0 x1 x2 x3 x4 b t ⟨128 * q.val + c.val, by omega⟩ := by
  have h := head_state x0 x1 x2 x3 x4 x5 x6 b d q ⟨c.val / 64, by omega⟩
  have h1 := head_norm x0 x1 x2 x3 x4 x5 x6 b d q ⟨c.val / 64, by omega⟩
  unfold val_main_v112 val_main_v111 val_main_v110
  generalize val_main_v106 (F := Ideal) x0 x1 x2 x3 x4 x5 x6 = A at h ⊢
  generalize val_main_v108 (F := Ideal) x0 x1 x2 x3 x4 x5 x6 = B at h1 ⊢
  pointwise [h, val_main_v109, val_main_cst_10]
  have hc : 64 * (c.val / 64) + c.val % 64 = c.val := Nat.div_add_mod _ _
  by_cases h0 : r.val = 0
  · have hr : (⟨r.val, by omega⟩ : Fin 1) = 0 := Fin.ext h0
    rw [dif_pos (by omega)]
    refine (congrArg (fun k => B (ix6 b d q ⟨c.val / 64, by omega⟩ k ⟨c.val % 64, by omega⟩)) hr).trans ((h1 ⟨c.val % 64, by omega⟩).trans (Finset.sum_congr rfl fun t _ => ?_))
    rw [column, if_pos h0, one_mul]
    simp only [hc]
  · rw [dif_neg (by omega)]
    by_cases h16 : r.val < 16
    · rw [dif_pos (by omega)]
      refine (Finset.sum_eq_zero fun t _ => ?_).symm
      rw [column, if_neg h0, dif_pos h16, zero_mul, zero_mul]
    · rw [dif_neg (by omega)]
      refine Finset.sum_congr rfl fun t _ => ?_
      rw [column, if_neg h0, dif_neg h16]
      simp only [hc, Nat.sub_sub, Nat.reduceAdd]
end Heads

end Cert.CxRIdeal.Rows
end
-- ==== Proof.ContextValue.lean ====
module

public import proofs.«01_k».proof.Proof.ContextOut
public import proofs.«01_k».proof.Proof.ContextRef
public import proofs.«01_k».proof.Proof.Gen.Pre_gates_above_minus_infinity

/- The mLSTM's starting states that the kernel leaves are the reference's where no gate is minus infinity. -/

@[expose] public section

set_option maxRecDepth 16384
set_option maxHeartbeats 1000000

noncomputable section
open Idealize.ShloMosaic Idealize.ShloMosaic.TcCoe Idealize.SL.Sem
open scoped BigOperators

namespace Cert.CxKIdeal.State
open Cert.CxKIdeal Cert.CxKIdeal.Gen DitRows

/-- What is greater than minus infinity is not minus infinity. -/
theorem ne_bot_of_gt {x : EReal} (h : Ideal.cmp .ogt x (Ideal.ofBits .f32 0xFF800000#32) = 1#1) : x ≠ ⊥ := by
  rintro rfl
  simp [Ideal.cmp, Ideal.ofBits, Ideal.ieee] at h

/-- No gate is minus infinity under the precondition. -/
theorem gates_above (a0 : FVec Ideal S16x256x1024 .f32) (a1 : FVec Ideal S17x6144 .f32) (a2 : FVec Ideal S1024 .f32) (a3 : FVec Ideal S1024x6656 .bf16)
    (a4 : FVec Ideal S1x6656 .f32) (a5 : FVec Ideal S2048x1024 .bf16) (a6 : FVec Ideal S2048x1 .f32)
    (h : Cert.Pre_gates_above_minus_infinity.fn (F := Ideal) a0 a1 a2 a3 a4 a5 a6 = fun _ => 1#1) (b : Fin 16) (r : Fin 32) (t : Fin 256) :
    Cert.CxRIdeal.Rows.gate a0 a1 a2 a5 a6 b r t ≠ ⊥ := by
  refine ne_bot_of_gt (Eq.trans ?_ (congrFun h (ix3 b t r)))
  unfold Cert.Pre_gates_above_minus_infinity.fn Cert.Pre_gates_above_minus_infinity.fn_part1
  pointwise [Cert.CxRIdeal.Rows.gate, Cert.CxRIdeal.Rows.normed, modulated, invRms, width, eps]

variable (m : (ℓ : Loc nD τ sig) → Buf (Elt Ideal) ℓ)

/-- The blocks of the windows: four batch rows a step; the rest the same blocks of the weights at every step. -/
theorem idx : ∀ t : Fin cfg0.N, win0_0.index t = ![t.val, 0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![48, 0]
    ∧ win0_8.index t = ![48, 0]
    ∧ win0_9.index t = ![t.val, 0, 0, 0, 0]
    ∧ win0_10.index t = ![t.val, 0, 0] :=
  (by decide +kernel : ∀ t : Fin grid0.N, _)

abbrev a0 (c : Dev nD) : FVec Ideal S16x256x1024 .f32 := m ((c : Thread nD τ).loc main_arg0)
abbrev a1 (c : Dev nD) : FVec Ideal S17x6144 .f32 := m ((c : Thread nD τ).loc main_arg1)
abbrev a2 (c : Dev nD) : FVec Ideal S1024 .f32 := m ((c : Thread nD τ).loc main_arg2)
abbrev a3 (c : Dev nD) : FVec Ideal S1024x6656 .bf16 := m ((c : Thread nD τ).loc main_arg3)
abbrev a4 (c : Dev nD) : FVec Ideal S1x6656 .f32 := m ((c : Thread nD τ).loc main_arg4)
abbrev a5 (c : Dev nD) : FVec Ideal S2048x1024 .bf16 := m ((c : Thread nD τ).loc main_arg5)
abbrev a6 (c : Dev nD) : FVec Ideal S2048x1 .f32 := m ((c : Thread nD τ).loc main_arg6)

/-- The batch row of a step's block. -/
def bat (t : Fin cfg0.N) (b : Fin 4) : Fin 16 := ⟨t.val * 4 + b.val, by have : t.val < 4 := t.isLt; omega⟩

/-- The norm's weights as the call takes them. -/
theorem nw_at (c : Dev nD) (j : Fin 1024) : (show FVec Ideal S1x1024 .f32 from V m c main_v0) (ix2 0 j) = a2 m c (ix1 j) := by
  show shapeCast S1x1024 (a2 m c) shapeCasts_S1024_S1x1024 (ix2 0 j) = _
  pointwise []

/-- A token's norm in a step's block. -/
theorem norm_blk (c : Dev nD) (t : Fin cfg0.N) (b : Fin 4) (k : Fin 256) (d : Fin 1024) :
    k0_pay157 (F := Ideal) (iblk m c 0 t) (iblk m c 1 t) (iblk m c 2 t) (iblk m c 3 t) (iblk m c 4 t) (iblk m c 5 t) (iblk m c 6 t) (iblk m c 7 t) (iblk m c 8 t) (ix2 (tok b k) d) =
      Cert.CxRIdeal.Rows.normed (a0 m c) (a1 m c) (a2 m c) (bat t b) k d := by
  unfold k0_pay157
  refine (norm_at _ _ _ _ b k d).trans ?_
  unfold Cert.CxRIdeal.Rows.normed
  have e0 : ∀ j : Fin 1024, View.ld (iblk m c 0 t) r0_0 (ix3 b k j : S4x256x1024.Idx) = a0 m c (ix3 (bat t b) k j) := fun j => by
    pointwise []
    unfold bat
    blk_ext [iblk, V, idx t]
  have e1 : ∀ j : Fin 1024, View.ld (iblk m c 2 t) r0_1 (ix2 0 j : S1x1024.Idx) = a2 m c (ix1 j) := fun j => by
    pointwise []
    exact (show _ = (show FVec Ideal S1x1024 .f32 from V m c main_v0) (ix2 0 j) by blk_ext [iblk, idx t]).trans (nw_at m c j)
  have e2 : ∀ j : Fin 1024, View.ld (iblk m c 1 t) r0_3 (ix2 0 j : S1x1024.Idx) = a1 m c (ix2 16 ⟨1024 + j.val, by omega⟩) := fun j => by
    pointwise []
    blk_ext [iblk, V, idx t]
  have e3 : ∀ j : Fin 1024, View.ld (iblk m c 1 t) r0_2 (ix2 0 j : S1x1024.Idx) = a1 m c (ix2 16 ⟨j.val, by omega⟩) := fun j => by
    pointwise []
    blk_ext [iblk, V, idx t]
  exact congr (congr (congr (congr (congrArg modulated (funext e0)) (funext e1)) (funext e2)) (funext e3)) rfl

theorem gate_blk (c : Dev nD) (t : Fin cfg0.N) (b : Fin 4) (k : Fin 256) (r : Fin 32) :
    k0_pay162 (F := Ideal) (iblk m c 0 t) (iblk m c 1 t) (iblk m c 2 t) (iblk m c 3 t) (iblk m c 4 t) (iblk m c 5 t) (iblk m c 6 t) (iblk m c 7 t) (iblk m c 8 t) (ix2 r (tok b k)) =
      Cert.CxRIdeal.Rows.gate (a0 m c) (a1 m c) (a2 m c) (a5 m c) (a6 m c) (bat t b) r k := by
  unfold k0_pay162
  refine (gate_at _ _ _ r (tok b k)).trans ?_
  have e0 : ∀ j : Fin 1024, View.ld (iblk m c 7 t) r0_8 (ix2 r j : S32x1024.Idx) = a5 m c (ix2 ⟨1536 + r.val, by omega⟩ j) := fun j => by
    pointwise []
    blk_ext [iblk, V, idx t]
  have e1 : View.ld (iblk m c 8 t) r0_9 (ix2 r 0 : S32x1.Idx) = a6 m c (ix2 ⟨1536 + r.val, by omega⟩ 0) := by
    pointwise []
    blk_ext [iblk, V, idx t]
  exact Ideal.add_congr (Finset.sum_congr rfl fun j _ => (Ideal.mul_congr (show @Eq EReal _ _ from e0 j) (norm_blk m c t b k j)).trans (mul_comm _ _)) (show @Eq EReal _ _ from e1)

theorem value_blk (c : Dev nD) (t : Fin cfg0.N) (b : Fin 4) (k : Fin 256) (q : Fin 1024) :
    k0_pay159 (F := Ideal) (iblk m c 0 t) (iblk m c 1 t) (iblk m c 2 t) (iblk m c 3 t) (iblk m c 4 t) (iblk m c 5 t) (iblk m c 6 t) (iblk m c 7 t) (iblk m c 8 t) (ix2 q (tok b k)) =
      Cert.CxRIdeal.Rows.value (a0 m c) (a1 m c) (a2 m c) (a5 m c) (a6 m c) (bat t b) q k := by
  unfold k0_pay159
  refine (value_at _ _ _ _ _ _ q (tok b k)).trans ?_
  have e0 : ∀ j : Fin 1024, View.ld (iblk m c 5 t) r0_6 (ix2 q j : S1024x1024.Idx) = a5 m c (ix2 ⟨q.val, by omega⟩ j) := fun j => by
    pointwise []
    blk_ext [iblk, V, idx t]
  have e1 : View.ld (iblk m c 6 t) r0_7 (ix2 q 0 : S1024x1.Idx) = a6 m c (ix2 ⟨q.val, by omega⟩ 0) := by
    pointwise []
    blk_ext [iblk, V, idx t]
  exact Ideal.add_congr (Finset.sum_congr rfl fun j _ => (Ideal.mul_congr (show @Eq EReal _ _ from e0 j) (norm_blk m c t b k j)).trans (mul_comm _ _)) (show @Eq EReal _ _ from e1)

theorem key_blk (c : Dev nD) (t : Fin cfg0.N) (b : Fin 4) (k : Fin 256) (q : Fin 512) :
    k0_pay158 (F := Ideal) (iblk m c 0 t) (iblk m c 1 t) (iblk m c 2 t) (iblk m c 3 t) (iblk m c 4 t) (iblk m c 5 t) (iblk m c 6 t) (iblk m c 7 t) (iblk m c 8 t) (ix2 (tok b k) q) =
      Cert.CxRIdeal.Rows.key (a0 m c) (a1 m c) (a2 m c) (a3 m c) (a4 m c) (bat t b) k q := by
  unfold k0_pay158
  refine (key_at _ _ _ _ _ _ (tok b k) q).trans ?_
  have e0 : ∀ j : Fin 1024, View.ld (iblk m c 3 t) r0_4 (ix2 j q : S1024x512.Idx) = a3 m c (ix2 j ⟨q.val, by omega⟩) := fun j => by
    pointwise []
    blk_ext [iblk, V, idx t]
  have e1 : View.ld (iblk m c 4 t) r0_5 (ix2 0 q : S1x512.Idx) = a4 m c (ix2 0 ⟨q.val, by omega⟩) := by
    pointwise []
    blk_ext [iblk, V, idx t]
  exact Ideal.add_congr (Finset.sum_congr rfl fun j _ => Ideal.mul_congr (norm_blk m c t b k j) (show @Eq EReal _ _ from e0 j)) (show @Eq EReal _ _ from e1)

theorem gatesOf_at (G : FVec Ideal S32x1024 .f32) (b : Fin 4) (r : Fin 32) (t : Fin 256) : gatesOf G b (ix2 r t) = G (ix2 r (tok b t)) := by
  unfold gatesOf tok
  pointwise []
  exact congrArg (fun k => G (ix2 r k)) (Fin.ext (by dsimp only; omega))

theorem valuesOf_at (V : FVec Ideal S1024x1024 .bf16) (b : Fin 4) (q : Fin 1024) (t : Fin 256) : valuesOf V b (ix2 q t) = V (ix2 q (tok b t)) := by
  unfold valuesOf tok
  pointwise []
  exact congrArg (fun k => V (ix2 q k)) (Fin.ext (by dsimp only; omega))

theorem keysOf_at (K : FVec Ideal S1024x512 .bf16) (b : Fin 4) (q : Fin 512) (t : Fin 256) : keysOf K b (ix2 t q) = K (ix2 (tok b t) q) := by
  unfold keysOf tok
  pointwise []
  exact congrArg (fun k => K (ix2 k q)) (Fin.ext (by dsimp only; omega))

/-- The scale and the weights of a row of a batch row in a step's block. -/
theorem rows_blk (c : Dev nD) (t : Fin cfg0.N) (b : Fin 4) (r : Fin 32)
    (hg : ∀ k, Cert.CxRIdeal.Rows.gate (a0 m c) (a1 m c) (a2 m c) (a5 m c) (a6 m c) (bat t b) r k ≠ ⊥) :
    maxOf (gatesOf (k0_pay162 (F := Ideal) (iblk m c 0 t) (iblk m c 1 t) (iblk m c 2 t) (iblk m c 3 t) (iblk m c 4 t) (iblk m c 5 t) (iblk m c 6 t) (iblk m c 7 t) (iblk m c 8 t)) b) (ix2 r 0) =
      Cert.CxRIdeal.Read.val_main_v87 (F := Ideal) (a0 m c) (a1 m c) (a2 m c) (a5 m c) (a6 m c) (ix3 (bat t b) r 0) ∧
    ∀ k, weightOf (gatesOf (k0_pay162 (F := Ideal) (iblk m c 0 t) (iblk m c 1 t) (iblk m c 2 t) (iblk m c 3 t) (iblk m c 4 t) (iblk m c 5 t) (iblk m c 6 t) (iblk m c 7 t) (iblk m c 8 t)) b) (ix2 r k) =
      Cert.CxRIdeal.Rows.weights (a0 m c) (a1 m c) (a2 m c) (a5 m c) (a6 m c) (bat t b) r k := by
  have e : ∀ (r : Fin 32) (k : Fin 256), gatesOf (k0_pay162 (F := Ideal) (iblk m c 0 t) (iblk m c 1 t) (iblk m c 2 t) (iblk m c 3 t) (iblk m c 4 t) (iblk m c 5 t) (iblk m c 6 t) (iblk m c 7 t) (iblk m c 8 t)) b (ix2 r k) =
      Cert.CxRIdeal.Rows.gate (a0 m c) (a1 m c) (a2 m c) (a5 m c) (a6 m c) (bat t b) r k := fun r k => (gatesOf_at _ b r k).trans (gate_blk m c t b k r)
  generalize gatesOf (k0_pay162 (F := Ideal) (iblk m c 0 t) (iblk m c 1 t) (iblk m c 2 t) (iblk m c 3 t) (iblk m c 4 t) (iblk m c 5 t) (iblk m c 6 t) (iblk m c 7 t) (iblk m c 8 t)) b = G at e ⊢
  have h := rows_above G r (fun k => by rw [e]; exact hg k)
  simp only [e] at h
  exact ⟨h.1.trans (Cert.CxRIdeal.Rows.max_at _ _ _ _ _ _ r).symm, h.2⟩

section Final
variable (c : Dev nD) (hg : ∀ b r k, Cert.CxRIdeal.Rows.gate (a0 m c) (a1 m c) (a2 m c) (a5 m c) (a6 m c) b r k ≠ ⊥)
include hg

/-- The scales. -/
theorem final10 : (dats m 0 c).arrAt 10 (cfgs 0).N = Cert.CxRIdeal.Read.val_main_v87 (F := Ideal) (a0 m c) (a1 m c) (a2 m c) (a5 m c) (a6 m c) := by
  refine (dats m 0 c).arrAt_eq_of_covers 10 _ (by decide +kernel) fun t hf y => ?_
  blk_simp
  rw [after0_10]
  obtain ⟨b, r, rfl⟩ : ∃ (b : Fin 4) (r : Fin 32), y = (ix3 b r 0 : S4x32x1.Idx) :=
    ⟨y 0, y 1, by
      refine (eq_ix3 y).trans ?_
      have h : y 2 = (0 : Fin 1) := Subsingleton.elim (α := Fin 1) _ _
      rw [h]⟩
  have ht : t.val < 4 := t.isLt
  rw [show ((View.whole main_v1_1).slice (win0_10.rect t)).emb (ix3 b r 0 : S4x32x1.Idx) = (ix3 (bat t b) r 0 : S16x32x1.Idx) by unfold bat; blk_ext [idx t]]
  exact (out10 _ _ _ _ _ _ _ _ _ _).trans ((maxBlock_eq _ b r _ rfl rfl).trans (rows_blk m c t b r (hg _ r)).1)

/-- The states. -/
theorem final9 : (dats m 0 c).arrAt 9 (cfgs 0).N =
    Cert.CxRIdeal.Read.val_main_v112 (F := Ideal) (a0 m c) (a1 m c) (a2 m c) (a3 m c) (a4 m c) (a5 m c) (a6 m c) := by
  refine (dats m 0 c).arrAt_eq_of_covers 9 _ (by decide +kernel) fun t hf y => ?_
  blk_simp
  rw [after0_9]
  obtain ⟨b, d, q, r, f, rfl⟩ : ∃ (b : Fin 4) (d : Fin 2) (q : Fin 4) (r : Fin 144) (f : Fin 128), y = (ix5 b d q r f : S4x2x4x144x128.Idx) :=
    ⟨y 0, y 1, y 2, y 3, y 4, by blk_ext⟩
  have ht : t.val < 4 := t.isLt
  rw [show ((View.whole main_v1_0).slice (win0_9.rect t)).emb (ix5 b d q r f : S4x2x4x144x128.Idx) = (ix5 (bat t b) d q r f : S16x2x4x144x128.Idx) by unfold bat; blk_ext [idx t]]
  refine (out9 _ _ _ _ _ _ _ _ _ _).trans ((stateBlock_eq _ _ _ b d q r f _ rfl rfl rfl rfl rfl).trans ((state_at _ _ _ d q r f).trans ?_))
  rw [Cert.CxRIdeal.Rows.state_at]
  refine Finset.sum_congr rfl fun k _ => ?_
  rw [(rows_blk m c t b ⟨8 * q.val + 4 + 2 * d.val + f.val / 64, by omega⟩ (hg _ _)).2, keysOf_at, key_blk]
  simp only [valuesOf_at, value_blk]
end Final
end Cert.CxKIdeal.State
end
-- ==== Proof.lean ====
module

public import proofs.«01_k».proof.Defs
public import proofs.«01_k».proof.Proof.OutValue
public import proofs.«01_k».proof.Proof.InRows
public import proofs.«01_k».proof.Proof.InChunks
public import proofs.«01_k».proof.Proof.Gen.OutK
public import proofs.«01_k».proof.Proof.Gen.OutK.Frame
public import proofs.«01_k».proof.Proof.Gen.InK
public import proofs.«01_k».proof.Proof.Gen.InK.Frame
public import proofs.«01_k».proof.Proof.Gen.OutRIdeal.Run
public import proofs.«01_k».proof.Proof.Gen.OutRIdeal.Read
public import proofs.«01_k».proof.Proof.Gen.InRIdeal.Run
public import proofs.«01_k».proof.Proof.Gen.InRIdeal.Read
public import proofs.«01_k».proof.Proof.PackNormal
public import proofs.«01_k».proof.Proof.PackTransposed
public import proofs.«01_k».proof.Proof.Gen.WnK
public import proofs.«01_k».proof.Proof.Gen.WnK.Frame
public import proofs.«01_k».proof.Proof.Gen.WtK
public import proofs.«01_k».proof.Proof.Gen.WtK.Frame
public import proofs.«01_k».proof.Proof.Gen.WnKIdeal.Value
public import proofs.«01_k».proof.Proof.Gen.WnRIdeal.Run
public import proofs.«01_k».proof.Proof.Gen.WnRIdeal.Read
public import proofs.«01_k».proof.Proof.Gen.WtRIdeal.Run
public import proofs.«01_k».proof.Proof.Gen.WtRIdeal.Read
public import proofs.«01_k».proof.Proof.Gen.AdK
public import proofs.«01_k».proof.Proof.Gen.AdK.Skeleton
public import proofs.«01_k».proof.Proof.Gen.AdK.Launch
public import proofs.«01_k».proof.Proof.Gen.AdK.Points
public import proofs.«01_k».proof.Proof.Gen.AdK.Frame
public import proofs.«01_k».proof.Proof.Gen.AdKIdeal
public import proofs.«01_k».proof.Proof.Gen.AdKIdeal.Skeleton
public import proofs.«01_k».proof.Proof.Gen.AdKIdeal.Launch
public import proofs.«01_k».proof.Proof.Gen.AdKIdeal.Points
public import proofs.«01_k».proof.Proof.Gen.AdKIdeal.Frame
public import proofs.«01_k».proof.Proof.Gen.AdRIdeal
public import proofs.«01_k».proof.Proof.Gen.AdKIdeal.Value
public import proofs.«01_k».proof.Proof.Gen.AdRIdeal.Run
public import proofs.«01_k».proof.Proof.Gen.AdRIdeal.Read
public import proofs.«01_k».proof.Proof.Modulation
public import proofs.«01_k».proof.Proof.Gen.CxK
public import proofs.«01_k».proof.Proof.Gen.CxK.Frame
public import proofs.«01_k».proof.Proof.Gen.CxKIdeal.Value
public import proofs.«01_k».proof.Proof.Gen.CxRIdeal.Run
public import proofs.«01_k».proof.Proof.Gen.CxRIdeal.Read
public import proofs.«01_k».proof.Proof.ContextValue
public import Idealize.ShloMosaic.Adequacy
public import Idealize.ShloMosaic.Init

/- The proof of `Cert.Claim`: all six kernels end with their arguments unchanged and every counter at zero,
   and over the reals extended by infinities their results are those of their references. -/

@[expose] public section

set_option maxRecDepth 16384

noncomputable section

namespace Cert.Proof

open Idealize.ShloMosaic Idealize.SL.Sem

/-- The second-half kernel as printed terminates, leaves its arguments as they were and its counters at zero. -/
theorem quiescent_OutK : Cert.quiescent_OutK := fun m g _ => Cert.OutK.Gen.frame m g

/-- So does its idealization. -/
theorem quiescent_OutKIdeal : Cert.quiescent_OutKIdeal := fun m g _ => Cert.OutKIdeal.Gen.frame m g

/-- So does the second half's reference. -/
theorem quiescent_OutRIdeal : Cert.quiescent_OutRIdeal := fun m g _ =>
  (θ_run Cert.OutRIdeal.defs _ _).mono (fun r h => ⟨fun c => (h c).2, sem_eq_zero_of_no_sems (by decide) r.2⟩) (Cert.OutRIdeal.Value.run (F := Ideal) m g)

/-- The first-half kernel as printed terminates, leaves its arguments as they were and its counters at zero. -/
theorem quiescent_InK : Cert.quiescent_InK := fun m g _ => Cert.InK.Gen.frame m g

/-- So does its idealization. -/
theorem quiescent_InKIdeal : Cert.quiescent_InKIdeal := fun m g _ => Cert.InKIdeal.Gen.frame m g

/-- So does the first half's reference. -/
theorem quiescent_InRIdeal : Cert.quiescent_InRIdeal := fun m g _ =>
  (θ_run Cert.InRIdeal.defs _ _).mono (fun r h => ⟨fun c => (h c).2.2.2.2.2.2.2, sem_eq_zero_of_no_sems (by decide) r.2⟩) (Cert.InRIdeal.Value.run (F := Ideal) m g)

/-- The row-major packing as printed terminates, leaves its argument as it was and its counters at zero. -/
theorem quiescent_WnK : Cert.quiescent_WnK := fun m g _ => Cert.WnK.Gen.frame m g

/-- So does its idealization. -/
theorem quiescent_WnKIdeal : Cert.quiescent_WnKIdeal := fun m g _ => Cert.WnKIdeal.Gen.frame m g

/-- So does its reference. -/
theorem quiescent_WnRIdeal : Cert.quiescent_WnRIdeal := fun m g _ =>
  (θ_run Cert.WnRIdeal.defs _ _).mono (fun r h => ⟨fun c => (h c).2, sem_eq_zero_of_no_sems (by decide) r.2⟩) (Cert.WnRIdeal.Value.run (F := Ideal) m g)

/-- The column-major packing as printed terminates, leaves its argument as it was and its counters at zero. -/
theorem quiescent_WtK : Cert.quiescent_WtK := fun m g _ => Cert.WtK.Gen.frame m g (Cert.WtK.PackTransposed.ok m)

/-- So does its idealization. -/
theorem quiescent_WtKIdeal : Cert.quiescent_WtKIdeal := fun m g _ => Cert.WtKIdeal.Gen.frame m g (Cert.WtKIdeal.PackTransposed.ok m)

/-- So does its reference. -/
theorem quiescent_WtRIdeal : Cert.quiescent_WtRIdeal := fun m g _ =>
  (θ_run Cert.WtRIdeal.defs _ _).mono (fun r h => ⟨fun c => (h c).2, sem_eq_zero_of_no_sems (by decide) r.2⟩) (Cert.WtRIdeal.Value.run (F := Ideal) m g)

/-- The modulation call as printed terminates, leaves its arguments as they were and its counters at zero. -/
theorem quiescent_AdK : Cert.quiescent_AdK := fun m g _ => Cert.AdK.Gen.frame m g

/-- So does its idealization. -/
theorem quiescent_AdKIdeal : Cert.quiescent_AdKIdeal := fun m g _ => Cert.AdKIdeal.Gen.frame m g

/-- So does its reference. -/
theorem quiescent_AdRIdeal : Cert.quiescent_AdRIdeal := fun m g _ =>
  (θ_run Cert.AdRIdeal.defs _ _).mono (fun r h => ⟨fun c => (h c).2, sem_eq_zero_of_no_sems (by decide) r.2⟩) (Cert.AdRIdeal.Value.run (F := Ideal) m g)

/-- The starting-state kernel as printed terminates, leaves its arguments as they were and its counters at zero. -/
theorem quiescent_CxK : Cert.quiescent_CxK := fun m g _ => Cert.CxK.Gen.frame m g

/-- So does its idealization. -/
theorem quiescent_CxKIdeal : Cert.quiescent_CxKIdeal := fun m g _ => Cert.CxKIdeal.Gen.frame m g

/-- So does its reference. -/
theorem quiescent_CxRIdeal : Cert.quiescent_CxRIdeal := fun m g _ =>
  (θ_run Cert.CxRIdeal.defs _ _).mono (fun r h => ⟨fun c => (h c).2.2, sem_eq_zero_of_no_sems (by decide) r.2⟩) (Cert.CxRIdeal.Value.run (F := Ideal) m g)

/-- The idealization of the second-half kernel rewrites nothing. -/
theorem preserves_OutK_OutKIdeal : Cert.preserves_OutK_OutKIdeal := trivial

/-- The second-half kernel's result is its reference's. -/
theorem algebraic_OutKIdeal_OutRIdeal : Cert.algebraic_OutKIdeal_OutRIdeal := by
  pair_intro
  · run_from Cert.OutKIdeal.Gen.run_main m g
  · run_from Cert.OutRIdeal.Value.run m' g'
    obtain ⟨a0, a1, a2, a3, a4, a5, a6, a7, a8, a9, a10⟩ := hagree c
    refine (Cert.OutRIdeal.Read.val_main_v61_eq m' c).trans ?_
    rw [a0, a1, a2, a3, a4, a5, a6, a7, a8, a9, a10]
    exact (Cert.OutKIdeal.OutValue.final m c).symm

/-- The idealization of the first-half kernel rewrites nothing. -/
theorem preserves_InK_InKIdeal : Cert.preserves_InK_InKIdeal := trivial

/-- The first-half kernel leaves the reference's values of its arguments in its seven results. -/
theorem in_kernel_run (m : (ℓ : Loc Cert.InKIdeal.nD Cert.InKIdeal.τ Cert.InKIdeal.sig) → Buf (Elt Ideal) ℓ) (g : Dev Cert.InKIdeal.nD → PrngReg) :
    θ_run (Cert.InKIdeal.defs (F := Ideal)) (onTc (τ := Cert.InKIdeal.τ) (Cert.InKIdeal.main (F := Ideal))) ⟨m, fun _ => 0, g⟩ (fun r => ∀ c : Dev Cert.InKIdeal.nD,
      r.2.mem ((c.tc : Thread Cert.InKIdeal.nD Cert.InKIdeal.τ).loc Cert.InKIdeal.main_v61_0) = Cert.InRIdeal.Read.val_main_v82 (F := Ideal) (m ((c.tc : Thread Cert.InKIdeal.nD Cert.InKIdeal.τ).loc Cert.InKIdeal.main_arg0)) (m ((c.tc : Thread Cert.InKIdeal.nD Cert.InKIdeal.τ).loc Cert.InKIdeal.main_arg1)) (m ((c.tc : Thread Cert.InKIdeal.nD Cert.InKIdeal.τ).loc Cert.InKIdeal.main_arg2)) (m ((c.tc : Thread Cert.InKIdeal.nD Cert.InKIdeal.τ).loc Cert.InKIdeal.main_arg4)) (m ((c.tc : Thread Cert.InKIdeal.nD Cert.InKIdeal.τ).loc Cert.InKIdeal.main_arg5))
      ∧ r.2.mem ((c.tc : Thread Cert.InKIdeal.nD Cert.InKIdeal.τ).loc Cert.InKIdeal.main_v61_1) = Cert.InRIdeal.Read.val_main_v85 (F := Ideal) (m ((c.tc : Thread Cert.InKIdeal.nD Cert.InKIdeal.τ).loc Cert.InKIdeal.main_arg0)) (m ((c.tc : Thread Cert.InKIdeal.nD Cert.InKIdeal.τ).loc Cert.InKIdeal.main_arg1)) (m ((c.tc : Thread Cert.InKIdeal.nD Cert.InKIdeal.τ).loc Cert.InKIdeal.main_arg2)) (m ((c.tc : Thread Cert.InKIdeal.nD Cert.InKIdeal.τ).loc Cert.InKIdeal.main_arg4)) (m ((c.tc : Thread Cert.InKIdeal.nD Cert.InKIdeal.τ).loc Cert.InKIdeal.main_arg5))
      ∧ r.2.mem ((c.tc : Thread Cert.InKIdeal.nD Cert.InKIdeal.τ).loc Cert.InKIdeal.main_v61_2) = Cert.InRIdeal.Read.val_main_v88 (F := Ideal) (m ((c.tc : Thread Cert.InKIdeal.nD Cert.InKIdeal.τ).loc Cert.InKIdeal.main_arg0)) (m ((c.tc : Thread Cert.InKIdeal.nD Cert.InKIdeal.τ).loc Cert.InKIdeal.main_arg1)) (m ((c.tc : Thread Cert.InKIdeal.nD Cert.InKIdeal.τ).loc Cert.InKIdeal.main_arg2)) (m ((c.tc : Thread Cert.InKIdeal.nD Cert.InKIdeal.τ).loc Cert.InKIdeal.main_arg4)) (m ((c.tc : Thread Cert.InKIdeal.nD Cert.InKIdeal.τ).loc Cert.InKIdeal.main_arg5))
      ∧ r.2.mem ((c.tc : Thread Cert.InKIdeal.nD Cert.InKIdeal.τ).loc Cert.InKIdeal.main_v61_3) = Cert.InRIdeal.Read.val_main_v90 (F := Ideal) (m ((c.tc : Thread Cert.InKIdeal.nD Cert.InKIdeal.τ).loc Cert.InKIdeal.main_arg0)) (m ((c.tc : Thread Cert.InKIdeal.nD Cert.InKIdeal.τ).loc Cert.InKIdeal.main_arg1)) (m ((c.tc : Thread Cert.InKIdeal.nD Cert.InKIdeal.τ).loc Cert.InKIdeal.main_arg2)) (m ((c.tc : Thread Cert.InKIdeal.nD Cert.InKIdeal.τ).loc Cert.InKIdeal.main_arg4)) (m ((c.tc : Thread Cert.InKIdeal.nD Cert.InKIdeal.τ).loc Cert.InKIdeal.main_arg5))
      ∧ r.2.mem ((c.tc : Thread Cert.InKIdeal.nD Cert.InKIdeal.τ).loc Cert.InKIdeal.main_v61_4) = Cert.InRIdeal.Read.val_main_v100 (F := Ideal) (m ((c.tc : Thread Cert.InKIdeal.nD Cert.InKIdeal.τ).loc Cert.InKIdeal.main_arg0)) (m ((c.tc : Thread Cert.InKIdeal.nD Cert.InKIdeal.τ).loc Cert.InKIdeal.main_arg1)) (m ((c.tc : Thread Cert.InKIdeal.nD Cert.InKIdeal.τ).loc Cert.InKIdeal.main_arg2)) (m ((c.tc : Thread Cert.InKIdeal.nD Cert.InKIdeal.τ).loc Cert.InKIdeal.main_arg3)) (m ((c.tc : Thread Cert.InKIdeal.nD Cert.InKIdeal.τ).loc Cert.InKIdeal.main_arg4)) (m ((c.tc : Thread Cert.InKIdeal.nD Cert.InKIdeal.τ).loc Cert.InKIdeal.main_arg5))
      ∧ r.2.mem ((c.tc : Thread Cert.InKIdeal.nD Cert.InKIdeal.τ).loc Cert.InKIdeal.main_v61_5) = Cert.InRIdeal.Read.val_main_v108 (F := Ideal) (m ((c.tc : Thread Cert.InKIdeal.nD Cert.InKIdeal.τ).loc Cert.InKIdeal.main_arg0)) (m ((c.tc : Thread Cert.InKIdeal.nD Cert.InKIdeal.τ).loc Cert.InKIdeal.main_arg1)) (m ((c.tc : Thread Cert.InKIdeal.nD Cert.InKIdeal.τ).loc Cert.InKIdeal.main_arg2)) (m ((c.tc : Thread Cert.InKIdeal.nD Cert.InKIdeal.τ).loc Cert.InKIdeal.main_arg4)) (m ((c.tc : Thread Cert.InKIdeal.nD Cert.InKIdeal.τ).loc Cert.InKIdeal.main_arg5)) (m ((c.tc : Thread Cert.InKIdeal.nD Cert.InKIdeal.τ).loc Cert.InKIdeal.main_arg6)) (m ((c.tc : Thread Cert.InKIdeal.nD Cert.InKIdeal.τ).loc Cert.InKIdeal.main_arg7))
      ∧ r.2.mem ((c.tc : Thread Cert.InKIdeal.nD Cert.InKIdeal.τ).loc Cert.InKIdeal.main_v61_6) = Cert.InRIdeal.Read.val_main_v115 (F := Ideal) (m ((c.tc : Thread Cert.InKIdeal.nD Cert.InKIdeal.τ).loc Cert.InKIdeal.main_arg0)) (m ((c.tc : Thread Cert.InKIdeal.nD Cert.InKIdeal.τ).loc Cert.InKIdeal.main_arg1)) (m ((c.tc : Thread Cert.InKIdeal.nD Cert.InKIdeal.τ).loc Cert.InKIdeal.main_arg2)) (m ((c.tc : Thread Cert.InKIdeal.nD Cert.InKIdeal.τ).loc Cert.InKIdeal.main_arg4)) (m ((c.tc : Thread Cert.InKIdeal.nD Cert.InKIdeal.τ).loc Cert.InKIdeal.main_arg5))
      ∧ r.2.mem ((c.tc : Thread Cert.InKIdeal.nD Cert.InKIdeal.τ).loc Cert.InKIdeal.main_arg0) = m ((c.tc : Thread Cert.InKIdeal.nD Cert.InKIdeal.τ).loc Cert.InKIdeal.main_arg0)
      ∧ r.2.mem ((c.tc : Thread Cert.InKIdeal.nD Cert.InKIdeal.τ).loc Cert.InKIdeal.main_arg1) = m ((c.tc : Thread Cert.InKIdeal.nD Cert.InKIdeal.τ).loc Cert.InKIdeal.main_arg1)
      ∧ r.2.mem ((c.tc : Thread Cert.InKIdeal.nD Cert.InKIdeal.τ).loc Cert.InKIdeal.main_arg2) = m ((c.tc : Thread Cert.InKIdeal.nD Cert.InKIdeal.τ).loc Cert.InKIdeal.main_arg2)
      ∧ r.2.mem ((c.tc : Thread Cert.InKIdeal.nD Cert.InKIdeal.τ).loc Cert.InKIdeal.main_arg3) = m ((c.tc : Thread Cert.InKIdeal.nD Cert.InKIdeal.τ).loc Cert.InKIdeal.main_arg3)
      ∧ r.2.mem ((c.tc : Thread Cert.InKIdeal.nD Cert.InKIdeal.τ).loc Cert.InKIdeal.main_arg4) = m ((c.tc : Thread Cert.InKIdeal.nD Cert.InKIdeal.τ).loc Cert.InKIdeal.main_arg4)
      ∧ r.2.mem ((c.tc : Thread Cert.InKIdeal.nD Cert.InKIdeal.τ).loc Cert.InKIdeal.main_arg5) = m ((c.tc : Thread Cert.InKIdeal.nD Cert.InKIdeal.τ).loc Cert.InKIdeal.main_arg5)
      ∧ r.2.mem ((c.tc : Thread Cert.InKIdeal.nD Cert.InKIdeal.τ).loc Cert.InKIdeal.main_arg6) = m ((c.tc : Thread Cert.InKIdeal.nD Cert.InKIdeal.τ).loc Cert.InKIdeal.main_arg6)
      ∧ r.2.mem ((c.tc : Thread Cert.InKIdeal.nD Cert.InKIdeal.τ).loc Cert.InKIdeal.main_arg7) = m ((c.tc : Thread Cert.InKIdeal.nD Cert.InKIdeal.τ).loc Cert.InKIdeal.main_arg7)) := by
  refine (θ_run Cert.InKIdeal.defs _ _).mono (fun r h c => ?_) (Cert.InKIdeal.Value.run_blocks m g)
  obtain ⟨h0, h1, h2, h3, h4, h5, h6, hargs⟩ := h c
  exact ⟨h0.trans (Cert.InKIdeal.InRows.final10 m c), h1.trans (Cert.InKIdeal.InChunks.final11 m c),
    h2.trans (Cert.InKIdeal.InChunks.final12 m c), h3.trans (Cert.InKIdeal.InChunks.final13 m c),
    h4.trans (Cert.InKIdeal.InRows.final14 m c), h5.trans (Cert.InKIdeal.InRows.final15 m c),
    h6.trans (Cert.InKIdeal.InRows.final16 m c), hargs⟩

/-- The first half's reference leaves its stages' values in its seven results. -/
theorem in_reference_run (m : (ℓ : Loc Cert.InRIdeal.nD Cert.InRIdeal.τ Cert.InRIdeal.sig) → Buf (Elt Ideal) ℓ) (g : Dev Cert.InRIdeal.nD → PrngReg) :
    θ_run (Cert.InRIdeal.defs (F := Ideal)) (onTc (τ := Cert.InRIdeal.τ) (Cert.InRIdeal.main (F := Ideal))) ⟨m, fun _ => 0, g⟩ (fun r => ∀ c : Dev Cert.InRIdeal.nD,
      r.2.mem ((c.tc : Thread Cert.InRIdeal.nD Cert.InRIdeal.τ).loc Cert.InRIdeal.main_v82) = Cert.InRIdeal.Read.val_main_v82 (F := Ideal) (m ((c.tc : Thread Cert.InRIdeal.nD Cert.InRIdeal.τ).loc Cert.InRIdeal.main_arg0)) (m ((c.tc : Thread Cert.InRIdeal.nD Cert.InRIdeal.τ).loc Cert.InRIdeal.main_arg1)) (m ((c.tc : Thread Cert.InRIdeal.nD Cert.InRIdeal.τ).loc Cert.InRIdeal.main_arg2)) (m ((c.tc : Thread Cert.InRIdeal.nD Cert.InRIdeal.τ).loc Cert.InRIdeal.main_arg4)) (m ((c.tc : Thread Cert.InRIdeal.nD Cert.InRIdeal.τ).loc Cert.InRIdeal.main_arg5))
      ∧ r.2.mem ((c.tc : Thread Cert.InRIdeal.nD Cert.InRIdeal.τ).loc Cert.InRIdeal.main_v85) = Cert.InRIdeal.Read.val_main_v85 (F := Ideal) (m ((c.tc : Thread Cert.InRIdeal.nD Cert.InRIdeal.τ).loc Cert.InRIdeal.main_arg0)) (m ((c.tc : Thread Cert.InRIdeal.nD Cert.InRIdeal.τ).loc Cert.InRIdeal.main_arg1)) (m ((c.tc : Thread Cert.InRIdeal.nD Cert.InRIdeal.τ).loc Cert.InRIdeal.main_arg2)) (m ((c.tc : Thread Cert.InRIdeal.nD Cert.InRIdeal.τ).loc Cert.InRIdeal.main_arg4)) (m ((c.tc : Thread Cert.InRIdeal.nD Cert.InRIdeal.τ).loc Cert.InRIdeal.main_arg5))
      ∧ r.2.mem ((c.tc : Thread Cert.InRIdeal.nD Cert.InRIdeal.τ).loc Cert.InRIdeal.main_v88) = Cert.InRIdeal.Read.val_main_v88 (F := Ideal) (m ((c.tc : Thread Cert.InRIdeal.nD Cert.InRIdeal.τ).loc Cert.InRIdeal.main_arg0)) (m ((c.tc : Thread Cert.InRIdeal.nD Cert.InRIdeal.τ).loc Cert.InRIdeal.main_arg1)) (m ((c.tc : Thread Cert.InRIdeal.nD Cert.InRIdeal.τ).loc Cert.InRIdeal.main_arg2)) (m ((c.tc : Thread Cert.InRIdeal.nD Cert.InRIdeal.τ).loc Cert.InRIdeal.main_arg4)) (m ((c.tc : Thread Cert.InRIdeal.nD Cert.InRIdeal.τ).loc Cert.InRIdeal.main_arg5))
      ∧ r.2.mem ((c.tc : Thread Cert.InRIdeal.nD Cert.InRIdeal.τ).loc Cert.InRIdeal.main_v90) = Cert.InRIdeal.Read.val_main_v90 (F := Ideal) (m ((c.tc : Thread Cert.InRIdeal.nD Cert.InRIdeal.τ).loc Cert.InRIdeal.main_arg0)) (m ((c.tc : Thread Cert.InRIdeal.nD Cert.InRIdeal.τ).loc Cert.InRIdeal.main_arg1)) (m ((c.tc : Thread Cert.InRIdeal.nD Cert.InRIdeal.τ).loc Cert.InRIdeal.main_arg2)) (m ((c.tc : Thread Cert.InRIdeal.nD Cert.InRIdeal.τ).loc Cert.InRIdeal.main_arg4)) (m ((c.tc : Thread Cert.InRIdeal.nD Cert.InRIdeal.τ).loc Cert.InRIdeal.main_arg5))
      ∧ r.2.mem ((c.tc : Thread Cert.InRIdeal.nD Cert.InRIdeal.τ).loc Cert.InRIdeal.main_v100) = Cert.InRIdeal.Read.val_main_v100 (F := Ideal) (m ((c.tc : Thread Cert.InRIdeal.nD Cert.InRIdeal.τ).loc Cert.InRIdeal.main_arg0)) (m ((c.tc : Thread Cert.InRIdeal.nD Cert.InRIdeal.τ).loc Cert.InRIdeal.main_arg1)) (m ((c.tc : Thread Cert.InRIdeal.nD Cert.InRIdeal.τ).loc Cert.InRIdeal.main_arg2)) (m ((c.tc : Thread Cert.InRIdeal.nD Cert.InRIdeal.τ).loc Cert.InRIdeal.main_arg3)) (m ((c.tc : Thread Cert.InRIdeal.nD Cert.InRIdeal.τ).loc Cert.InRIdeal.main_arg4)) (m ((c.tc : Thread Cert.InRIdeal.nD Cert.InRIdeal.τ).loc Cert.InRIdeal.main_arg5))
      ∧ r.2.mem ((c.tc : Thread Cert.InRIdeal.nD Cert.InRIdeal.τ).loc Cert.InRIdeal.main_v108) = Cert.InRIdeal.Read.val_main_v108 (F := Ideal) (m ((c.tc : Thread Cert.InRIdeal.nD Cert.InRIdeal.τ).loc Cert.InRIdeal.main_arg0)) (m ((c.tc : Thread Cert.InRIdeal.nD Cert.InRIdeal.τ).loc Cert.InRIdeal.main_arg1)) (m ((c.tc : Thread Cert.InRIdeal.nD Cert.InRIdeal.τ).loc Cert.InRIdeal.main_arg2)) (m ((c.tc : Thread Cert.InRIdeal.nD Cert.InRIdeal.τ).loc Cert.InRIdeal.main_arg4)) (m ((c.tc : Thread Cert.InRIdeal.nD Cert.InRIdeal.τ).loc Cert.InRIdeal.main_arg5)) (m ((c.tc : Thread Cert.InRIdeal.nD Cert.InRIdeal.τ).loc Cert.InRIdeal.main_arg6)) (m ((c.tc : Thread Cert.InRIdeal.nD Cert.InRIdeal.τ).loc Cert.InRIdeal.main_arg7))
      ∧ r.2.mem ((c.tc : Thread Cert.InRIdeal.nD Cert.InRIdeal.τ).loc Cert.InRIdeal.main_v115) = Cert.InRIdeal.Read.val_main_v115 (F := Ideal) (m ((c.tc : Thread Cert.InRIdeal.nD Cert.InRIdeal.τ).loc Cert.InRIdeal.main_arg0)) (m ((c.tc : Thread Cert.InRIdeal.nD Cert.InRIdeal.τ).loc Cert.InRIdeal.main_arg1)) (m ((c.tc : Thread Cert.InRIdeal.nD Cert.InRIdeal.τ).loc Cert.InRIdeal.main_arg2)) (m ((c.tc : Thread Cert.InRIdeal.nD Cert.InRIdeal.τ).loc Cert.InRIdeal.main_arg4)) (m ((c.tc : Thread Cert.InRIdeal.nD Cert.InRIdeal.τ).loc Cert.InRIdeal.main_arg5))
      ∧ r.2.mem ((c.tc : Thread Cert.InRIdeal.nD Cert.InRIdeal.τ).loc Cert.InRIdeal.main_arg0) = m ((c.tc : Thread Cert.InRIdeal.nD Cert.InRIdeal.τ).loc Cert.InRIdeal.main_arg0)
      ∧ r.2.mem ((c.tc : Thread Cert.InRIdeal.nD Cert.InRIdeal.τ).loc Cert.InRIdeal.main_arg1) = m ((c.tc : Thread Cert.InRIdeal.nD Cert.InRIdeal.τ).loc Cert.InRIdeal.main_arg1)
      ∧ r.2.mem ((c.tc : Thread Cert.InRIdeal.nD Cert.InRIdeal.τ).loc Cert.InRIdeal.main_arg2) = m ((c.tc : Thread Cert.InRIdeal.nD Cert.InRIdeal.τ).loc Cert.InRIdeal.main_arg2)
      ∧ r.2.mem ((c.tc : Thread Cert.InRIdeal.nD Cert.InRIdeal.τ).loc Cert.InRIdeal.main_arg3) = m ((c.tc : Thread Cert.InRIdeal.nD Cert.InRIdeal.τ).loc Cert.InRIdeal.main_arg3)
      ∧ r.2.mem ((c.tc : Thread Cert.InRIdeal.nD Cert.InRIdeal.τ).loc Cert.InRIdeal.main_arg4) = m ((c.tc : Thread Cert.InRIdeal.nD Cert.InRIdeal.τ).loc Cert.InRIdeal.main_arg4)
      ∧ r.2.mem ((c.tc : Thread Cert.InRIdeal.nD Cert.InRIdeal.τ).loc Cert.InRIdeal.main_arg5) = m ((c.tc : Thread Cert.InRIdeal.nD Cert.InRIdeal.τ).loc Cert.InRIdeal.main_arg5)
      ∧ r.2.mem ((c.tc : Thread Cert.InRIdeal.nD Cert.InRIdeal.τ).loc Cert.InRIdeal.main_arg6) = m ((c.tc : Thread Cert.InRIdeal.nD Cert.InRIdeal.τ).loc Cert.InRIdeal.main_arg6)
      ∧ r.2.mem ((c.tc : Thread Cert.InRIdeal.nD Cert.InRIdeal.τ).loc Cert.InRIdeal.main_arg7) = m ((c.tc : Thread Cert.InRIdeal.nD Cert.InRIdeal.τ).loc Cert.InRIdeal.main_arg7)) := by
  refine (θ_run Cert.InRIdeal.defs _ _).mono (fun r h c => ?_) (Cert.InRIdeal.Value.run m g)
  obtain ⟨h0, h1, h2, h3, h4, h5, h6, hargs⟩ := h c
  exact ⟨h0.trans (Cert.InRIdeal.Read.val_main_v82_eq _ _ _ _ _), h1.trans (Cert.InRIdeal.Read.val_main_v85_eq _ _ _ _ _), h2.trans (Cert.InRIdeal.Read.val_main_v88_eq _ _ _ _ _), h3.trans (Cert.InRIdeal.Read.val_main_v90_eq m c), h4.trans (Cert.InRIdeal.Read.val_main_v100_eq _ _ _ _ _ _), h5.trans (Cert.InRIdeal.Read.val_main_v108_eq m c), h6.trans (Cert.InRIdeal.Read.val_main_v115_eq _ _ _ _ _), hargs⟩

/-- Each of the first-half kernel's seven results is its reference's. -/
theorem algebraic_InKIdeal_InRIdeal : Cert.algebraic_InKIdeal_InRIdeal := by
  intro m g m' g' _ hagree
  refine ⟨fun c => Cert.InRIdeal.Read.val_main_v82 (F := Ideal) (m ((c.tc : Thread Cert.InKIdeal.nD Cert.InKIdeal.τ).loc Cert.InKIdeal.main_arg0)) (m ((c.tc : Thread Cert.InKIdeal.nD Cert.InKIdeal.τ).loc Cert.InKIdeal.main_arg1)) (m ((c.tc : Thread Cert.InKIdeal.nD Cert.InKIdeal.τ).loc Cert.InKIdeal.main_arg2)) (m ((c.tc : Thread Cert.InKIdeal.nD Cert.InKIdeal.τ).loc Cert.InKIdeal.main_arg4)) (m ((c.tc : Thread Cert.InKIdeal.nD Cert.InKIdeal.τ).loc Cert.InKIdeal.main_arg5)), fun c => Cert.InRIdeal.Read.val_main_v85 (F := Ideal) (m ((c.tc : Thread Cert.InKIdeal.nD Cert.InKIdeal.τ).loc Cert.InKIdeal.main_arg0)) (m ((c.tc : Thread Cert.InKIdeal.nD Cert.InKIdeal.τ).loc Cert.InKIdeal.main_arg1)) (m ((c.tc : Thread Cert.InKIdeal.nD Cert.InKIdeal.τ).loc Cert.InKIdeal.main_arg2)) (m ((c.tc : Thread Cert.InKIdeal.nD Cert.InKIdeal.τ).loc Cert.InKIdeal.main_arg4)) (m ((c.tc : Thread Cert.InKIdeal.nD Cert.InKIdeal.τ).loc Cert.InKIdeal.main_arg5)), fun c => Cert.InRIdeal.Read.val_main_v88 (F := Ideal) (m ((c.tc : Thread Cert.InKIdeal.nD Cert.InKIdeal.τ).loc Cert.InKIdeal.main_arg0)) (m ((c.tc : Thread Cert.InKIdeal.nD Cert.InKIdeal.τ).loc Cert.InKIdeal.main_arg1)) (m ((c.tc : Thread Cert.InKIdeal.nD Cert.InKIdeal.τ).loc Cert.InKIdeal.main_arg2)) (m ((c.tc : Thread Cert.InKIdeal.nD Cert.InKIdeal.τ).loc Cert.InKIdeal.main_arg4)) (m ((c.tc : Thread Cert.InKIdeal.nD Cert.InKIdeal.τ).loc Cert.InKIdeal.main_arg5)), fun c => Cert.InRIdeal.Read.val_main_v90 (F := Ideal) (m ((c.tc : Thread Cert.InKIdeal.nD Cert.InKIdeal.τ).loc Cert.InKIdeal.main_arg0)) (m ((c.tc : Thread Cert.InKIdeal.nD Cert.InKIdeal.τ).loc Cert.InKIdeal.main_arg1)) (m ((c.tc : Thread Cert.InKIdeal.nD Cert.InKIdeal.τ).loc Cert.InKIdeal.main_arg2)) (m ((c.tc : Thread Cert.InKIdeal.nD Cert.InKIdeal.τ).loc Cert.InKIdeal.main_arg4)) (m ((c.tc : Thread Cert.InKIdeal.nD Cert.InKIdeal.τ).loc Cert.InKIdeal.main_arg5)), fun c => Cert.InRIdeal.Read.val_main_v100 (F := Ideal) (m ((c.tc : Thread Cert.InKIdeal.nD Cert.InKIdeal.τ).loc Cert.InKIdeal.main_arg0)) (m ((c.tc : Thread Cert.InKIdeal.nD Cert.InKIdeal.τ).loc Cert.InKIdeal.main_arg1)) (m ((c.tc : Thread Cert.InKIdeal.nD Cert.InKIdeal.τ).loc Cert.InKIdeal.main_arg2)) (m ((c.tc : Thread Cert.InKIdeal.nD Cert.InKIdeal.τ).loc Cert.InKIdeal.main_arg3)) (m ((c.tc : Thread Cert.InKIdeal.nD Cert.InKIdeal.τ).loc Cert.InKIdeal.main_arg4)) (m ((c.tc : Thread Cert.InKIdeal.nD Cert.InKIdeal.τ).loc Cert.InKIdeal.main_arg5)), fun c => Cert.InRIdeal.Read.val_main_v108 (F := Ideal) (m ((c.tc : Thread Cert.InKIdeal.nD Cert.InKIdeal.τ).loc Cert.InKIdeal.main_arg0)) (m ((c.tc : Thread Cert.InKIdeal.nD Cert.InKIdeal.τ).loc Cert.InKIdeal.main_arg1)) (m ((c.tc : Thread Cert.InKIdeal.nD Cert.InKIdeal.τ).loc Cert.InKIdeal.main_arg2)) (m ((c.tc : Thread Cert.InKIdeal.nD Cert.InKIdeal.τ).loc Cert.InKIdeal.main_arg4)) (m ((c.tc : Thread Cert.InKIdeal.nD Cert.InKIdeal.τ).loc Cert.InKIdeal.main_arg5)) (m ((c.tc : Thread Cert.InKIdeal.nD Cert.InKIdeal.τ).loc Cert.InKIdeal.main_arg6)) (m ((c.tc : Thread Cert.InKIdeal.nD Cert.InKIdeal.τ).loc Cert.InKIdeal.main_arg7)), fun c => Cert.InRIdeal.Read.val_main_v115 (F := Ideal) (m ((c.tc : Thread Cert.InKIdeal.nD Cert.InKIdeal.τ).loc Cert.InKIdeal.main_arg0)) (m ((c.tc : Thread Cert.InKIdeal.nD Cert.InKIdeal.τ).loc Cert.InKIdeal.main_arg1)) (m ((c.tc : Thread Cert.InKIdeal.nD Cert.InKIdeal.τ).loc Cert.InKIdeal.main_arg2)) (m ((c.tc : Thread Cert.InKIdeal.nD Cert.InKIdeal.τ).loc Cert.InKIdeal.main_arg4)) (m ((c.tc : Thread Cert.InKIdeal.nD Cert.InKIdeal.τ).loc Cert.InKIdeal.main_arg5)),
    in_kernel_run m g, ?_⟩
  refine (θ_run Cert.InRIdeal.defs _ _).mono (fun r h c => ?_) (in_reference_run m' g')
  obtain ⟨a0, a1, a2, a3, a4, a5, a6, a7⟩ := hagree c
  have hc := h c
  rw [a0, a1, a2, a3, a4, a5, a6, a7] at hc
  rw [a0, a1, a2, a3, a4, a5, a6, a7]
  exact hc

/-- The idealization of the row-major packing rewrites nothing. -/
theorem preserves_WnK_WnKIdeal : Cert.preserves_WnK_WnKIdeal := trivial

/-- The weights packed row-major are the reference's. -/
theorem algebraic_WnKIdeal_WnRIdeal : Cert.algebraic_WnKIdeal_WnRIdeal := by
  pair_intro
  · run_from Cert.WnKIdeal.Gen.run_main m g
  · run_from Cert.WnRIdeal.Value.run m' g'
    refine (Cert.WnRIdeal.Read.val_main_v12_eq _).trans ?_
    rw [hagree c]
    exact (Cert.WnKIdeal.PackNormal.final m c).symm

/-- The idealization of the column-major packing rewrites nothing. -/
theorem preserves_WtK_WtKIdeal : Cert.preserves_WtK_WtKIdeal := trivial

/-- The column-major packing leaves the reference's value of its argument in its result. -/
theorem transposed_run (m : (ℓ : Loc Cert.WtKIdeal.nD Cert.WtKIdeal.τ Cert.WtKIdeal.sig) → Buf (Elt Ideal) ℓ) (g : Dev Cert.WtKIdeal.nD → PrngReg) :
    θ_run (Cert.WtKIdeal.defs (F := Ideal)) (onTc (τ := Cert.WtKIdeal.τ) (Cert.WtKIdeal.main (F := Ideal))) ⟨m, fun _ => 0, g⟩ (fun r => ∀ c : Dev Cert.WtKIdeal.nD,
      r.2.mem ((c.tc : Thread Cert.WtKIdeal.nD Cert.WtKIdeal.τ).loc Cert.WtKIdeal.main_v18) = Cert.WtRIdeal.Read.val_main_v14 (F := Ideal) (m ((c.tc : Thread Cert.WtKIdeal.nD Cert.WtKIdeal.τ).loc Cert.WtKIdeal.main_arg0))
      ∧ r.2.mem ((c.tc : Thread Cert.WtKIdeal.nD Cert.WtKIdeal.τ).loc Cert.WtKIdeal.main_arg0) = m ((c.tc : Thread Cert.WtKIdeal.nD Cert.WtKIdeal.τ).loc Cert.WtKIdeal.main_arg0)) := by
  refine (θ_run Cert.WtKIdeal.defs _ _).mono (fun r h c => ⟨?_, ?_⟩) (Cert.WtKIdeal.Gen.run_main m g (Cert.WtKIdeal.PackTransposed.ok m))
  · exact ((h c).1 2).trans (Cert.WtKIdeal.PackTransposed.final m c)
  · exact ((h c).2 Cert.WtKIdeal.main_arg0 (by decide : Cert.WtKIdeal.main_arg0 ∈ Pipeline.restRefs Cert.WtKIdeal.sig Cert.WtKIdeal.spec0)).trans (Cert.WtKIdeal.Gen.V_main_arg0 m c)

/-- The weights packed column-major are the reference's. -/
theorem algebraic_WtKIdeal_WtRIdeal : Cert.algebraic_WtKIdeal_WtRIdeal := by
  intro m g m' g' _ hagree
  refine ⟨fun c => Cert.WtRIdeal.Read.val_main_v14 (F := Ideal) (m ((c.tc : Thread Cert.WtKIdeal.nD Cert.WtKIdeal.τ).loc Cert.WtKIdeal.main_arg0)), transposed_run m g, ?_⟩
  refine (θ_run Cert.WtRIdeal.defs _ _).mono (fun r h c => ?_) (Cert.WtRIdeal.Value.run m' g')
  refine ⟨((h c).1.trans (Cert.WtRIdeal.Read.val_main_v14_eq _)).trans ?_, (h c).2⟩
  rw [hagree c]

/-- The idealization of the modulation call rewrites nothing. -/
theorem preserves_AdK_AdKIdeal : Cert.preserves_AdK_AdKIdeal := trivial

/-- The modulation vectors are the reference's where the conditioning vectors and the weights are finite. -/
theorem algebraic_AdKIdeal_AdRIdeal : Cert.algebraic_AdKIdeal_AdRIdeal_pre_finite_vectors_and_weights := by
  pair_intro
  · run_from Cert.AdKIdeal.Gen.run_main m g
  · run_from Cert.AdRIdeal.Value.run m' g'
    refine (Cert.AdRIdeal.Read.val_main_v6_eq _ _ _ _).trans ?_
    exact (Cert.AdKIdeal.Modulation.final m c (hpre c)).symm

/-- The idealization of the starting-state call rewrites nothing. -/
theorem preserves_CxK_CxKIdeal : Cert.preserves_CxK_CxKIdeal := trivial

/-- The starting-state kernel leaves the reference's values of its arguments in its two results where no gate is minus infinity. -/
theorem context_kernel_run (m : (ℓ : Loc Cert.CxKIdeal.nD Cert.CxKIdeal.τ Cert.CxKIdeal.sig) → Buf (Elt Ideal) ℓ) (g : Dev Cert.CxKIdeal.nD → PrngReg)
    (hpre : ∀ c : Dev Cert.CxKIdeal.nD, Cert.Pre_gates_above_minus_infinity.fn (F := Ideal) (m ((c.tc : Thread Cert.CxKIdeal.nD Cert.CxKIdeal.τ).loc Cert.CxKIdeal.main_arg0)) (m ((c.tc : Thread Cert.CxKIdeal.nD Cert.CxKIdeal.τ).loc Cert.CxKIdeal.main_arg1)) (m ((c.tc : Thread Cert.CxKIdeal.nD Cert.CxKIdeal.τ).loc Cert.CxKIdeal.main_arg2)) (m ((c.tc : Thread Cert.CxKIdeal.nD Cert.CxKIdeal.τ).loc Cert.CxKIdeal.main_arg3)) (m ((c.tc : Thread Cert.CxKIdeal.nD Cert.CxKIdeal.τ).loc Cert.CxKIdeal.main_arg4)) (m ((c.tc : Thread Cert.CxKIdeal.nD Cert.CxKIdeal.τ).loc Cert.CxKIdeal.main_arg5)) (m ((c.tc : Thread Cert.CxKIdeal.nD Cert.CxKIdeal.τ).loc Cert.CxKIdeal.main_arg6)) = fun _ => 1#1) :
    θ_run (Cert.CxKIdeal.defs (F := Ideal)) (onTc (τ := Cert.CxKIdeal.τ) (Cert.CxKIdeal.main (F := Ideal))) ⟨m, fun _ => 0, g⟩ (fun r => ∀ c : Dev Cert.CxKIdeal.nD,
      r.2.mem ((c.tc : Thread Cert.CxKIdeal.nD Cert.CxKIdeal.τ).loc Cert.CxKIdeal.main_v1_0) = Cert.CxRIdeal.Read.val_main_v112 (F := Ideal) (m ((c.tc : Thread Cert.CxKIdeal.nD Cert.CxKIdeal.τ).loc Cert.CxKIdeal.main_arg0)) (m ((c.tc : Thread Cert.CxKIdeal.nD Cert.CxKIdeal.τ).loc Cert.CxKIdeal.main_arg1)) (m ((c.tc : Thread Cert.CxKIdeal.nD Cert.CxKIdeal.τ).loc Cert.CxKIdeal.main_arg2)) (m ((c.tc : Thread Cert.CxKIdeal.nD Cert.CxKIdeal.τ).loc Cert.CxKIdeal.main_arg3)) (m ((c.tc : Thread Cert.CxKIdeal.nD Cert.CxKIdeal.τ).loc Cert.CxKIdeal.main_arg4)) (m ((c.tc : Thread Cert.CxKIdeal.nD Cert.CxKIdeal.τ).loc Cert.CxKIdeal.main_arg5)) (m ((c.tc : Thread Cert.CxKIdeal.nD Cert.CxKIdeal.τ).loc Cert.CxKIdeal.main_arg6))
      ∧ r.2.mem ((c.tc : Thread Cert.CxKIdeal.nD Cert.CxKIdeal.τ).loc Cert.CxKIdeal.main_v1_1) = Cert.CxRIdeal.Read.val_main_v87 (F := Ideal) (m ((c.tc : Thread Cert.CxKIdeal.nD Cert.CxKIdeal.τ).loc Cert.CxKIdeal.main_arg0)) (m ((c.tc : Thread Cert.CxKIdeal.nD Cert.CxKIdeal.τ).loc Cert.CxKIdeal.main_arg1)) (m ((c.tc : Thread Cert.CxKIdeal.nD Cert.CxKIdeal.τ).loc Cert.CxKIdeal.main_arg2)) (m ((c.tc : Thread Cert.CxKIdeal.nD Cert.CxKIdeal.τ).loc Cert.CxKIdeal.main_arg5)) (m ((c.tc : Thread Cert.CxKIdeal.nD Cert.CxKIdeal.τ).loc Cert.CxKIdeal.main_arg6))
      ∧ r.2.mem ((c.tc : Thread Cert.CxKIdeal.nD Cert.CxKIdeal.τ).loc Cert.CxKIdeal.main_arg0) = m ((c.tc : Thread Cert.CxKIdeal.nD Cert.CxKIdeal.τ).loc Cert.CxKIdeal.main_arg0)
      ∧ r.2.mem ((c.tc : Thread Cert.CxKIdeal.nD Cert.CxKIdeal.τ).loc Cert.CxKIdeal.main_arg1) = m ((c.tc : Thread Cert.CxKIdeal.nD Cert.CxKIdeal.τ).loc Cert.CxKIdeal.main_arg1)
      ∧ r.2.mem ((c.tc : Thread Cert.CxKIdeal.nD Cert.CxKIdeal.τ).loc Cert.CxKIdeal.main_arg2) = m ((c.tc : Thread Cert.CxKIdeal.nD Cert.CxKIdeal.τ).loc Cert.CxKIdeal.main_arg2)
      ∧ r.2.mem ((c.tc : Thread Cert.CxKIdeal.nD Cert.CxKIdeal.τ).loc Cert.CxKIdeal.main_arg3) = m ((c.tc : Thread Cert.CxKIdeal.nD Cert.CxKIdeal.τ).loc Cert.CxKIdeal.main_arg3)
      ∧ r.2.mem ((c.tc : Thread Cert.CxKIdeal.nD Cert.CxKIdeal.τ).loc Cert.CxKIdeal.main_arg4) = m ((c.tc : Thread Cert.CxKIdeal.nD Cert.CxKIdeal.τ).loc Cert.CxKIdeal.main_arg4)
      ∧ r.2.mem ((c.tc : Thread Cert.CxKIdeal.nD Cert.CxKIdeal.τ).loc Cert.CxKIdeal.main_arg5) = m ((c.tc : Thread Cert.CxKIdeal.nD Cert.CxKIdeal.τ).loc Cert.CxKIdeal.main_arg5)
      ∧ r.2.mem ((c.tc : Thread Cert.CxKIdeal.nD Cert.CxKIdeal.τ).loc Cert.CxKIdeal.main_arg6) = m ((c.tc : Thread Cert.CxKIdeal.nD Cert.CxKIdeal.τ).loc Cert.CxKIdeal.main_arg6)) := by
  refine (θ_run Cert.CxKIdeal.defs _ _).mono (fun r h c => ?_) (Cert.CxKIdeal.Value.run_blocks m g)
  obtain ⟨h0, h1, hargs⟩ := h c
  exact ⟨h0.trans (Cert.CxKIdeal.State.final9 m c (Cert.CxKIdeal.State.gates_above _ _ _ _ _ _ _ (hpre c))),
    h1.trans (Cert.CxKIdeal.State.final10 m c (Cert.CxKIdeal.State.gates_above _ _ _ _ _ _ _ (hpre c))), hargs⟩

/-- Its reference leaves its stages' values in its two results. -/
theorem context_reference_run (m : (ℓ : Loc Cert.CxRIdeal.nD Cert.CxRIdeal.τ Cert.CxRIdeal.sig) → Buf (Elt Ideal) ℓ) (g : Dev Cert.CxRIdeal.nD → PrngReg) :
    θ_run (Cert.CxRIdeal.defs (F := Ideal)) (onTc (τ := Cert.CxRIdeal.τ) (Cert.CxRIdeal.main (F := Ideal))) ⟨m, fun _ => 0, g⟩ (fun r => ∀ c : Dev Cert.CxRIdeal.nD,
      r.2.mem ((c.tc : Thread Cert.CxRIdeal.nD Cert.CxRIdeal.τ).loc Cert.CxRIdeal.main_v112) = Cert.CxRIdeal.Read.val_main_v112 (F := Ideal) (m ((c.tc : Thread Cert.CxRIdeal.nD Cert.CxRIdeal.τ).loc Cert.CxRIdeal.main_arg0)) (m ((c.tc : Thread Cert.CxRIdeal.nD Cert.CxRIdeal.τ).loc Cert.CxRIdeal.main_arg1)) (m ((c.tc : Thread Cert.CxRIdeal.nD Cert.CxRIdeal.τ).loc Cert.CxRIdeal.main_arg2)) (m ((c.tc : Thread Cert.CxRIdeal.nD Cert.CxRIdeal.τ).loc Cert.CxRIdeal.main_arg3)) (m ((c.tc : Thread Cert.CxRIdeal.nD Cert.CxRIdeal.τ).loc Cert.CxRIdeal.main_arg4)) (m ((c.tc : Thread Cert.CxRIdeal.nD Cert.CxRIdeal.τ).loc Cert.CxRIdeal.main_arg5)) (m ((c.tc : Thread Cert.CxRIdeal.nD Cert.CxRIdeal.τ).loc Cert.CxRIdeal.main_arg6))
      ∧ r.2.mem ((c.tc : Thread Cert.CxRIdeal.nD Cert.CxRIdeal.τ).loc Cert.CxRIdeal.main_v87) = Cert.CxRIdeal.Read.val_main_v87 (F := Ideal) (m ((c.tc : Thread Cert.CxRIdeal.nD Cert.CxRIdeal.τ).loc Cert.CxRIdeal.main_arg0)) (m ((c.tc : Thread Cert.CxRIdeal.nD Cert.CxRIdeal.τ).loc Cert.CxRIdeal.main_arg1)) (m ((c.tc : Thread Cert.CxRIdeal.nD Cert.CxRIdeal.τ).loc Cert.CxRIdeal.main_arg2)) (m ((c.tc : Thread Cert.CxRIdeal.nD Cert.CxRIdeal.τ).loc Cert.CxRIdeal.main_arg5)) (m ((c.tc : Thread Cert.CxRIdeal.nD Cert.CxRIdeal.τ).loc Cert.CxRIdeal.main_arg6))
      ∧ r.2.mem ((c.tc : Thread Cert.CxRIdeal.nD Cert.CxRIdeal.τ).loc Cert.CxRIdeal.main_arg0) = m ((c.tc : Thread Cert.CxRIdeal.nD Cert.CxRIdeal.τ).loc Cert.CxRIdeal.main_arg0)
      ∧ r.2.mem ((c.tc : Thread Cert.CxRIdeal.nD Cert.CxRIdeal.τ).loc Cert.CxRIdeal.main_arg1) = m ((c.tc : Thread Cert.CxRIdeal.nD Cert.CxRIdeal.τ).loc Cert.CxRIdeal.main_arg1)
      ∧ r.2.mem ((c.tc : Thread Cert.CxRIdeal.nD Cert.CxRIdeal.τ).loc Cert.CxRIdeal.main_arg2) = m ((c.tc : Thread Cert.CxRIdeal.nD Cert.CxRIdeal.τ).loc Cert.CxRIdeal.main_arg2)
      ∧ r.2.mem ((c.tc : Thread Cert.CxRIdeal.nD Cert.CxRIdeal.τ).loc Cert.CxRIdeal.main_arg3) = m ((c.tc : Thread Cert.CxRIdeal.nD Cert.CxRIdeal.τ).loc Cert.CxRIdeal.main_arg3)
      ∧ r.2.mem ((c.tc : Thread Cert.CxRIdeal.nD Cert.CxRIdeal.τ).loc Cert.CxRIdeal.main_arg4) = m ((c.tc : Thread Cert.CxRIdeal.nD Cert.CxRIdeal.τ).loc Cert.CxRIdeal.main_arg4)
      ∧ r.2.mem ((c.tc : Thread Cert.CxRIdeal.nD Cert.CxRIdeal.τ).loc Cert.CxRIdeal.main_arg5) = m ((c.tc : Thread Cert.CxRIdeal.nD Cert.CxRIdeal.τ).loc Cert.CxRIdeal.main_arg5)
      ∧ r.2.mem ((c.tc : Thread Cert.CxRIdeal.nD Cert.CxRIdeal.τ).loc Cert.CxRIdeal.main_arg6) = m ((c.tc : Thread Cert.CxRIdeal.nD Cert.CxRIdeal.τ).loc Cert.CxRIdeal.main_arg6)) := by
  refine (θ_run Cert.CxRIdeal.defs _ _).mono (fun r h c => ?_) (Cert.CxRIdeal.Value.run m g)
  obtain ⟨h0, h1, hargs⟩ := h c
  exact ⟨h0.trans (Cert.CxRIdeal.Read.val_main_v112_eq m c), h1.trans (Cert.CxRIdeal.Read.val_main_v87_eq m c), hargs⟩

/-- The mLSTM's starting states and their scales are the reference's where no gate is minus infinity. -/
theorem algebraic_CxKIdeal_CxRIdeal : Cert.algebraic_CxKIdeal_CxRIdeal_pre_gates_above_minus_infinity := by
  intro m g m' g' hpre hagree
  refine ⟨fun c => Cert.CxRIdeal.Read.val_main_v112 (F := Ideal) (m ((c.tc : Thread Cert.CxKIdeal.nD Cert.CxKIdeal.τ).loc Cert.CxKIdeal.main_arg0)) (m ((c.tc : Thread Cert.CxKIdeal.nD Cert.CxKIdeal.τ).loc Cert.CxKIdeal.main_arg1)) (m ((c.tc : Thread Cert.CxKIdeal.nD Cert.CxKIdeal.τ).loc Cert.CxKIdeal.main_arg2)) (m ((c.tc : Thread Cert.CxKIdeal.nD Cert.CxKIdeal.τ).loc Cert.CxKIdeal.main_arg3)) (m ((c.tc : Thread Cert.CxKIdeal.nD Cert.CxKIdeal.τ).loc Cert.CxKIdeal.main_arg4)) (m ((c.tc : Thread Cert.CxKIdeal.nD Cert.CxKIdeal.τ).loc Cert.CxKIdeal.main_arg5)) (m ((c.tc : Thread Cert.CxKIdeal.nD Cert.CxKIdeal.τ).loc Cert.CxKIdeal.main_arg6)),
    fun c => Cert.CxRIdeal.Read.val_main_v87 (F := Ideal) (m ((c.tc : Thread Cert.CxKIdeal.nD Cert.CxKIdeal.τ).loc Cert.CxKIdeal.main_arg0)) (m ((c.tc : Thread Cert.CxKIdeal.nD Cert.CxKIdeal.τ).loc Cert.CxKIdeal.main_arg1)) (m ((c.tc : Thread Cert.CxKIdeal.nD Cert.CxKIdeal.τ).loc Cert.CxKIdeal.main_arg2)) (m ((c.tc : Thread Cert.CxKIdeal.nD Cert.CxKIdeal.τ).loc Cert.CxKIdeal.main_arg5)) (m ((c.tc : Thread Cert.CxKIdeal.nD Cert.CxKIdeal.τ).loc Cert.CxKIdeal.main_arg6)),
    context_kernel_run m g hpre, ?_⟩
  refine (θ_run Cert.CxRIdeal.defs _ _).mono (fun r h c => ?_) (context_reference_run m' g')
  obtain ⟨a0, a1, a2, a3, a4, a5, a6⟩ := hagree c
  have hc := h c
  rw [a0, a1, a2, a3, a4, a5, a6] at hc
  rw [a0, a1, a2, a3, a4, a5, a6]
  exact hc

/-- Every claim of the statement. -/
theorem claim : Cert.Claim :=
  ⟨Cert.OutK.Gen.facts, Cert.OutKIdeal.Gen.facts, Cert.OutRIdeal.Gen.facts, Cert.InK.Gen.facts, Cert.InKIdeal.Gen.facts, Cert.InRIdeal.Gen.facts,
   Cert.WnK.Gen.facts, Cert.WnKIdeal.Gen.facts, Cert.WnRIdeal.Gen.facts, Cert.WtK.Gen.facts, Cert.WtKIdeal.Gen.facts, Cert.WtRIdeal.Gen.facts,
   Cert.AdK.Gen.facts, Cert.AdKIdeal.Gen.facts, Cert.AdRIdeal.Gen.facts, Cert.CxK.Gen.facts, Cert.CxKIdeal.Gen.facts, Cert.CxRIdeal.Gen.facts,
   Cert.AdKIdeal.Modulation.preFacts, Cert.Pre_gates_above_minus_infinity.Gen.facts,
   quiescent_OutK,
   quiescent_OutKIdeal,
   quiescent_OutRIdeal,
   quiescent_InK,
   quiescent_InKIdeal,
   quiescent_InRIdeal,
   quiescent_WnK,
   quiescent_WnKIdeal,
   quiescent_WnRIdeal,
   quiescent_WtK,
   quiescent_WtKIdeal,
   quiescent_WtRIdeal,
   quiescent_AdK,
   quiescent_AdKIdeal,
   fun m g _ => quiescent_AdKIdeal m g trivial,
   quiescent_AdRIdeal,
   fun m g _ => quiescent_AdRIdeal m g trivial,
   quiescent_CxK,
   quiescent_CxKIdeal,
   fun m g _ => quiescent_CxKIdeal m g trivial,
   quiescent_CxRIdeal,
   fun m g _ => quiescent_CxRIdeal m g trivial,
   preserves_OutK_OutKIdeal,
   algebraic_OutKIdeal_OutRIdeal,
   preserves_InK_InKIdeal,
   algebraic_InKIdeal_InRIdeal,
   preserves_WnK_WnKIdeal,
   algebraic_WnKIdeal_WnRIdeal,
   preserves_WtK_WtKIdeal,
   algebraic_WtKIdeal_WtRIdeal,
   preserves_AdK_AdKIdeal,
   algebraic_AdKIdeal_AdRIdeal,
   preserves_CxK_CxKIdeal,
   algebraic_CxKIdeal_CxRIdeal⟩

end Cert.Proof

end
